-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v271)) (v1 : (c : Dev Cert.KernelIdeal.nD) → Buf (Elt Ideal) ((c.tc : Thread Cert.KernelIdeal.nD Cert.KernelIdeal.τ).loc Cert.KernelIdeal.main_v272)) (v2 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v271) = v0 c
          ∧ r.2.mem ((c.tc : Thread Cert.KernelIdeal.nD Cert.KernelIdeal.τ).loc Cert.KernelIdeal.main_v272) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x3x224x224 : Shape := ⟨4, ![8, 3, 224, 224]⟩
abbrev S96x3x4x4 : Shape := ⟨4, ![96, 3, 4, 4]⟩
abbrev S192x96x4x4 : Shape := ⟨4, ![192, 96, 4, 4]⟩
abbrev S64x192x4x4 : Shape := ⟨4, ![64, 192, 4, 4]⟩
abbrev S192x64x4x4 : Shape := ⟨4, ![192, 64, 4, 4]⟩
abbrev S96x192x4x4 : Shape := ⟨4, ![96, 192, 4, 4]⟩
abbrev S3x96x4x4 : Shape := ⟨4, ![3, 96, 4, 4]⟩
abbrev S1024x64 : Shape := ⟨2, ![1024, 64]⟩
abbrev S_ : Shape := ⟨0, ![]⟩

class Facts : Prop where
  bcast_S_S8x3x224x224 : S_.BroadcastsInDim S8x3x224x224 (![] : Fin 0 → Fin S8x3x224x224.rank)
  bcast_S_S96x3x4x4 : S_.BroadcastsInDim S96x3x4x4 (![] : Fin 0 → Fin S96x3x4x4.rank)
  bcast_S_S192x96x4x4 : S_.BroadcastsInDim S192x96x4x4 (![] : Fin 0 → Fin S192x96x4x4.rank)
  bcast_S_S64x192x4x4 : S_.BroadcastsInDim S64x192x4x4 (![] : Fin 0 → Fin S64x192x4x4.rank)
  bcast_S_S192x64x4x4 : S_.BroadcastsInDim S192x64x4x4 (![] : Fin 0 → Fin S192x64x4x4.rank)
  bcast_S_S96x192x4x4 : S_.BroadcastsInDim S96x192x4x4 (![] : Fin 0 → Fin S96x192x4x4.rank)
  bcast_S_S3x96x4x4 : S_.BroadcastsInDim S3x96x4x4 (![] : Fin 0 → Fin S3x96x4x4.rank)
  bcast_S_S1024x64 : S_.BroadcastsInDim S1024x64 (![] : Fin 0 → Fin S1024x64.rank)

variable [Facts]

def fn_part1 {F : FTy → Type} [FloatOps F] (main_arg6 : FVec F S3x96x4x4 .f32) (main_arg7 : FVec F S1024x64 .f32) (main_v2 : IVec S8x3x224x224 1) (main_v5 : IVec S96x3x4x4 1) (main_v8 : IVec S192x96x4x4 1) (main_v11 : IVec S64x192x4x4 1) (main_v14 : IVec S192x64x4x4 1) (main_v17 : IVec S96x192x4x4 1) : IVec S8x3x224x224 1 × IVec S96x3x4x4 1 × IVec S192x96x4x4 1 × IVec S64x192x4x4 1 × IVec S192x64x4x4 1 × IVec S96x192x4x4 1 × IVec S3x96x4x4 1 × IVec S1024x64 1 :=
  let main_v18 : FVec F S3x96x4x4 .f32 := Host.absf main_arg6
  let main_cst_5 : FVec F S_ .f32 := constant S_ .f32 0x7F800000#32
  let main_v19 : FVec F S3x96x4x4 .f32 := broadcastInDim S3x96x4x4 ![] bcast_S_S3x96x4x4 main_cst_5
  let main_v20 : IVec S3x96x4x4 1 := cmpf .olt main_v18 main_v19
  let main_v21 : FVec F S1024x64 .f32 := Host.absf main_arg7
  let main_cst_6 : FVec F S_ .f32 := constant S_ .f32 0x7F800000#32
  let main_v22 : FVec F S1024x64 .f32 := broadcastInDim S1024x64 ![] bcast_S_S1024x64 main_cst_6
  let main_v23 : IVec S1024x64 1 := cmpf .olt main_v21 main_v22
  (main_v2, main_v5, main_v8, main_v11, main_v14, main_v17, main_v20, main_v23)

def fn {F : FTy → Type} [FloatOps F] (main_arg0 : FVec F S8x3x224x224 .f32) (main_arg1 : FVec F S96x3x4x4 .f32) (main_arg2 : FVec F S192x96x4x4 .f32) (main_arg3 : FVec F S64x192x4x4 .f32) (main_arg4 : FVec F S192x64x4x4 .f32) (main_arg5 : FVec F S96x192x4x4 .f32) (main_arg6 : FVec F S3x96x4x4 .f32) (main_arg7 : FVec F S1024x64 .f32) : IVec S8x3x224x224 1 × IVec S96x3x4x4 1 × IVec S192x96x4x4 1 × IVec S64x192x4x4 1 × IVec S192x64x4x4 1 × IVec S96x192x4x4 1 × IVec S3x96x4x4 1 × IVec S1024x64 1 :=
  let main_v0 : FVec F S8x3x224x224 .f32 := Host.absf main_arg0
  let main_cst : FVec F S_ .f32 := constant S_ .f32 0x7F800000#32
  let main_v1 : FVec F S8x3x224x224 .f32 := broadcastInDim S8x3x224x224 ![] bcast_S_S8x3x224x224 main_cst
  let main_v2 : IVec S8x3x224x224 1 := cmpf .olt main_v0 main_v1
  let main_v3 : FVec F S96x3x4x4 .f32 := Host.absf main_arg1
  let main_cst_0 : FVec F S_ .f32 := constant S_ .f32 0x7F800000#32
  let main_v4 : FVec F S96x3x4x4 .f32 := broadcastInDim S96x3x4x4 ![] bcast_S_S96x3x4x4 main_cst_0
  let main_v5 : IVec S96x3x4x4 1 := cmpf .olt main_v3 main_v4
  let main_v6 : FVec F S192x96x4x4 .f32 := Host.absf main_arg2
  let main_cst_1 : FVec F S_ .f32 := constant S_ .f32 0x7F800000#32
  let main_v7 : FVec F S192x96x4x4 .f32 := broadcastInDim S192x96x4x4 ![] bcast_S_S192x96x4x4 main_cst_1
  let main_v8 : IVec S192x96x4x4 1 := cmpf .olt main_v6 main_v7
  let main_v9 : FVec F S64x192x4x4 .f32 := Host.absf main_arg3
  let main_cst_2 : FVec F S_ .f32 := constant S_ .f32 0x7F800000#32
  let main_v10 : FVec F S64x192x4x4 .f32 := broadcastInDim S64x192x4x4 ![] bcast_S_S64x192x4x4 main_cst_2
  let main_v11 : IVec S64x192x4x4 1 := cmpf .olt main_v9 main_v10
  let main_v12 : FVec F S192x64x4x4 .f32 := Host.absf main_arg4
  let main_cst_3 : FVec F S_ .f32 := constant S_ .f32 0x7F800000#32
  let main_v13 : FVec F S192x64x4x4 .f32 := broadcastInDim S192x64x4x4 ![] bcast_S_S192x64x4x4 main_cst_3
  let main_v14 : IVec S192x64x4x4 1 := cmpf .olt main_v12 main_v13
  let main_v15 : FVec F S96x192x4x4 .f32 := Host.absf main_arg5
  let main_cst_4 : FVec F S_ .f32 := constant S_ .f32 0x7F800000#32
  let main_v16 : FVec F S96x192x4x4 .f32 := broadcastInDim S96x192x4x4 ![] bcast_S_S96x192x4x4 main_cst_4
  let main_v17 : IVec S96x192x4x4 1 := cmpf .olt main_v15 main_v16
  fn_part1 (F := F) main_arg6 main_arg7 main_v2 main_v5 main_v8 main_v11 main_v14 main_v17
-- ==== Kernel.lean ====
abbrev S8x3x224x224 : Shape := ⟨4, ![8, 3, 224, 224]⟩
abbrev S96x3x4x4 : Shape := ⟨4, ![96, 3, 4, 4]⟩
abbrev S192x96x4x4 : Shape := ⟨4, ![192, 96, 4, 4]⟩
abbrev S64x192x4x4 : Shape := ⟨4, ![64, 192, 4, 4]⟩
abbrev S192x64x4x4 : Shape := ⟨4, ![192, 64, 4, 4]⟩
abbrev S96x192x4x4 : Shape := ⟨4, ![96, 192, 4, 4]⟩
abbrev S3x96x4x4 : Shape := ⟨4, ![3, 96, 4, 4]⟩
abbrev S1024x64 : Shape := ⟨2, ![1024, 64]⟩
abbrev S8x224x224x3 : Shape := ⟨4, ![8, 224, 224, 3]⟩
abbrev S_ : Shape := ⟨0, ![]⟩
abbrev S8x226x226x3 : Shape := ⟨4, ![8, 226, 226, 3]⟩
abbrev S8x113x2x113x2x3 : Shape := ⟨6, ![8, 113, 2, 113, 2, 3]⟩
abbrev S8x113x113x2x2x3 : Shape := ⟨6, ![8, 113, 113, 2, 2, 3]⟩
abbrev S8x113x113x12 : Shape := ⟨4, ![8, 113, 113, 12]⟩
abbrev S4x4x3x96 : Shape := ⟨4, ![4, 4, 3, 96]⟩
abbrev S2x2x3x96 : Shape := ⟨4, ![2, 2, 3, 96]⟩
abbrev S12x96 : Shape := ⟨2, ![12, 96]⟩
abbrev S1x12x96 : Shape := ⟨3, ![1, 12, 96]⟩
abbrev S4x12x96 : Shape := ⟨3, ![4, 12, 96]⟩
abbrev S8x112x112x96 : Shape := ⟨4, ![8, 112, 112, 96]⟩
abbrev S1x113x113x12 : Shape := ⟨4, ![1, 113, 113, 12]⟩
abbrev S1x112x112x96 : Shape := ⟨4, ![1, 112, 112, 96]⟩
abbrev S1x112x112x12 : Shape := ⟨4, ![1, 112, 112, 12]⟩
abbrev S112x112x12 : Shape := ⟨3, ![112, 112, 12]⟩
abbrev S12544x12 : Shape := ⟨2, ![12544, 12]⟩
abbrev S12544x96 : Shape := ⟨2, ![12544, 96]⟩
abbrev S112x112x96 : Shape := ⟨3, ![112, 112, 96]⟩
abbrev S8x114x114x96 : Shape := ⟨4, ![8, 114, 114, 96]⟩
abbrev S8x57x2x57x2x96 : Shape := ⟨6, ![8, 57, 2, 57, 2, 96]⟩
abbrev S8x57x57x2x2x96 : Shape := ⟨6, ![8, 57, 57, 2, 2, 96]⟩
abbrev S8x57x57x384 : Shape := ⟨4, ![8, 57, 57, 384]⟩
abbrev S4x4x96x192 : Shape := ⟨4, ![4, 4, 96, 192]⟩
abbrev S2x2x96x192 : Shape := ⟨4, ![2, 2, 96, 192]⟩
abbrev S384x192 : Shape := ⟨2, ![384, 192]⟩
abbrev S1x384x192 : Shape := ⟨3, ![1, 384, 192]⟩
abbrev S4x384x192 : Shape := ⟨3, ![4, 384, 192]⟩
abbrev S8x56x56x192 : Shape := ⟨4, ![8, 56, 56, 192]⟩
abbrev S1x57x57x384 : Shape := ⟨4, ![1, 57, 57, 384]⟩
abbrev S1x56x56x192 : Shape := ⟨4, ![1, 56, 56, 192]⟩
abbrev S1x56x56x384 : Shape := ⟨4, ![1, 56, 56, 384]⟩
abbrev S56x56x384 : Shape := ⟨3, ![56, 56, 384]⟩
abbrev S3136x384 : Shape := ⟨2, ![3136, 384]⟩
abbrev S3136x192 : Shape := ⟨2, ![3136, 192]⟩
abbrev S56x56x192 : Shape := ⟨3, ![56, 56, 192]⟩
abbrev S8x58x58x192 : Shape := ⟨4, ![8, 58, 58, 192]⟩
abbrev S8x29x2x29x2x192 : Shape := ⟨6, ![8, 29, 2, 29, 2, 192]⟩
abbrev S8x29x29x2x2x192 : Shape := ⟨6, ![8, 29, 29, 2, 2, 192]⟩
abbrev S8x29x29x768 : Shape := ⟨4, ![8, 29, 29, 768]⟩
abbrev S8x29x40x768 : Shape := ⟨4, ![8, 29, 40, 768]⟩
abbrev S4x4x192x64 : Shape := ⟨4, ![4, 4, 192, 64]⟩
abbrev S2x2x192x64 : Shape := ⟨4, ![2, 2, 192, 64]⟩
abbrev S768x64 : Shape := ⟨2, ![768, 64]⟩
abbrev S1x768x64 : Shape := ⟨3, ![1, 768, 64]⟩
abbrev S4x768x64 : Shape := ⟨3, ![4, 768, 64]⟩
abbrev S8x28x32x64 : Shape := ⟨4, ![8, 28, 32, 64]⟩
abbrev S1x29x40x768 : Shape := ⟨4, ![1, 29, 40, 768]⟩
abbrev S1x28x32x64 : Shape := ⟨4, ![1, 28, 32, 64]⟩
abbrev S1x28x32x768 : Shape := ⟨4, ![1, 28, 32, 768]⟩
abbrev S28x32x768 : Shape := ⟨3, ![28, 32, 768]⟩
abbrev S896x768 : Shape := ⟨2, ![896, 768]⟩
abbrev S896x64 : Shape := ⟨2, ![896, 64]⟩
abbrev S28x32x64 : Shape := ⟨3, ![28, 32, 64]⟩
abbrev S8x28x28x64 : Shape := ⟨4, ![8, 28, 28, 64]⟩
abbrev S6272x64 : Shape := ⟨2, ![6272, 64]⟩
abbrev S64x1024 : Shape := ⟨2, ![64, 1024]⟩
abbrev S1x1 : Shape := ⟨2, ![1, 1]⟩
abbrev S784x64 : Shape := ⟨2, ![784, 64]⟩
abbrev S1024 : Shape := ⟨1, ![1024]⟩
abbrev S1x1024 : Shape := ⟨2, ![1, 1024]⟩
abbrev S784x1024 : Shape := ⟨2, ![784, 1024]⟩
abbrev S784 : Shape := ⟨1, ![784]⟩
abbrev S784x1 : Shape := ⟨2, ![784, 1]⟩
abbrev S1x784x64 : Shape := ⟨3, ![1, 784, 64]⟩
abbrev S1 : Shape := ⟨1, ![1]⟩
abbrev S1x1x1 : Shape := ⟨3, ![1, 1, 1]⟩
abbrev S8x30x40x64 : Shape := ⟨4, ![8, 30, 40, 64]⟩
abbrev S4x4x64x192 : Shape := ⟨4, ![4, 4, 64, 192]⟩
abbrev S1x1x64x192 : Shape := ⟨4, ![1, 1, 64, 192]⟩
abbrev S64x192 : Shape := ⟨2, ![64, 192]⟩
abbrev S1x64x192 : Shape := ⟨3, ![1, 64, 192]⟩
abbrev S4x64x192 : Shape := ⟨3, ![4, 64, 192]⟩
abbrev S1x4x64x192 : Shape := ⟨4, ![1, 4, 64, 192]⟩
abbrev S8x4x28x32x192 : Shape := ⟨5, ![8, 4, 28, 32, 192]⟩
abbrev S1x30x40x64 : Shape := ⟨4, ![1, 30, 40, 64]⟩
abbrev S1x4x28x32x192 : Shape := ⟨5, ![1, 4, 28, 32, 192]⟩
abbrev S896x192 : Shape := ⟨2, ![896, 192]⟩
abbrev S28x32x192 : Shape := ⟨3, ![28, 32, 192]⟩
abbrev S1x1x28x32x192 : Shape := ⟨5, ![1, 1, 28, 32, 192]⟩
abbrev S8x4x28x28x192 : Shape := ⟨5, ![8, 4, 28, 28, 192]⟩
abbrev S8x2x2x28x28x192 : Shape := ⟨6, ![8, 2, 2, 28, 28, 192]⟩
abbrev S8x28x2x28x2x192 : Shape := ⟨6, ![8, 28, 2, 28, 2, 192]⟩
abbrev S8x58x64x192 : Shape := ⟨4, ![8, 58, 64, 192]⟩
abbrev S4x4x192x96 : Shape := ⟨4, ![4, 4, 192, 96]⟩
abbrev S1x1x192x96 : Shape := ⟨4, ![1, 1, 192, 96]⟩
abbrev S192x96 : Shape := ⟨2, ![192, 96]⟩
abbrev S1x192x96 : Shape := ⟨3, ![1, 192, 96]⟩
abbrev S4x192x96 : Shape := ⟨3, ![4, 192, 96]⟩
abbrev S1x4x192x96 : Shape := ⟨4, ![1, 4, 192, 96]⟩
abbrev S8x4x56x56x96 : Shape := ⟨5, ![8, 4, 56, 56, 96]⟩
abbrev S1x58x64x192 : Shape := ⟨4, ![1, 58, 64, 192]⟩
abbrev S1x4x56x56x96 : Shape := ⟨5, ![1, 4, 56, 56, 96]⟩
abbrev S3136x96 : Shape := ⟨2, ![3136, 96]⟩
abbrev S56x56x96 : Shape := ⟨3, ![56, 56, 96]⟩
abbrev S1x1x56x56x96 : Shape := ⟨5, ![1, 1, 56, 56, 96]⟩
abbrev S8x2x2x56x56x96 : Shape := ⟨6, ![8, 2, 2, 56, 56, 96]⟩
abbrev S8x56x2x56x2x96 : Shape := ⟨6, ![8, 56, 2, 56, 2, 96]⟩
abbrev S8x114x120x96 : Shape := ⟨4, ![8, 114, 120, 96]⟩
abbrev S4x4x96x3 : Shape := ⟨4, ![4, 4, 96, 3]⟩
abbrev S1x1x96x3 : Shape := ⟨4, ![1, 1, 96, 3]⟩
abbrev S96x3 : Shape := ⟨2, ![96, 3]⟩
abbrev S96x12 : Shape := ⟨2, ![96, 12]⟩
abbrev S1x96x12 : Shape := ⟨3, ![1, 96, 12]⟩
abbrev S9x96x12 : Shape := ⟨3, ![9, 96, 12]⟩
abbrev S8x112x112x12 : Shape := ⟨4, ![8, 112, 112, 12]⟩
abbrev S1x114x120x96 : Shape := ⟨4, ![1, 114, 120, 96]⟩
abbrev S8x112x112x2x2x3 : Shape := ⟨6, ![8, 112, 112, 2, 2, 3]⟩
abbrev S8x112x2x112x2x3 : Shape := ⟨6, ![8, 112, 2, 112, 2, 3]⟩
abbrev S8x64x28x28 : Shape := ⟨4, ![8, 64, 28, 28]⟩

abbrev nBuf : Space → Nat
  | .hbm => 318
  | .vmem => 37
  | .smem => 0
  | _ => 0

abbrev hbmTy0_0 (i : Nat) : BufTy := match i % 128 with
  | 0 => ⟨S8x3x224x224, .f32⟩
  | 1 => ⟨S96x3x4x4, .f32⟩
  | 2 => ⟨S192x96x4x4, .f32⟩
  | 3 => ⟨S64x192x4x4, .f32⟩
  | 4 => ⟨S192x64x4x4, .f32⟩
  | 5 => ⟨S96x192x4x4, .f32⟩
  | 6 => ⟨S3x96x4x4, .f32⟩
  | 7 => ⟨S1024x64, .f32⟩
  | 8 => ⟨S8x224x224x3, .f32⟩
  | 9 => ⟨S_, .i32⟩
  | 10 => ⟨S_, .f32⟩
  | 11 => ⟨S8x226x226x3, .f32⟩
  | 12 => ⟨S8x113x2x113x2x3, .f32⟩
  | 13 => ⟨S8x113x113x2x2x3, .f32⟩
  | 14 => ⟨S8x113x113x12, .f32⟩
  | 15 => ⟨S4x4x3x96, .f32⟩
  | 16 => ⟨S2x2x3x96, .f32⟩
  | 17 => ⟨S12x96, .f32⟩
  | 18 => ⟨S2x2x3x96, .f32⟩
  | 19 => ⟨S12x96, .f32⟩
  | 20 => ⟨S2x2x3x96, .f32⟩
  | 21 => ⟨S12x96, .f32⟩
  | 22 => ⟨S2x2x3x96, .f32⟩
  | 23 => ⟨S12x96, .f32⟩
  | 24 => ⟨S1x12x96, .f32⟩
  | 25 => ⟨S1x12x96, .f32⟩
  | 26 => ⟨S1x12x96, .f32⟩
  | 27 => ⟨S1x12x96, .f32⟩
  | 28 => ⟨S4x12x96, .f32⟩
  | 29 => ⟨S8x112x112x96, .f32⟩
  | 30 => ⟨S_, .i32⟩
  | 31 => ⟨S_, .f32⟩
  | 32 => ⟨S8x114x114x96, .f32⟩
  | 33 => ⟨S8x57x2x57x2x96, .f32⟩
  | 34 => ⟨S8x57x57x2x2x96, .f32⟩
  | 35 => ⟨S8x57x57x384, .f32⟩
  | 36 => ⟨S4x4x96x192, .f32⟩
  | 37 => ⟨S2x2x96x192, .f32⟩
  | 38 => ⟨S384x192, .f32⟩
  | 39 => ⟨S2x2x96x192, .f32⟩
  | 40 => ⟨S384x192, .f32⟩
  | 41 => ⟨S2x2x96x192, .f32⟩
  | 42 => ⟨S384x192, .f32⟩
  | 43 => ⟨S2x2x96x192, .f32⟩
  | 44 => ⟨S384x192, .f32⟩
  | 45 => ⟨S1x384x192, .f32⟩
  | 46 => ⟨S1x384x192, .f32⟩
  | 47 => ⟨S1x384x192, .f32⟩
  | 48 => ⟨S1x384x192, .f32⟩
  | 49 => ⟨S4x384x192, .f32⟩
  | 50 => ⟨S8x56x56x192, .f32⟩
  | 51 => ⟨S_, .i32⟩
  | 52 => ⟨S_, .f32⟩
  | 53 => ⟨S8x58x58x192, .f32⟩
  | 54 => ⟨S8x29x2x29x2x192, .f32⟩
  | 55 => ⟨S8x29x29x2x2x192, .f32⟩
  | 56 => ⟨S8x29x29x768, .f32⟩
  | 57 => ⟨S_, .i32⟩
  | 58 => ⟨S_, .f32⟩
  | 59 => ⟨S8x29x40x768, .f32⟩
  | 60 => ⟨S4x4x192x64, .f32⟩
  | 61 => ⟨S2x2x192x64, .f32⟩
  | 62 => ⟨S768x64, .f32⟩
  | 63 => ⟨S2x2x192x64, .f32⟩
  | 64 => ⟨S768x64, .f32⟩
  | 65 => ⟨S2x2x192x64, .f32⟩
  | 66 => ⟨S768x64, .f32⟩
  | 67 => ⟨S2x2x192x64, .f32⟩
  | 68 => ⟨S768x64, .f32⟩
  | 69 => ⟨S1x768x64, .f32⟩
  | 70 => ⟨S1x768x64, .f32⟩
  | 71 => ⟨S1x768x64, .f32⟩
  | 72 => ⟨S1x768x64, .f32⟩
  | 73 => ⟨S4x768x64, .f32⟩
  | 74 => ⟨S8x28x32x64, .f32⟩
  | 75 => ⟨S8x28x28x64, .f32⟩
  | 76 => ⟨S6272x64, .f32⟩
  | 77 => ⟨S64x1024, .f32⟩
  | 78 => ⟨S6272x64, .f32⟩
  | 79 => ⟨S1x1, .f32⟩
  | 80 => ⟨S_, .f32⟩
  | 81 => ⟨S_, .f32⟩
  | 82 => ⟨S_, .f32⟩
  | 83 => ⟨S_, .f32⟩
  | 84 => ⟨S_, .f32⟩
  | 85 => ⟨S8x28x28x64, .f32⟩
  | 86 => ⟨S_, .i32⟩
  | 87 => ⟨S_, .f32⟩
  | 88 => ⟨S8x30x40x64, .f32⟩
  | 89 => ⟨S4x4x64x192, .f32⟩
  | 90 => ⟨S1x1x64x192, .f32⟩
  | 91 => ⟨S64x192, .f32⟩
  | 92 => ⟨S1x1x64x192, .f32⟩
  | 93 => ⟨S64x192, .f32⟩
  | 94 => ⟨S1x1x64x192, .f32⟩
  | 95 => ⟨S64x192, .f32⟩
  | 96 => ⟨S1x1x64x192, .f32⟩
  | 97 => ⟨S64x192, .f32⟩
  | 98 => ⟨S1x64x192, .f32⟩
  | 99 => ⟨S1x64x192, .f32⟩
  | 100 => ⟨S1x64x192, .f32⟩
  | 101 => ⟨S1x64x192, .f32⟩
  | 102 => ⟨S4x64x192, .f32⟩
  | 103 => ⟨S1x1x64x192, .f32⟩
  | 104 => ⟨S64x192, .f32⟩
  | 105 => ⟨S1x1x64x192, .f32⟩
  | 106 => ⟨S64x192, .f32⟩
  | 107 => ⟨S1x1x64x192, .f32⟩
  | 108 => ⟨S64x192, .f32⟩
  | 109 => ⟨S1x1x64x192, .f32⟩
  | 110 => ⟨S64x192, .f32⟩
  | 111 => ⟨S1x64x192, .f32⟩
  | 112 => ⟨S1x64x192, .f32⟩
  | 113 => ⟨S1x64x192, .f32⟩
  | 114 => ⟨S1x64x192, .f32⟩
  | 115 => ⟨S4x64x192, .f32⟩
  | 116 => ⟨S1x1x64x192, .f32⟩
  | 117 => ⟨S64x192, .f32⟩
  | 118 => ⟨S1x1x64x192, .f32⟩
  | 119 => ⟨S64x192, .f32⟩
  | 120 => ⟨S1x1x64x192, .f32⟩
  | 121 => ⟨S64x192, .f32⟩
  | 122 => ⟨S1x1x64x192, .f32⟩
  | 123 => ⟨S64x192, .f32⟩
  | 124 => ⟨S1x64x192, .f32⟩
  | 125 => ⟨S1x64x192, .f32⟩
  | 126 => ⟨S1x64x192, .f32⟩
  | 127 => ⟨S1x64x192, .f32⟩
  | _ => ⟨S8x3x224x224, .f32⟩

abbrev hbmTy0_1 (i : Nat) : BufTy := match i % 128 with
  | 0 => ⟨S4x64x192, .f32⟩
  | 1 => ⟨S1x1x64x192, .f32⟩
  | 2 => ⟨S64x192, .f32⟩
  | 3 => ⟨S1x1x64x192, .f32⟩
  | 4 => ⟨S64x192, .f32⟩
  | 5 => ⟨S1x1x64x192, .f32⟩
  | 6 => ⟨S64x192, .f32⟩
  | 7 => ⟨S1x1x64x192, .f32⟩
  | 8 => ⟨S64x192, .f32⟩
  | 9 => ⟨S1x64x192, .f32⟩
  | 10 => ⟨S1x64x192, .f32⟩
  | 11 => ⟨S1x64x192, .f32⟩
  | 12 => ⟨S1x64x192, .f32⟩
  | 13 => ⟨S4x64x192, .f32⟩
  | 14 => ⟨S1x4x64x192, .f32⟩
  | 15 => ⟨S1x4x64x192, .f32⟩
  | 16 => ⟨S1x4x64x192, .f32⟩
  | 17 => ⟨S1x4x64x192, .f32⟩
  | 18 => ⟨S4x4x64x192, .f32⟩
  | 19 => ⟨S8x4x28x32x192, .f32⟩
  | 20 => ⟨S8x4x28x28x192, .f32⟩
  | 21 => ⟨S8x2x2x28x28x192, .f32⟩
  | 22 => ⟨S8x28x2x28x2x192, .f32⟩
  | 23 => ⟨S8x56x56x192, .f32⟩
  | 24 => ⟨S_, .i32⟩
  | 25 => ⟨S_, .f32⟩
  | 26 => ⟨S8x58x64x192, .f32⟩
  | 27 => ⟨S4x4x192x96, .f32⟩
  | 28 => ⟨S1x1x192x96, .f32⟩
  | 29 => ⟨S192x96, .f32⟩
  | 30 => ⟨S1x1x192x96, .f32⟩
  | 31 => ⟨S192x96, .f32⟩
  | 32 => ⟨S1x1x192x96, .f32⟩
  | 33 => ⟨S192x96, .f32⟩
  | 34 => ⟨S1x1x192x96, .f32⟩
  | 35 => ⟨S192x96, .f32⟩
  | 36 => ⟨S1x192x96, .f32⟩
  | 37 => ⟨S1x192x96, .f32⟩
  | 38 => ⟨S1x192x96, .f32⟩
  | 39 => ⟨S1x192x96, .f32⟩
  | 40 => ⟨S4x192x96, .f32⟩
  | 41 => ⟨S1x1x192x96, .f32⟩
  | 42 => ⟨S192x96, .f32⟩
  | 43 => ⟨S1x1x192x96, .f32⟩
  | 44 => ⟨S192x96, .f32⟩
  | 45 => ⟨S1x1x192x96, .f32⟩
  | 46 => ⟨S192x96, .f32⟩
  | 47 => ⟨S1x1x192x96, .f32⟩
  | 48 => ⟨S192x96, .f32⟩
  | 49 => ⟨S1x192x96, .f32⟩
  | 50 => ⟨S1x192x96, .f32⟩
  | 51 => ⟨S1x192x96, .f32⟩
  | 52 => ⟨S1x192x96, .f32⟩
  | 53 => ⟨S4x192x96, .f32⟩
  | 54 => ⟨S1x1x192x96, .f32⟩
  | 55 => ⟨S192x96, .f32⟩
  | 56 => ⟨S1x1x192x96, .f32⟩
  | 57 => ⟨S192x96, .f32⟩
  | 58 => ⟨S1x1x192x96, .f32⟩
  | 59 => ⟨S192x96, .f32⟩
  | 60 => ⟨S1x1x192x96, .f32⟩
  | 61 => ⟨S192x96, .f32⟩
  | 62 => ⟨S1x192x96, .f32⟩
  | 63 => ⟨S1x192x96, .f32⟩
  | 64 => ⟨S1x192x96, .f32⟩
  | 65 => ⟨S1x192x96, .f32⟩
  | 66 => ⟨S4x192x96, .f32⟩
  | 67 => ⟨S1x1x192x96, .f32⟩
  | 68 => ⟨S192x96, .f32⟩
  | 69 => ⟨S1x1x192x96, .f32⟩
  | 70 => ⟨S192x96, .f32⟩
  | 71 => ⟨S1x1x192x96, .f32⟩
  | 72 => ⟨S192x96, .f32⟩
  | 73 => ⟨S1x1x192x96, .f32⟩
  | 74 => ⟨S192x96, .f32⟩
  | 75 => ⟨S1x192x96, .f32⟩
  | 76 => ⟨S1x192x96, .f32⟩
  | 77 => ⟨S1x192x96, .f32⟩
  | 78 => ⟨S1x192x96, .f32⟩
  | 79 => ⟨S4x192x96, .f32⟩
  | 80 => ⟨S1x4x192x96, .f32⟩
  | 81 => ⟨S1x4x192x96, .f32⟩
  | 82 => ⟨S1x4x192x96, .f32⟩
  | 83 => ⟨S1x4x192x96, .f32⟩
  | 84 => ⟨S4x4x192x96, .f32⟩
  | 85 => ⟨S8x4x56x56x96, .f32⟩
  | 86 => ⟨S8x2x2x56x56x96, .f32⟩
  | 87 => ⟨S8x56x2x56x2x96, .f32⟩
  | 88 => ⟨S8x112x112x96, .f32⟩
  | 89 => ⟨S_, .i32⟩
  | 90 => ⟨S_, .f32⟩
  | 91 => ⟨S8x114x120x96, .f32⟩
  | 92 => ⟨S4x4x96x3, .f32⟩
  | 93 => ⟨S1x1x96x3, .f32⟩
  | 94 => ⟨S96x3, .f32⟩
  | 95 => ⟨S_, .f32⟩
  | 96 => ⟨S96x3, .f32⟩
  | 97 => ⟨S_, .f32⟩
  | 98 => ⟨S96x3, .f32⟩
  | 99 => ⟨S_, .f32⟩
  | 100 => ⟨S96x3, .f32⟩
  | 101 => ⟨S96x12, .f32⟩
  | 102 => ⟨S1x1x96x3, .f32⟩
  | 103 => ⟨S96x3, .f32⟩
  | 104 => ⟨S1x1x96x3, .f32⟩
  | 105 => ⟨S96x3, .f32⟩
  | 106 => ⟨S_, .f32⟩
  | 107 => ⟨S96x3, .f32⟩
  | 108 => ⟨S_, .f32⟩
  | 109 => ⟨S96x3, .f32⟩
  | 110 => ⟨S96x12, .f32⟩
  | 111 => ⟨S_, .f32⟩
  | 112 => ⟨S96x3, .f32⟩
  | 113 => ⟨S1x1x96x3, .f32⟩
  | 114 => ⟨S96x3, .f32⟩
  | 115 => ⟨S_, .f32⟩
  | 116 => ⟨S96x3, .f32⟩
  | 117 => ⟨S_, .f32⟩
  | 118 => ⟨S96x3, .f32⟩
  | 119 => ⟨S96x12, .f32⟩
  | 120 => ⟨S1x1x96x3, .f32⟩
  | 121 => ⟨S96x3, .f32⟩
  | 122 => ⟨S_, .f32⟩
  | 123 => ⟨S96x3, .f32⟩
  | 124 => ⟨S1x1x96x3, .f32⟩
  | 125 => ⟨S96x3, .f32⟩
  | 126 => ⟨S_, .f32⟩
  | 127 => ⟨S96x3, .f32⟩
  | _ => ⟨S8x3x224x224, .f32⟩

abbrev hbmTy0_2 (i : Nat) : BufTy := match i % 128 with
  | 0 => ⟨S96x12, .f32⟩
  | 1 => ⟨S1x1x96x3, .f32⟩
  | 2 => ⟨S96x3, .f32⟩
  | 3 => ⟨S1x1x96x3, .f32⟩
  | 4 => ⟨S96x3, .f32⟩
  | 5 => ⟨S1x1x96x3, .f32⟩
  | 6 => ⟨S96x3, .f32⟩
  | 7 => ⟨S1x1x96x3, .f32⟩
  | 8 => ⟨S96x3, .f32⟩
  | 9 => ⟨S96x12, .f32⟩
  | 10 => ⟨S_, .f32⟩
  | 11 => ⟨S96x3, .f32⟩
  | 12 => ⟨S1x1x96x3, .f32⟩
  | 13 => ⟨S96x3, .f32⟩
  | 14 => ⟨S_, .f32⟩
  | 15 => ⟨S96x3, .f32⟩
  | 16 => ⟨S1x1x96x3, .f32⟩
  | 17 => ⟨S96x3, .f32⟩
  | 18 => ⟨S96x12, .f32⟩
  | 19 => ⟨S_, .f32⟩
  | 20 => ⟨S96x3, .f32⟩
  | 21 => ⟨S_, .f32⟩
  | 22 => ⟨S96x3, .f32⟩
  | 23 => ⟨S1x1x96x3, .f32⟩
  | 24 => ⟨S96x3, .f32⟩
  | 25 => ⟨S_, .f32⟩
  | 26 => ⟨S96x3, .f32⟩
  | 27 => ⟨S96x12, .f32⟩
  | 28 => ⟨S_, .f32⟩
  | 29 => ⟨S96x3, .f32⟩
  | 30 => ⟨S_, .f32⟩
  | 31 => ⟨S96x3, .f32⟩
  | 32 => ⟨S1x1x96x3, .f32⟩
  | 33 => ⟨S96x3, .f32⟩
  | 34 => ⟨S1x1x96x3, .f32⟩
  | 35 => ⟨S96x3, .f32⟩
  | 36 => ⟨S96x12, .f32⟩
  | 37 => ⟨S_, .f32⟩
  | 38 => ⟨S96x3, .f32⟩
  | 39 => ⟨S_, .f32⟩
  | 40 => ⟨S96x3, .f32⟩
  | 41 => ⟨S_, .f32⟩
  | 42 => ⟨S96x3, .f32⟩
  | 43 => ⟨S1x1x96x3, .f32⟩
  | 44 => ⟨S96x3, .f32⟩
  | 45 => ⟨S96x12, .f32⟩
  | 46 => ⟨S1x96x12, .f32⟩
  | 47 => ⟨S1x96x12, .f32⟩
  | 48 => ⟨S1x96x12, .f32⟩
  | 49 => ⟨S1x96x12, .f32⟩
  | 50 => ⟨S1x96x12, .f32⟩
  | 51 => ⟨S1x96x12, .f32⟩
  | 52 => ⟨S1x96x12, .f32⟩
  | 53 => ⟨S1x96x12, .f32⟩
  | 54 => ⟨S1x96x12, .f32⟩
  | 55 => ⟨S9x96x12, .f32⟩
  | 56 => ⟨S8x112x112x12, .f32⟩
  | 57 => ⟨S8x112x112x2x2x3, .f32⟩
  | 58 => ⟨S8x112x2x112x2x3, .f32⟩
  | 59 => ⟨S8x224x224x3, .f32⟩
  | 60 => ⟨S8x3x224x224, .f32⟩
  | 61 => ⟨S8x64x28x28, .f32⟩
  | _ => ⟨S8x3x224x224, .f32⟩

abbrev hbmTy (i : Nat) : BufTy := match i / 128 with
  | 0 => hbmTy0_0 i
  | 1 => hbmTy0_1 i
  | 2 => hbmTy0_2 i
  | _ => ⟨S8x3x224x224, .f32⟩

abbrev bufTy : (tb : Table) → Fin (tcTables nBuf tb) → BufTy
  | .hbm, ⟨i, _⟩ => hbmTy i
  | .local _ .vmem, ⟨0, _⟩ => ⟨S1x113x113x12, .f32⟩
  | .local _ .vmem, ⟨1, _⟩ => ⟨S1x113x113x12, .f32⟩
  | .local _ .vmem, ⟨2, _⟩ => ⟨S4x12x96, .f32⟩
  | .local _ .vmem, ⟨3, _⟩ => ⟨S1x112x112x96, .f32⟩
  | .local _ .vmem, ⟨4, _⟩ => ⟨S1x112x112x96, .f32⟩
  | .local _ .vmem, ⟨5, _⟩ => ⟨S1x57x57x384, .f32⟩
  | .local _ .vmem, ⟨6, _⟩ => ⟨S1x57x57x384, .f32⟩
  | .local _ .vmem, ⟨7, _⟩ => ⟨S4x384x192, .f32⟩
  | .local _ .vmem, ⟨8, _⟩ => ⟨S1x56x56x192, .f32⟩
  | .local _ .vmem, ⟨9, _⟩ => ⟨S1x56x56x192, .f32⟩
  | .local _ .vmem, ⟨10, _⟩ => ⟨S1x29x40x768, .f32⟩
  | .local _ .vmem, ⟨11, _⟩ => ⟨S1x29x40x768, .f32⟩
  | .local _ .vmem, ⟨12, _⟩ => ⟨S4x768x64, .f32⟩
  | .local _ .vmem, ⟨13, _⟩ => ⟨S1x28x32x64, .f32⟩
  | .local _ .vmem, ⟨14, _⟩ => ⟨S1x28x32x64, .f32⟩
  | .local _ .vmem, ⟨15, _⟩ => ⟨S784x64, .f32⟩
  | .local _ .vmem, ⟨16, _⟩ => ⟨S784x64, .f32⟩
  | .local _ .vmem, ⟨17, _⟩ => ⟨S1024x64, .f32⟩
  | .local _ .vmem, ⟨18, _⟩ => ⟨S64x1024, .f32⟩
  | .local _ .vmem, ⟨19, _⟩ => ⟨S784x64, .f32⟩
  | .local _ .vmem, ⟨20, _⟩ => ⟨S784x64, .f32⟩
  | .local _ .vmem, ⟨21, _⟩ => ⟨S1x1, .f32⟩
  | .local _ .vmem, ⟨22, _⟩ => ⟨S1x30x40x64, .f32⟩
  | .local _ .vmem, ⟨23, _⟩ => ⟨S1x30x40x64, .f32⟩
  | .local _ .vmem, ⟨24, _⟩ => ⟨S4x4x64x192, .f32⟩
  | .local _ .vmem, ⟨25, _⟩ => ⟨S1x4x28x32x192, .f32⟩
  | .local _ .vmem, ⟨26, _⟩ => ⟨S1x4x28x32x192, .f32⟩
  | .local _ .vmem, ⟨27, _⟩ => ⟨S1x58x64x192, .f32⟩
  | .local _ .vmem, ⟨28, _⟩ => ⟨S1x58x64x192, .f32⟩
  | .local _ .vmem, ⟨29, _⟩ => ⟨S4x4x192x96, .f32⟩
  | .local _ .vmem, ⟨30, _⟩ => ⟨S1x4x56x56x96, .f32⟩
  | .local _ .vmem, ⟨31, _⟩ => ⟨S1x4x56x56x96, .f32⟩
  | .local _ .vmem, ⟨32, _⟩ => ⟨S1x114x120x96, .f32⟩
  | .local _ .vmem, ⟨33, _⟩ => ⟨S1x114x120x96, .f32⟩
  | .local _ .vmem, ⟨34, _⟩ => ⟨S9x96x12, .f32⟩
  | .local _ .vmem, ⟨35, _⟩ => ⟨S1x112x112x12, .f32⟩
  | .local _ .vmem, ⟨36, _⟩ => ⟨S1x112x112x12, .f32⟩
  | _, _ => ⟨S8x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_0 : Ref sig .tc := ⟨.hbm, 30, rfl⟩
abbrev main_call1_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_1 : Ref sig .tc := ⟨.hbm, 51, rfl⟩
abbrev main_call2_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_2 : Ref sig .tc := ⟨.hbm, 57, rfl⟩
abbrev main_call3_v0 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62_0 : Ref sig .tc := ⟨.hbm, 78, rfl⟩
abbrev main_v62_1 : Ref sig .tc := ⟨.hbm, 79, rfl⟩
abbrev main_v63 : Ref sig .tc := ⟨.hbm, 80, rfl⟩
abbrev main_cst : Ref sig .tc := ⟨.hbm, 81, rfl⟩
abbrev main_v64 : Ref sig .tc := ⟨.hbm, 82, rfl⟩
abbrev main_cst_3 : Ref sig .tc := ⟨.hbm, 83, rfl⟩
abbrev main_v65 : Ref sig .tc := ⟨.hbm, 84, rfl⟩
abbrev main_v66 : Ref sig .tc := ⟨.hbm, 85, rfl⟩
abbrev main_c_4 : Ref sig .tc := ⟨.hbm, 86, rfl⟩
abbrev main_call4_v0 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_c_5 : Ref sig .tc := ⟨.hbm, 152, rfl⟩
abbrev main_call5_v0 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_c_6 : Ref sig .tc := ⟨.hbm, 217, rfl⟩
abbrev main_call6_v0 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_cst_7 : Ref sig .tc := ⟨.hbm, 223, rfl⟩
abbrev main_v198 : Ref sig .tc := ⟨.hbm, 224, rfl⟩
abbrev main_cst_8 : Ref sig .tc := ⟨.hbm, 225, rfl⟩
abbrev main_v199 : Ref sig .tc := ⟨.hbm, 226, rfl⟩
abbrev main_cst_9 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_cst_10 : Ref sig .tc := ⟨.hbm, 234, rfl⟩
abbrev main_v206 : Ref sig .tc := ⟨.hbm, 235, rfl⟩
abbrev main_cst_11 : Ref sig .tc := ⟨.hbm, 236, rfl⟩
abbrev main_v207 : Ref sig .tc := ⟨.hbm, 237, rfl⟩
abbrev main_v208 : Ref sig .tc := ⟨.hbm, 238, rfl⟩
abbrev main_cst_12 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_cst_13 : Ref sig .tc := ⟨.hbm, 243, rfl⟩
abbrev main_v212 : Ref sig .tc := ⟨.hbm, 244, rfl⟩
abbrev main_cst_14 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_cst_15 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_cst_16 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_cst_17 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_cst_18 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_cst_19 : Ref sig .tc := ⟨.hbm, 275, rfl⟩
abbrev main_v238 : Ref sig .tc := ⟨.hbm, 276, rfl⟩
abbrev main_cst_20 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_cst_21 : Ref sig .tc := ⟨.hbm, 281, rfl⟩
abbrev main_v242 : Ref sig .tc := ⟨.hbm, 282, rfl⟩
abbrev main_v243 : Ref sig .tc := ⟨.hbm, 283, rfl⟩
abbrev main_cst_22 : Ref sig .tc := ⟨.hbm, 284, rfl⟩
abbrev main_v244 : Ref sig .tc := ⟨.hbm, 285, rfl⟩
abbrev main_cst_23 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_cst_24 : Ref sig .tc := ⟨.hbm, 293, rfl⟩
abbrev main_v251 : Ref sig .tc := ⟨.hbm, 294, rfl⟩
abbrev main_cst_25 : Ref sig .tc := ⟨.hbm, 295, rfl⟩
abbrev main_v252 : Ref sig .tc := ⟨.hbm, 296, rfl⟩
abbrev main_cst_26 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_v265 : Ref sig .tc := ⟨.hbm, 310, rfl⟩
abbrev main_v266 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc3_sem4_0 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x113x113x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x12x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x112x112x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x57x57x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x384x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x56x56x192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x29x40x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x768x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x28x32x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def k3_cond1 (i : grid3.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_13 : BitVec 32 := 0#32
  let v37 : BitVec 1 := Scalar.cmpi .ne v36 c0_i32_13
  v37

def k3_cond2 (i : grid3.Coords) : BitVec 1 :=
  let arg0 : BitVec 32 := BitVec.ofNat 32 (i 0).val
  let c0_i32_14 : BitVec 32 := 0#32
  let v38 : BitVec 1 := Scalar.cmpi .ne arg0 c0_i32_14
  let v39 : BitVec 32 := Scalar.extui v38
  let c0_i32_15 : BitVec 32 := 0#32
  let v40 : BitVec 1 := Scalar.cmpi .ne v39 c0_i32_15
  v40

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S784x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S784x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![8], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc4_transform_2 (i : grid4.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage4_0 : Fin 2 → Memref sig .tc .vmem S1x30x40x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x4x64x192 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x4x28x32x192 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc5_transform_2 (i : grid5.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage5_0 : Fin 2 → Memref sig .tc .vmem S1x58x64x192 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4x4x192x96 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1x4x56x56x96 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![8], ![false]⟩

def cc6_transform_0 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage6_0 : Fin 2 → Memref sig .tc .vmem S1x114x120x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S9x96x12 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1x112x112x12 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]
-- ==== ReferenceIdeal.lean ====
abbrev S8x3x224x224 : Shape := ⟨4, ![8, 3, 224, 224]⟩
abbrev S96x3x4x4 : Shape := ⟨4, ![96, 3, 4, 4]⟩
abbrev S192x96x4x4 : Shape := ⟨4, ![192, 96, 4, 4]⟩
abbrev S64x192x4x4 : Shape := ⟨4, ![64, 192, 4, 4]⟩
abbrev S192x64x4x4 : Shape := ⟨4, ![192, 64, 4, 4]⟩
abbrev S96x192x4x4 : Shape := ⟨4, ![96, 192, 4, 4]⟩
abbrev S3x96x4x4 : Shape := ⟨4, ![3, 96, 4, 4]⟩
abbrev S1024x64 : Shape := ⟨2, ![1024, 64]⟩
abbrev S_ : Shape := ⟨0, ![]⟩
abbrev S8x3x226x226 : Shape := ⟨4, ![8, 3, 226, 226]⟩
abbrev S8x3x112x226 : Shape := ⟨4, ![8, 3, 112, 226]⟩
abbrev S8x3x1x112x226 : Shape := ⟨5, ![8, 3, 1, 112, 226]⟩
abbrev S8x3x4x112x226 : Shape := ⟨5, ![8, 3, 4, 112, 226]⟩
abbrev S8x3x4x112x112 : Shape := ⟨5, ![8, 3, 4, 112, 112]⟩
abbrev S8x3x4x1x112x112 : Shape := ⟨6, ![8, 3, 4, 1, 112, 112]⟩
abbrev S8x3x4x4x112x112 : Shape := ⟨6, ![8, 3, 4, 4, 112, 112]⟩
abbrev S96x8x112x112 : Shape := ⟨4, ![96, 8, 112, 112]⟩
abbrev S8x96x112x112 : Shape := ⟨4, ![8, 96, 112, 112]⟩
abbrev S8x96x114x114 : Shape := ⟨4, ![8, 96, 114, 114]⟩
abbrev S8x96x56x114 : Shape := ⟨4, ![8, 96, 56, 114]⟩
abbrev S8x96x1x56x114 : Shape := ⟨5, ![8, 96, 1, 56, 114]⟩
abbrev S8x96x4x56x114 : Shape := ⟨5, ![8, 96, 4, 56, 114]⟩
abbrev S8x96x4x56x56 : Shape := ⟨5, ![8, 96, 4, 56, 56]⟩
abbrev S8x96x4x1x56x56 : Shape := ⟨6, ![8, 96, 4, 1, 56, 56]⟩
abbrev S8x96x4x4x56x56 : Shape := ⟨6, ![8, 96, 4, 4, 56, 56]⟩
abbrev S192x8x56x56 : Shape := ⟨4, ![192, 8, 56, 56]⟩
abbrev S8x192x56x56 : Shape := ⟨4, ![8, 192, 56, 56]⟩
abbrev S8x192x58x58 : Shape := ⟨4, ![8, 192, 58, 58]⟩
abbrev S8x192x28x58 : Shape := ⟨4, ![8, 192, 28, 58]⟩
abbrev S8x192x1x28x58 : Shape := ⟨5, ![8, 192, 1, 28, 58]⟩
abbrev S8x192x4x28x58 : Shape := ⟨5, ![8, 192, 4, 28, 58]⟩
abbrev S8x192x4x28x28 : Shape := ⟨5, ![8, 192, 4, 28, 28]⟩
abbrev S8x192x4x1x28x28 : Shape := ⟨6, ![8, 192, 4, 1, 28, 28]⟩
abbrev S8x192x4x4x28x28 : Shape := ⟨6, ![8, 192, 4, 4, 28, 28]⟩
abbrev S64x8x28x28 : Shape := ⟨4, ![64, 8, 28, 28]⟩
abbrev S8x64x28x28 : Shape := ⟨4, ![8, 64, 28, 28]⟩
abbrev S8x28x28x64 : Shape := ⟨4, ![8, 28, 28, 64]⟩
abbrev S6272x64 : Shape := ⟨2, ![6272, 64]⟩
abbrev S6272 : Shape := ⟨1, ![6272]⟩
abbrev S6272x1 : Shape := ⟨2, ![6272, 1]⟩
abbrev S64x1024 : Shape := ⟨2, ![64, 1024]⟩
abbrev S6272x1024 : Shape := ⟨2, ![6272, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S8x64x59x59 : Shape := ⟨4, ![8, 64, 59, 59]⟩
abbrev S8x64x56x59 : Shape := ⟨4, ![8, 64, 56, 59]⟩
abbrev S8x64x1x56x59 : Shape := ⟨5, ![8, 64, 1, 56, 59]⟩
abbrev S8x64x4x56x59 : Shape := ⟨5, ![8, 64, 4, 56, 59]⟩
abbrev S8x64x4x56x56 : Shape := ⟨5, ![8, 64, 4, 56, 56]⟩
abbrev S8x64x4x1x56x56 : Shape := ⟨6, ![8, 64, 4, 1, 56, 56]⟩
abbrev S8x64x4x4x56x56 : Shape := ⟨6, ![8, 64, 4, 4, 56, 56]⟩
abbrev S8x192x115x115 : Shape := ⟨4, ![8, 192, 115, 115]⟩
abbrev S8x192x112x115 : Shape := ⟨4, ![8, 192, 112, 115]⟩
abbrev S8x192x1x112x115 : Shape := ⟨5, ![8, 192, 1, 112, 115]⟩
abbrev S8x192x4x112x115 : Shape := ⟨5, ![8, 192, 4, 112, 115]⟩
abbrev S8x192x4x112x112 : Shape := ⟨5, ![8, 192, 4, 112, 112]⟩
abbrev S8x192x4x1x112x112 : Shape := ⟨6, ![8, 192, 4, 1, 112, 112]⟩
abbrev S8x192x4x4x112x112 : Shape := ⟨6, ![8, 192, 4, 4, 112, 112]⟩
abbrev S8x96x227x227 : Shape := ⟨4, ![8, 96, 227, 227]⟩
abbrev S8x96x224x227 : Shape := ⟨4, ![8, 96, 224, 227]⟩
abbrev S8x96x1x224x227 : Shape := ⟨5, ![8, 96, 1, 224, 227]⟩
abbrev S8x96x4x224x227 : Shape := ⟨5, ![8, 96, 4, 224, 227]⟩
abbrev S8x96x4x224x224 : Shape := ⟨5, ![8, 96, 4, 224, 224]⟩
abbrev S8x96x4x1x224x224 : Shape := ⟨6, ![8, 96, 4, 1, 224, 224]⟩
abbrev S8x96x4x4x224x224 : Shape := ⟨6, ![8, 96, 4, 4, 224, 224]⟩
abbrev S3x8x224x224 : Shape := ⟨4, ![3, 8, 224, 224]⟩

abbrev nBuf : Space → Nat
  | .hbm => 221
  | .vmem => 0
  | .smem => 0
  | _ => 0

abbrev hbmTy0_0 (i : Nat) : BufTy := match i % 128 with
  | 0 => ⟨S8x3x224x224, .f32⟩
  | 1 => ⟨S96x3x4x4, .f32⟩
  | 2 => ⟨S192x96x4x4, .f32⟩
  | 3 => ⟨S64x192x4x4, .f32⟩
  | 4 => ⟨S192x64x4x4, .f32⟩
  | 5 => ⟨S96x192x4x4, .f32⟩
  | 6 => ⟨S3x96x4x4, .f32⟩
  | 7 => ⟨S1024x64, .f32⟩
  | 8 => ⟨S_, .i32⟩
  | 9 => ⟨S_, .f32⟩
  | 10 => ⟨S8x3x226x226, .f32⟩
  | 11 => ⟨S8x3x112x226, .f32⟩
  | 12 => ⟨S8x3x112x226, .f32⟩
  | 13 => ⟨S8x3x112x226, .f32⟩
  | 14 => ⟨S8x3x112x226, .f32⟩
  | 15 => ⟨S8x3x1x112x226, .f32⟩
  | 16 => ⟨S8x3x1x112x226, .f32⟩
  | 17 => ⟨S8x3x1x112x226, .f32⟩
  | 18 => ⟨S8x3x1x112x226, .f32⟩
  | 19 => ⟨S8x3x4x112x226, .f32⟩
  | 20 => ⟨S8x3x4x112x112, .f32⟩
  | 21 => ⟨S8x3x4x112x112, .f32⟩
  | 22 => ⟨S8x3x4x112x112, .f32⟩
  | 23 => ⟨S8x3x4x112x112, .f32⟩
  | 24 => ⟨S8x3x4x1x112x112, .f32⟩
  | 25 => ⟨S8x3x4x1x112x112, .f32⟩
  | 26 => ⟨S8x3x4x1x112x112, .f32⟩
  | 27 => ⟨S8x3x4x1x112x112, .f32⟩
  | 28 => ⟨S8x3x4x4x112x112, .f32⟩
  | 29 => ⟨S96x8x112x112, .f32⟩
  | 30 => ⟨S8x96x112x112, .f32⟩
  | 31 => ⟨S_, .f32⟩
  | 32 => ⟨S8x96x112x112, .f32⟩
  | 33 => ⟨S8x96x112x112, .f32⟩
  | 34 => ⟨S_, .i32⟩
  | 35 => ⟨S_, .f32⟩
  | 36 => ⟨S8x96x114x114, .f32⟩
  | 37 => ⟨S8x96x56x114, .f32⟩
  | 38 => ⟨S8x96x56x114, .f32⟩
  | 39 => ⟨S8x96x56x114, .f32⟩
  | 40 => ⟨S8x96x56x114, .f32⟩
  | 41 => ⟨S8x96x1x56x114, .f32⟩
  | 42 => ⟨S8x96x1x56x114, .f32⟩
  | 43 => ⟨S8x96x1x56x114, .f32⟩
  | 44 => ⟨S8x96x1x56x114, .f32⟩
  | 45 => ⟨S8x96x4x56x114, .f32⟩
  | 46 => ⟨S8x96x4x56x56, .f32⟩
  | 47 => ⟨S8x96x4x56x56, .f32⟩
  | 48 => ⟨S8x96x4x56x56, .f32⟩
  | 49 => ⟨S8x96x4x56x56, .f32⟩
  | 50 => ⟨S8x96x4x1x56x56, .f32⟩
  | 51 => ⟨S8x96x4x1x56x56, .f32⟩
  | 52 => ⟨S8x96x4x1x56x56, .f32⟩
  | 53 => ⟨S8x96x4x1x56x56, .f32⟩
  | 54 => ⟨S8x96x4x4x56x56, .f32⟩
  | 55 => ⟨S192x8x56x56, .f32⟩
  | 56 => ⟨S8x192x56x56, .f32⟩
  | 57 => ⟨S_, .f32⟩
  | 58 => ⟨S8x192x56x56, .f32⟩
  | 59 => ⟨S8x192x56x56, .f32⟩
  | 60 => ⟨S_, .i32⟩
  | 61 => ⟨S_, .f32⟩
  | 62 => ⟨S8x192x58x58, .f32⟩
  | 63 => ⟨S8x192x28x58, .f32⟩
  | 64 => ⟨S8x192x28x58, .f32⟩
  | 65 => ⟨S8x192x28x58, .f32⟩
  | 66 => ⟨S8x192x28x58, .f32⟩
  | 67 => ⟨S8x192x1x28x58, .f32⟩
  | 68 => ⟨S8x192x1x28x58, .f32⟩
  | 69 => ⟨S8x192x1x28x58, .f32⟩
  | 70 => ⟨S8x192x1x28x58, .f32⟩
  | 71 => ⟨S8x192x4x28x58, .f32⟩
  | 72 => ⟨S8x192x4x28x28, .f32⟩
  | 73 => ⟨S8x192x4x28x28, .f32⟩
  | 74 => ⟨S8x192x4x28x28, .f32⟩
  | 75 => ⟨S8x192x4x28x28, .f32⟩
  | 76 => ⟨S8x192x4x1x28x28, .f32⟩
  | 77 => ⟨S8x192x4x1x28x28, .f32⟩
  | 78 => ⟨S8x192x4x1x28x28, .f32⟩
  | 79 => ⟨S8x192x4x1x28x28, .f32⟩
  | 80 => ⟨S8x192x4x4x28x28, .f32⟩
  | 81 => ⟨S64x8x28x28, .f32⟩
  | 82 => ⟨S8x64x28x28, .f32⟩
  | 83 => ⟨S8x28x28x64, .f32⟩
  | 84 => ⟨S6272x64, .f32⟩
  | 85 => ⟨S6272x64, .f32⟩
  | 86 => ⟨S_, .f32⟩
  | 87 => ⟨S6272, .f32⟩
  | 88 => ⟨S6272x1, .f32⟩
  | 89 => ⟨S_, .f32⟩
  | 90 => ⟨S6272x64, .f32⟩
  | 91 => ⟨S6272x64, .f32⟩
  | 92 => ⟨S64x1024, .f32⟩
  | 93 => ⟨S6272x1024, .f32⟩
  | 94 => ⟨S6272x1024, .f32⟩
  | 95 => ⟨S6272x1024, .f32⟩
  | 96 => ⟨S1024x64, .f32⟩
  | 97 => ⟨S_, .f32⟩
  | 98 => ⟨S1024, .f32⟩
  | 99 => ⟨S1x1024, .f32⟩
  | 100 => ⟨S6272x1024, .f32⟩
  | 101 => ⟨S6272x1024, .f32⟩
  | 102 => ⟨S6272x1024, .i32⟩
  | 103 => ⟨S_, .f32⟩
  | 104 => ⟨S_, .i32⟩
  | 105 => ⟨S6272, .f32⟩
  | 106 => ⟨S6272, .i32⟩
  | 107 => ⟨S_, .i32⟩
  | 108 => ⟨S6272, .i32⟩
  | 109 => ⟨S6272, .i1⟩
  | 110 => ⟨S_, .i32⟩
  | 111 => ⟨S6272, .i32⟩
  | 112 => ⟨S6272, .i32⟩
  | 113 => ⟨S6272, .i32⟩
  | 114 => ⟨S6272x1, .i32⟩
  | 115 => ⟨S1, .i32⟩
  | 116 => ⟨S_, .i32⟩
  | 117 => ⟨S6272x1, .i32⟩
  | 118 => ⟨S6272x1, .i1⟩
  | 119 => ⟨S1x1, .i32⟩
  | 120 => ⟨S6272x1, .i32⟩
  | 121 => ⟨S6272x1, .i1⟩
  | 122 => ⟨S6272x1, .i1⟩
  | 123 => ⟨S_, .i1⟩
  | 124 => ⟨S6272, .i1⟩
  | 125 => ⟨S6272x64, .f32⟩
  | 126 => ⟨S6272x64, .i1⟩
  | 127 => ⟨S_, .f32⟩
  | _ => ⟨S8x3x224x224, .f32⟩

abbrev hbmTy0_1 (i : Nat) : BufTy := match i % 128 with
  | 0 => ⟨S6272x64, .f32⟩
  | 1 => ⟨S6272x64, .f32⟩
  | 2 => ⟨S8x28x28x64, .f32⟩
  | 3 => ⟨S8x64x28x28, .f32⟩
  | 4 => ⟨S8x64x28x28, .f32⟩
  | 5 => ⟨S8x64x28x28, .f32⟩
  | 6 => ⟨S_, .f32⟩
  | 7 => ⟨S_, .f32⟩
  | 8 => ⟨S_, .f32⟩
  | 9 => ⟨S_, .f32⟩
  | 10 => ⟨S8x64x28x28, .f32⟩
  | 11 => ⟨S8x64x28x28, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S8x64x28x28, .f32⟩
  | 20 => ⟨S8x64x28x28, .f32⟩
  | 21 => ⟨S_, .f32⟩
  | 22 => ⟨S8x64x59x59, .f32⟩
  | 23 => ⟨S8x64x56x59, .f32⟩
  | 24 => ⟨S8x64x56x59, .f32⟩
  | 25 => ⟨S8x64x56x59, .f32⟩
  | 26 => ⟨S8x64x56x59, .f32⟩
  | 27 => ⟨S8x64x1x56x59, .f32⟩
  | 28 => ⟨S8x64x1x56x59, .f32⟩
  | 29 => ⟨S8x64x1x56x59, .f32⟩
  | 30 => ⟨S8x64x1x56x59, .f32⟩
  | 31 => ⟨S8x64x4x56x59, .f32⟩
  | 32 => ⟨S8x64x4x56x56, .f32⟩
  | 33 => ⟨S8x64x4x56x56, .f32⟩
  | 34 => ⟨S8x64x4x56x56, .f32⟩
  | 35 => ⟨S8x64x4x56x56, .f32⟩
  | 36 => ⟨S8x64x4x1x56x56, .f32⟩
  | 37 => ⟨S8x64x4x1x56x56, .f32⟩
  | 38 => ⟨S8x64x4x1x56x56, .f32⟩
  | 39 => ⟨S8x64x4x1x56x56, .f32⟩
  | 40 => ⟨S8x64x4x4x56x56, .f32⟩
  | 41 => ⟨S192x8x56x56, .f32⟩
  | 42 => ⟨S8x192x56x56, .f32⟩
  | 43 => ⟨S_, .f32⟩
  | 44 => ⟨S8x192x56x56, .f32⟩
  | 45 => ⟨S8x192x56x56, .f32⟩
  | 46 => ⟨S_, .f32⟩
  | 47 => ⟨S8x192x115x115, .f32⟩
  | 48 => ⟨S8x192x112x115, .f32⟩
  | 49 => ⟨S8x192x112x115, .f32⟩
  | 50 => ⟨S8x192x112x115, .f32⟩
  | 51 => ⟨S8x192x112x115, .f32⟩
  | 52 => ⟨S8x192x1x112x115, .f32⟩
  | 53 => ⟨S8x192x1x112x115, .f32⟩
  | 54 => ⟨S8x192x1x112x115, .f32⟩
  | 55 => ⟨S8x192x1x112x115, .f32⟩
  | 56 => ⟨S8x192x4x112x115, .f32⟩
  | 57 => ⟨S8x192x4x112x112, .f32⟩
  | 58 => ⟨S8x192x4x112x112, .f32⟩
  | 59 => ⟨S8x192x4x112x112, .f32⟩
  | 60 => ⟨S8x192x4x112x112, .f32⟩
  | 61 => ⟨S8x192x4x1x112x112, .f32⟩
  | 62 => ⟨S8x192x4x1x112x112, .f32⟩
  | 63 => ⟨S8x192x4x1x112x112, .f32⟩
  | 64 => ⟨S8x192x4x1x112x112, .f32⟩
  | 65 => ⟨S8x192x4x4x112x112, .f32⟩
  | 66 => ⟨S96x8x112x112, .f32⟩
  | 67 => ⟨S8x96x112x112, .f32⟩
  | 68 => ⟨S_, .f32⟩
  | 69 => ⟨S8x96x112x112, .f32⟩
  | 70 => ⟨S8x96x112x112, .f32⟩
  | 71 => ⟨S_, .f32⟩
  | 72 => ⟨S8x96x227x227, .f32⟩
  | 73 => ⟨S8x96x224x227, .f32⟩
  | 74 => ⟨S8x96x224x227, .f32⟩
  | 75 => ⟨S8x96x224x227, .f32⟩
  | 76 => ⟨S8x96x224x227, .f32⟩
  | 77 => ⟨S8x96x1x224x227, .f32⟩
  | 78 => ⟨S8x96x1x224x227, .f32⟩
  | 79 => ⟨S8x96x1x224x227, .f32⟩
  | 80 => ⟨S8x96x1x224x227, .f32⟩
  | 81 => ⟨S8x96x4x224x227, .f32⟩
  | 82 => ⟨S8x96x4x224x224, .f32⟩
  | 83 => ⟨S8x96x4x224x224, .f32⟩
  | 84 => ⟨S8x96x4x224x224, .f32⟩
  | 85 => ⟨S8x96x4x224x224, .f32⟩
  | 86 => ⟨S8x96x4x1x224x224, .f32⟩
  | 87 => ⟨S8x96x4x1x224x224, .f32⟩
  | 88 => ⟨S8x96x4x1x224x224, .f32⟩
  | 89 => ⟨S8x96x4x1x224x224, .f32⟩
  | 90 => ⟨S8x96x4x4x224x224, .f32⟩
  | 91 => ⟨S3x8x224x224, .f32⟩
  | 92 => ⟨S8x3x224x224, .f32⟩
  | _ => ⟨S8x3x224x224, .f32⟩

abbrev hbmTy (i : Nat) : BufTy := match i / 128 with
  | 0 => hbmTy0_0 i
  | 1 => hbmTy0_1 i
  | _ => ⟨S8x3x224x224, .f32⟩

abbrev bufTy : (tb : Table) → Fin (tcTables nBuf tb) → BufTy
  | .hbm, ⟨i, _⟩ => hbmTy i
  | _, _ => ⟨S8x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_cst : Ref sig .tc := ⟨.hbm, 31, rfl⟩
abbrev main_call1_v0 : Ref sig .tc := ⟨.hbm, 32, rfl⟩
abbrev main_v21 : Ref sig .tc := ⟨.hbm, 33, rfl⟩
abbrev main_c_0 : Ref sig .tc := ⟨.hbm, 34, rfl⟩
abbrev main_call2_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call3_cst : Ref sig .tc := ⟨.hbm, 57, rfl⟩
abbrev main_call3_v0 : Ref sig .tc := ⟨.hbm, 58, rfl⟩
abbrev main_v43 : Ref sig .tc := ⟨.hbm, 59, rfl⟩
abbrev main_c_1 : Ref sig .tc := ⟨.hbm, 60, rfl⟩
abbrev main_call4_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst : Ref sig .tc := ⟨.hbm, 86, rfl⟩
abbrev main_v68 : Ref sig .tc := ⟨.hbm, 87, rfl⟩
abbrev main_v69 : Ref sig .tc := ⟨.hbm, 88, rfl⟩
abbrev main_cst_2 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_3 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_call5_v0 : Ref sig .tc := ⟨.hbm, 102, rfl⟩
abbrev main_call5_cst : Ref sig .tc := ⟨.hbm, 103, rfl⟩
abbrev main_call5_c : Ref sig .tc := ⟨.hbm, 104, rfl⟩
abbrev main_call5_v1_0 : Ref sig .tc := ⟨.hbm, 105, rfl⟩
abbrev main_v81 : Ref sig .tc := ⟨.hbm, 106, rfl⟩
abbrev main_call6_c : Ref sig .tc := ⟨.hbm, 107, rfl⟩
abbrev main_call6_v0 : Ref sig .tc := ⟨.hbm, 108, rfl⟩
abbrev main_call6_v1 : Ref sig .tc := ⟨.hbm, 109, rfl⟩
abbrev main_call6_c_0 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_call6_v5 : Ref sig .tc := ⟨.hbm, 114, rfl⟩
abbrev main_call6_c_1 : Ref sig .tc := ⟨.hbm, 115, rfl⟩
abbrev main_call6_c_2 : Ref sig .tc := ⟨.hbm, 116, rfl⟩
abbrev main_call6_v6 : Ref sig .tc := ⟨.hbm, 117, rfl⟩
abbrev main_call6_v7 : Ref sig .tc := ⟨.hbm, 118, rfl⟩
abbrev main_call6_v8 : Ref sig .tc := ⟨.hbm, 119, rfl⟩
abbrev main_call6_v9 : Ref sig .tc := ⟨.hbm, 120, rfl⟩
abbrev main_call6_v10 : Ref sig .tc := ⟨.hbm, 121, rfl⟩
abbrev main_call6_v11 : Ref sig .tc := ⟨.hbm, 122, rfl⟩
abbrev main_call6_c_3 : Ref sig .tc := ⟨.hbm, 123, rfl⟩
abbrev main_call6_v12 : Ref sig .tc := ⟨.hbm, 124, rfl⟩
abbrev main_call6_v13 : Ref sig .tc := ⟨.hbm, 125, rfl⟩
abbrev main_call6_v14 : Ref sig .tc := ⟨.hbm, 126, rfl⟩
abbrev main_call6_cst : Ref sig .tc := ⟨.hbm, 127, rfl⟩
abbrev main_call6_v15 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_4 : Ref sig .tc := ⟨.hbm, 134, rfl⟩
abbrev main_v87 : Ref sig .tc := ⟨.hbm, 135, rfl⟩
abbrev main_cst_5 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_6 : Ref sig .tc := ⟨.hbm, 140, rfl⟩
abbrev main_v91 : Ref sig .tc := ⟨.hbm, 141, rfl⟩
abbrev main_cst_7 : Ref sig .tc := ⟨.hbm, 142, rfl⟩
abbrev main_v92 : Ref sig .tc := ⟨.hbm, 143, rfl⟩
abbrev main_cst_8 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_9 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_call7_cst : Ref sig .tc := ⟨.hbm, 171, rfl⟩
abbrev main_call7_v0 : Ref sig .tc := ⟨.hbm, 172, rfl⟩
abbrev main_v118 : Ref sig .tc := ⟨.hbm, 173, rfl⟩
abbrev main_cst_10 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_call8_cst : Ref sig .tc := ⟨.hbm, 196, rfl⟩
abbrev main_call8_v0 : Ref sig .tc := ⟨.hbm, 197, rfl⟩
abbrev main_v140 : Ref sig .tc := ⟨.hbm, 198, rfl⟩
abbrev main_cst_11 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩

abbrev nD : Nat := 1
abbrev τ : Topo := Topo.v7x

variable {F : FTy → Type} [FloatOps F]
-- ==== Proof.Run.Region0.lean ====
/- The body of pallas_call 0 at any contents of the buffers: what its output blocks hold after a grid point, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__enc_conv_kernel` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x113x113x12 := Rect.unit (s := S1x113x113x12) ![0, 0, 0, 0] S1x112x112x12.size inb_S1x113x113x12_S1x112x112x12_0_0_0_0
abbrev r0_1 : Rect S4x12x96 := Rect.unit (s := S4x12x96) ![0, 0, 0] S1x12x96.size inb_S4x12x96_S1x12x96_0_0_0
abbrev r0_2 : Rect S1x113x113x12 := Rect.unit (s := S1x113x113x12) ![0, 0, 1, 0] S1x112x112x12.size inb_S1x113x113x12_S1x112x112x12_0_0_1_0
abbrev r0_3 : Rect S4x12x96 := Rect.unit (s := S4x12x96) ![1, 0, 0] S1x12x96.size inb_S4x12x96_S1x12x96_1_0_0
abbrev r0_4 : Rect S1x113x113x12 := Rect.unit (s := S1x113x113x12) ![0, 1, 0, 0] S1x112x112x12.size inb_S1x113x113x12_S1x112x112x12_0_1_0_0
abbrev r0_5 : Rect S4x12x96 := Rect.unit (s := S4x12x96) ![2, 0, 0] S1x12x96.size inb_S4x12x96_S1x12x96_2_0_0
abbrev r0_6 : Rect S1x113x113x12 := Rect.unit (s := S1x113x113x12) ![0, 1, 1, 0] S1x112x112x12.size inb_S1x113x113x12_S1x112x112x12_0_1_1_0
abbrev r0_7 : Rect S4x12x96 := Rect.unit (s := S4x12x96) ![3, 0, 0] S1x12x96.size inb_S4x12x96_S1x12x96_3_0_0
abbrev r0_8 : Rect S1x112x112x96 := Rect.unit (s := S1x112x112x96) ![0, 0, 0, 0] S1x112x112x96.size inb_S1x112x112x96_S1x112x112x96_0_0_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S1x113x113x12 .f32) (x1 : Vec F S4x12x96 .f32) : Vec F S1x112x112x96 .f32 :=
  View.canon [⟨r0_8, k0_pay1 (k0_pay2 (View.ld x0 r0_0) (View.ld x1 r0_1) (View.ld x0 r0_2) (View.ld x1 r0_3) (View.ld x0 r0_4) (View.ld x1 r0_5) (View.ld x0 r0_6) (View.ld x1 r0_7))⟩]

/-- Its stores tile the buffer (checked by evaluation), so they cover it. -/
theorem cover0_2 (p0 : Vec F S1x112x112x96 .f32) (y : S1x112x112x96.Idx) :
    ∃ pc ∈ ([⟨r0_8, p0⟩] : List (View.Piece (Elt F) S1x112x112x96 .f32)), y ∈ pc.1.set :=
  View.cover_of_tiled [⟨r0_8, p0⟩] S1x112x112x96.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x113x113x12 .f32) (harg1 : arg1.IsWhole) (arg2 : Memref sig .tc .vmem S4x12x96 .f32) (harg2 : arg2.IsWhole) (arg3 : Memref sig .tc .vmem S1x112x112x96 .f32) (harg3 : arg3.IsWhole)
    (x0 : Vec F S1x113x113x12 .f32) (x1 : Vec F S4x12x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__enc_conv_kernel i arg1 harg1 arg2 harg2 arg3 harg3) K := by
  simp only [cc0__enc_conv_kernel_eq_skeleton]; unfold cc0__enc_conv_kernel_skel
  simp only [k0_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.Run.Region1.lean ====
/- The body of pallas_call 1 at any contents of the buffers: what its output blocks hold after a grid point, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__enc_conv_kernel` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x57x57x384 := Rect.unit (s := S1x57x57x384) ![0, 0, 0, 0] S1x56x56x384.size inb_S1x57x57x384_S1x56x56x384_0_0_0_0
abbrev r1_1 : Rect S4x384x192 := Rect.unit (s := S4x384x192) ![0, 0, 0] S1x384x192.size inb_S4x384x192_S1x384x192_0_0_0
abbrev r1_2 : Rect S1x57x57x384 := Rect.unit (s := S1x57x57x384) ![0, 0, 1, 0] S1x56x56x384.size inb_S1x57x57x384_S1x56x56x384_0_0_1_0
abbrev r1_3 : Rect S4x384x192 := Rect.unit (s := S4x384x192) ![1, 0, 0] S1x384x192.size inb_S4x384x192_S1x384x192_1_0_0
abbrev r1_4 : Rect S1x57x57x384 := Rect.unit (s := S1x57x57x384) ![0, 1, 0, 0] S1x56x56x384.size inb_S1x57x57x384_S1x56x56x384_0_1_0_0
abbrev r1_5 : Rect S4x384x192 := Rect.unit (s := S4x384x192) ![2, 0, 0] S1x384x192.size inb_S4x384x192_S1x384x192_2_0_0
abbrev r1_6 : Rect S1x57x57x384 := Rect.unit (s := S1x57x57x384) ![0, 1, 1, 0] S1x56x56x384.size inb_S1x57x57x384_S1x56x56x384_0_1_1_0
abbrev r1_7 : Rect S4x384x192 := Rect.unit (s := S4x384x192) ![3, 0, 0] S1x384x192.size inb_S4x384x192_S1x384x192_3_0_0
abbrev r1_8 : Rect S1x56x56x192 := Rect.unit (s := S1x56x56x192) ![0, 0, 0, 0] S1x56x56x192.size inb_S1x56x56x192_S1x56x56x192_0_0_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S1x57x57x384 .f32) (x1 : Vec F S4x384x192 .f32) : Vec F S1x56x56x192 .f32 :=
  View.canon [⟨r1_8, k1_pay1 (k1_pay2 (View.ld x0 r1_0) (View.ld x1 r1_1) (View.ld x0 r1_2) (View.ld x1 r1_3) (View.ld x0 r1_4) (View.ld x1 r1_5) (View.ld x0 r1_6) (View.ld x1 r1_7))⟩]

/-- Its stores tile the buffer (checked by evaluation), so they cover it. -/
theorem cover1_2 (p0 : Vec F S1x56x56x192 .f32) (y : S1x56x56x192.Idx) :
    ∃ pc ∈ ([⟨r1_8, p0⟩] : List (View.Piece (Elt F) S1x56x56x192 .f32)), y ∈ pc.1.set :=
  View.cover_of_tiled [⟨r1_8, p0⟩] S1x56x56x192.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S1x57x57x384 .f32) (harg1 : arg1.IsWhole) (arg2 : Memref sig .tc .vmem S4x384x192 .f32) (harg2 : arg2.IsWhole) (arg3 : Memref sig .tc .vmem S1x56x56x192 .f32) (harg3 : arg3.IsWhole)
    (x0 : Vec F S1x57x57x384 .f32) (x1 : Vec F S4x384x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__enc_conv_kernel i arg1 harg1 arg2 harg2 arg3 harg3) K := by
  simp only [cc1__enc_conv_kernel_eq_skeleton]; unfold cc1__enc_conv_kernel_skel
  simp only [k1_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.Run.Region2.lean ====
/- The body of pallas_call 2 at any contents of the buffers: what its output blocks hold after a grid point, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2__enc_conv_kernel` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x29x40x768 := Rect.unit (s := S1x29x40x768) ![0, 0, 0, 0] S1x28x32x768.size inb_S1x29x40x768_S1x28x32x768_0_0_0_0
abbrev r2_1 : Rect S4x768x64 := Rect.unit (s := S4x768x64) ![0, 0, 0] S1x768x64.size inb_S4x768x64_S1x768x64_0_0_0
abbrev r2_2 : Rect S1x29x40x768 := Rect.unit (s := S1x29x40x768) ![0, 0, 1, 0] S1x28x32x768.size inb_S1x29x40x768_S1x28x32x768_0_0_1_0
abbrev r2_3 : Rect S4x768x64 := Rect.unit (s := S4x768x64) ![1, 0, 0] S1x768x64.size inb_S4x768x64_S1x768x64_1_0_0
abbrev r2_4 : Rect S1x29x40x768 := Rect.unit (s := S1x29x40x768) ![0, 1, 0, 0] S1x28x32x768.size inb_S1x29x40x768_S1x28x32x768_0_1_0_0
abbrev r2_5 : Rect S4x768x64 := Rect.unit (s := S4x768x64) ![2, 0, 0] S1x768x64.size inb_S4x768x64_S1x768x64_2_0_0
abbrev r2_6 : Rect S1x29x40x768 := Rect.unit (s := S1x29x40x768) ![0, 1, 1, 0] S1x28x32x768.size inb_S1x29x40x768_S1x28x32x768_0_1_1_0
abbrev r2_7 : Rect S4x768x64 := Rect.unit (s := S4x768x64) ![3, 0, 0] S1x768x64.size inb_S4x768x64_S1x768x64_3_0_0
abbrev r2_8 : Rect S1x28x32x64 := Rect.unit (s := S1x28x32x64) ![0, 0, 0, 0] S1x28x32x64.size inb_S1x28x32x64_S1x28x32x64_0_0_0_0

/-! ## What the body leaves in each output window's buffer -/

/-- Window 2's staging buffer after the body, from the input windows' blocks: its 1 store as pieces, LAST
    FIRST (Lib/Pipeline/FrameBody.lean `View.canon`; the payloads are the skeleton's). -/
def out2_2 (x0 : Vec F S1x29x40x768 .f32) (x1 : Vec F S4x768x64 .f32) : Vec F S1x28x32x64 .f32 :=
  View.canon [⟨r2_8, k2_pay1 (k2_pay2 (View.ld x0 r2_0) (View.ld x1 r2_1) (View.ld x0 r2_2) (View.ld x1 r2_3) (View.ld x0 r2_4) (View.ld x1 r2_5) (View.ld x0 r2_6) (View.ld x1 r2_7))⟩]

/-- Its stores tile the buffer (checked by evaluation), so they cover it. -/
theorem cover2_2 (p0 : Vec F S1x28x32x64 .f32) (y : S1x28x32x64.Idx) :
    ∃ pc ∈ ([⟨r2_8, p0⟩] : List (View.Piece (Elt F) S1x28x32x64 .f32)), y ∈ pc.1.set :=
  View.cover_of_tiled [⟨r2_8, p0⟩] S1x28x32x64.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S1x29x40x768 .f32) (harg1 : arg1.IsWhole) (arg2 : Memref sig .tc .vmem S4x768x64 .f32) (harg2 : arg2.IsWhole) (arg3 : Memref sig .tc .vmem S1x28x32x64 .f32) (harg3 : arg3.IsWhole)
    (x0 : Vec F S1x29x40x768 .f32) (x1 : Vec F S4x768x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__enc_conv_kernel i arg1 harg1 arg2 harg2 arg3 harg3) K := by
  simp only [cc2__enc_conv_kernel_eq_skeleton]; unfold cc2__enc_conv_kernel_skel
  simp only [k2_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.Run.Region3.lean ====
/- The body of pallas_call 3 at any contents of the buffers: what its output blocks hold after a grid point, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3__vq_kernel` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's `scf.if` 0 (`k3_h1`), from the grid coordinates (the skeleton's scalar
    chain substituted). -/
abbrev cond3_0 (i : grid3.Coords) : Prop := k3_cond1 i = 1#1
/-- It holds at the first point only — by arithmetic of the point. -/
theorem hcond3_0 : ∀ t : Fin cfg3.N, cond3_0 (grid3.coords t) ↔ t.val % 8 = 0 :=
  (fun t => by
    have ht : t.val < 8 := Nat.lt_of_lt_of_eq t.isLt N_3
    have e0 : (grid3.coords t 0).val = t.val / 1 % 8 := Pipeline.Grid.coords_val t 0 (by decide) rfl
    simp only [cond3_0, k3_cond1, e0]
    word_cmp
   : ∀ t : Fin grid3.N, cond3_0 (grid3.coords t) ↔ t.val % 8 = 0)

/-- The condition of the body's `scf.if` 1 (`k3_h2`), from the grid coordinates (the skeleton's scalar
    chain substituted). -/
abbrev cond3_1 (i : grid3.Coords) : Prop := k3_cond2 i = 1#1
/-- It holds at the points from point 1 on — by arithmetic of the point. -/
theorem hcond3_1 : ∀ t : Fin cfg3.N, cond3_1 (grid3.coords t) ↔ 1 ≤ t.val :=
  (fun t => by
    have ht : t.val < 8 := Nat.lt_of_lt_of_eq t.isLt N_3
    have e0 : (grid3.coords t 0).val = t.val / 1 % 8 := Pipeline.Grid.coords_val t 0 (by decide) rfl
    simp only [cond3_1, k3_cond2, e0]
    word_cmp
   : ∀ t : Fin grid3.N, cond3_1 (grid3.coords t) ↔ 1 ≤ t.val)

/-! ## Where the windows are idle (the printed configuration's table `Cfg.idle`) -/

/-- Window 0 is never idle (an input). -/
theorem liveAt3_0 : ∀ t : Fin cfg3.N, cfg3.idle 0 (grid3.coords t) = false := fun _ => rfl
/-- Window 1 is never idle (an input). -/
theorem liveAt3_1 : ∀ t : Fin cfg3.N, cfg3.idle 1 (grid3.coords t) = false := fun _ => rfl
/-- Window 2 is never idle (an input). -/
theorem liveAt3_2 : ∀ t : Fin cfg3.N, cfg3.idle 2 (grid3.coords t) = false := fun _ => rfl
/-- Window 3 is never idle (an output stored at every point, under no condition). -/
theorem liveAt3_3 : ∀ t : Fin cfg3.N, cfg3.idle 3 (grid3.coords t) = false := fun _ => rfl
/-- Whether output 4's buffer is FRESH at each position `1 ‥ N` — holds nothing the body stored since the region's entry or the
    last write-back (written back at the point before, or idle there and fresh before it) —, as a bitmask the classifier
    computed, bit `n` for position `n + 1`; position 0 is fresh. `freshTab3_4_step` checks it against the configuration's own
    step point by point and Lib/Pipeline/TableIdle.lean `Cfg.fresh_tab` makes it `Cfg.fresh` (`fresh3_4_eq`). -/
def freshTab3_4 : ℕ → Bool
  | 0 => true
  | n + 1 => (0x80 : ℕ).testBit n
theorem freshTab3_4_step : ∀ t : Fin cfg3.N,
    freshTab3_4 (t.val + 1) = ((cfg3.win 4).flush t || (cfg3.idle 4 (cfg3.grid.coords t) && freshTab3_4 t.val)) := by decide +kernel
theorem fresh3_4_eq (t : Fin cfg3.N) : cfg3.fresh 4 t.val = freshTab3_4 t.val :=
  Pipeline.Cfg.fresh_tab cfg3 4 freshTab3_4 rfl freshTab3_4_step t.val (Nat.le_of_lt t.isLt)
/-- At the points of case A the printed configuration (`Cfg.idle`) calls output 4 live: the case stores into it. -/
theorem liveAt3_4_A : ∀ t : Fin cfg3.N, cond3_0 (grid3.coords t) → ¬cond3_1 (grid3.coords t) → cfg3.idle 4 (grid3.coords t) = false := by decide +kernel
/-- At the points of case B the printed configuration (`Cfg.idle`) calls output 4 live: the case stores into it. -/
theorem liveAt3_4_B : ∀ t : Fin cfg3.N, ¬cond3_0 (grid3.coords t) → cond3_1 (grid3.coords t) → cfg3.idle 4 (grid3.coords t) = false := by decide +kernel
/-- At the points of case B, which keeps output 4's prior contents (reads it before covering, or covers it in part), the
    window's buffer is not FRESH: something was stored into it since the region's entry or its last write-back, idle points
    between or not (Lib/Pipeline/TableIdle.lean `Cfg.fresh`, by the table `freshTab3_4`). -/
theorem notFresh3_4_B : ∀ t : Fin cfg3.N, ¬cond3_0 (grid3.coords t) → cond3_1 (grid3.coords t) → cfg3.fresh 4 t.val = false := by
  intro t; rw [fresh3_4_eq t]; revert t; decide +kernel

/-! ## The kernel body on any staging memrefs: a subtype the run finds -/

/-- One staging buffer of output window 3, through which its contents are stated (`View.read_writes_of_cover`: the
    choice does not matter). -/
abbrev VO3_3 : View sig .tc .vmem S784x64 .f32 := (Memref.whole cc3_stg3_0 : Memref sig .tc .vmem S784x64 .f32).view
/-- One staging buffer of output window 4, through which its contents are stated (`View.read_writes_of_cover`: the
    choice does not matter). -/
abbrev VO3_4 : View sig .tc .vmem S1x1 .f32 := (Memref.whole cc3_stg4_0 : Memref sig .tc .vmem S1x1 .f32).view
/-- Each window's current staging memref at point `t`, spelled as the pipeline passes it (`bodyAt3`), and its wholeness. -/
abbrev ms3_0 (t : Fin cfg3.N) : Memref sig .tc .vmem S784x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S784x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1 .f32 := win3_4.stage (cfg3.slots t 4)
abbrev hs3_4 (t : Fin cfg3.N) : (ms3_4 t).IsWhole := hstage3_4 ((cfg3.slots t 4).cast nbuf3_4)

set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_A (c : Dev nD) (i : grid3.Coords) (arg1 : Memref sig .tc .vmem S784x64 .f32) (harg1 : arg1.IsWhole) (arg2 : Memref sig .tc .vmem S1024x64 .f32) (harg2 : arg2.IsWhole) (arg3 : Memref sig .tc .vmem S64x1024 .f32) (harg3 : arg3.IsWhole) (arg4 : Memref sig .tc .vmem S784x64 .f32) (harg4 : arg4.IsWhole) (arg5 : Memref sig .tc .vmem S1x1 .f32) (harg5 : arg5.IsWhole) (hc0 : cond3_0 i) (hc1 : ¬cond3_1 i)
    (x0 : Vec F S784x64 .f32) (x1 : Vec F S1024x64 .f32) (x2 : Vec F S64x1024 .f32) :
    Σ' (L3 : List (View.Piece (Elt F) S784x64 .f32)), { L4 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc3__vq_kernel i arg1 harg1 arg2 harg2 arg3 harg3 arg4 harg4 arg5 harg5) K } := by
  refine ⟨?_, ?_, fun E K => ?run⟩
  case run =>
    simp only [cc3__vq_kernel_eq_skeleton]; unfold cc3__vq_kernel_skel
    simp only [k3_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-- Case A's pieces for output 3 tile its block (1 store of `S784x64`, checked by evaluation), so they cover it. -/
theorem cover3_A_3 (c : Dev nD) (i : grid3.Coords) (arg1 : Memref sig .tc .vmem S784x64 .f32) (harg1 : arg1.IsWhole) (arg2 : Memref sig .tc .vmem S1024x64 .f32) (harg2 : arg2.IsWhole) (arg3 : Memref sig .tc .vmem S64x1024 .f32) (harg3 : arg3.IsWhole) (arg4 : Memref sig .tc .vmem S784x64 .f32) (harg4 : arg4.IsWhole) (arg5 : Memref sig .tc .vmem S1x1 .f32) (harg5 : arg5.IsWhole) (hc0 : cond3_0 i) (hc1 : ¬cond3_1 i)
    (x0 : Vec F S784x64 .f32) (x1 : Vec F S1024x64 .f32) (x2 : Vec F S64x1024 .f32) (y : S784x64.Idx) :
    ∃ pc ∈ (kernelRun3_A c i arg1 harg1 arg2 harg2 arg3 harg3 arg4 harg4 arg5 harg5 hc0 hc1 x0 x1 x2).1, y ∈ pc.1.set :=
  View.cover_of_tiledL (kernelRun3_A c i arg1 harg1 arg2 harg2 arg3 harg3 arg4 harg4 arg5 harg5 hc0 hc1 x0 x1 x2).1 S784x64.size (by sl_kernel_rfl) y

/-- What case A leaves in output 3's staging buffer: its pieces read back over junk. -/
def out3_A_3 (c : Dev nD) (i : grid3.Coords) (arg1 : Memref sig .tc .vmem S784x64 .f32) (harg1 : arg1.IsWhole) (arg2 : Memref sig .tc .vmem S1024x64 .f32) (harg2 : arg2.IsWhole) (arg3 : Memref sig .tc .vmem S64x1024 .f32) (harg3 : arg3.IsWhole) (arg4 : Memref sig .tc .vmem S784x64 .f32) (harg4 : arg4.IsWhole) (arg5 : Memref sig .tc .vmem S1x1 .f32) (harg5 : arg5.IsWhole) (hc0 : cond3_0 i) (hc1 : ¬cond3_1 i)
    (x0 : Vec F S784x64 .f32) (x1 : Vec F S1024x64 .f32) (x2 : Vec F S64x1024 .f32) : Vec F S784x64 .f32 :=
  VO3_3.read (Elt F) (VO3_3.writes (Elt F) VO3_3.junk (kernelRun3_A c i arg1 harg1 arg2 harg2 arg3 harg3 arg4 harg4 arg5 harg5 hc0 hc1 x0 x1 x2).1)

/-- Case A's pieces for output 4 tile its block (1 store of `S1x1`, checked by evaluation), so they cover it. -/
theorem cover3_A_4 (c : Dev nD) (i : grid3.Coords) (arg1 : Memref sig .tc .vmem S784x64 .f32) (harg1 : arg1.IsWhole) (arg2 : Memref sig .tc .vmem S1024x64 .f32) (harg2 : arg2.IsWhole) (arg3 : Memref sig .tc .vmem S64x1024 .f32) (harg3 : arg3.IsWhole) (arg4 : Memref sig .tc .vmem S784x64 .f32) (harg4 : arg4.IsWhole) (arg5 : Memref sig .tc .vmem S1x1 .f32) (harg5 : arg5.IsWhole) (hc0 : cond3_0 i) (hc1 : ¬cond3_1 i)
    (x0 : Vec F S784x64 .f32) (x1 : Vec F S1024x64 .f32) (x2 : Vec F S64x1024 .f32) (y : S1x1.Idx) :
    ∃ pc ∈ (kernelRun3_A c i arg1 harg1 arg2 harg2 arg3 harg3 arg4 harg4 arg5 harg5 hc0 hc1 x0 x1 x2).2.1, y ∈ pc.1.set :=
  View.cover_of_tiledL (kernelRun3_A c i arg1 harg1 arg2 harg2 arg3 harg3 arg4 harg4 arg5 harg5 hc0 hc1 x0 x1 x2).2.1 S1x1.size (by sl_kernel_rfl) y

/-- What case A leaves in output 4's staging buffer: its pieces read back over junk. -/
def out3_A_4 (c : Dev nD) (i : grid3.Coords) (arg1 : Memref sig .tc .vmem S784x64 .f32) (harg1 : arg1.IsWhole) (arg2 : Memref sig .tc .vmem S1024x64 .f32) (harg2 : arg2.IsWhole) (arg3 : Memref sig .tc .vmem S64x1024 .f32) (harg3 : arg3.IsWhole) (arg4 : Memref sig .tc .vmem S784x64 .f32) (harg4 : arg4.IsWhole) (arg5 : Memref sig .tc .vmem S1x1 .f32) (harg5 : arg5.IsWhole) (hc0 : cond3_0 i) (hc1 : ¬cond3_1 i)
    (x0 : Vec F S784x64 .f32) (x1 : Vec F S1024x64 .f32) (x2 : Vec F S64x1024 .f32) : Vec F S1x1 .f32 :=
  VO3_4.read (Elt F) (VO3_4.writes (Elt F) VO3_4.junk (kernelRun3_A c i arg1 harg1 arg2 harg2 arg3 harg3 arg4 harg4 arg5 harg5 hc0 hc1 x0 x1 x2).2.1)

set_option maxHeartbeats 1000000 in
/-- What the body's stores leave in each output's staging memref, as pieces (last first) IN CASE B (`scf.if` 0 not taken, `scf.if` 1 taken: points 1, 2, … 7: 7 of 8), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_B (c : Dev nD) (i : grid3.Coords) (arg1 : Memref sig .tc .vmem S784x64 .f32) (harg1 : arg1.IsWhole) (arg2 : Memref sig .tc .vmem S1024x64 .f32) (harg2 : arg2.IsWhole) (arg3 : Memref sig .tc .vmem S64x1024 .f32) (harg3 : arg3.IsWhole) (arg4 : Memref sig .tc .vmem S784x64 .f32) (harg4 : arg4.IsWhole) (arg5 : Memref sig .tc .vmem S1x1 .f32) (harg5 : arg5.IsWhole) (hc0 : ¬cond3_0 i) (hc1 : cond3_1 i)
    (x0 : Vec F S784x64 .f32) (x1 : Vec F S1024x64 .f32) (x2 : Vec F S64x1024 .f32) (xo4 : Vec F S1x1 .f32) :
    Σ' (L3 : List (View.Piece (Elt F) S784x64 .f32)), { L4 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo4
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc3__vq_kernel i arg1 harg1 arg2 harg2 arg3 harg3 arg4 harg4 arg5 harg5) K } := by
  refine ⟨?_, ?_, fun E K => ?run⟩
  case run =>
    simp only [cc3__vq_kernel_eq_skeleton]; unfold cc3__vq_kernel_skel
    simp only [k3_part1_eq_skeleton]
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg1.eq_unread hf0; obtain rfl := harg2.eq_unread hf1; obtain rfl := harg3.eq_unread hf2; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-- Case B's pieces for output 3 tile its block (1 store of `S784x64`, checked by evaluation), so they cover it. -/
theorem cover3_B_3 (c : Dev nD) (i : grid3.Coords) (arg1 : Memref sig .tc .vmem S784x64 .f32) (harg1 : arg1.IsWhole) (arg2 : Memref sig .tc .vmem S1024x64 .f32) (harg2 : arg2.IsWhole) (arg3 : Memref sig .tc .vmem S64x1024 .f32) (harg3 : arg3.IsWhole) (arg4 : Memref sig .tc .vmem S784x64 .f32) (harg4 : arg4.IsWhole) (arg5 : Memref sig .tc .vmem S1x1 .f32) (harg5 : arg5.IsWhole) (hc0 : ¬cond3_0 i) (hc1 : cond3_1 i)
    (x0 : Vec F S784x64 .f32) (x1 : Vec F S1024x64 .f32) (x2 : Vec F S64x1024 .f32) (xo4 : Vec F S1x1 .f32) (y : S784x64.Idx) :
    ∃ pc ∈ (kernelRun3_B c i arg1 harg1 arg2 harg2 arg3 harg3 arg4 harg4 arg5 harg5 hc0 hc1 x0 x1 x2 xo4).1, y ∈ pc.1.set :=
  View.cover_of_tiledL (kernelRun3_B c i arg1 harg1 arg2 harg2 arg3 harg3 arg4 harg4 arg5 harg5 hc0 hc1 x0 x1 x2 xo4).1 S784x64.size (by sl_kernel_rfl) y

/-- What case B leaves in output 3's staging buffer: its pieces read back over junk. -/
def out3_B_3 (c : Dev nD) (i : grid3.Coords) (arg1 : Memref sig .tc .vmem S784x64 .f32) (harg1 : arg1.IsWhole) (arg2 : Memref sig .tc .vmem S1024x64 .f32) (harg2 : arg2.IsWhole) (arg3 : Memref sig .tc .vmem S64x1024 .f32) (harg3 : arg3.IsWhole) (arg4 : Memref sig .tc .vmem S784x64 .f32) (harg4 : arg4.IsWhole) (arg5 : Memref sig .tc .vmem S1x1 .f32) (harg5 : arg5.IsWhole) (hc0 : ¬cond3_0 i) (hc1 : cond3_1 i)
    (x0 : Vec F S784x64 .f32) (x1 : Vec F S1024x64 .f32) (x2 : Vec F S64x1024 .f32) (xo4 : Vec F S1x1 .f32) : Vec F S784x64 .f32 :=
  VO3_3.read (Elt F) (VO3_3.writes (Elt F) VO3_3.junk (kernelRun3_B c i arg1 harg1 arg2 harg2 arg3 harg3 arg4 harg4 arg5 harg5 hc0 hc1 x0 x1 x2 xo4).1)

/-- Case B's pieces for output 4 tile its block (1 store of `S1x1`, checked by evaluation), so they cover it. -/
theorem cover3_B_4 (c : Dev nD) (i : grid3.Coords) (arg1 : Memref sig .tc .vmem S784x64 .f32) (harg1 : arg1.IsWhole) (arg2 : Memref sig .tc .vmem S1024x64 .f32) (harg2 : arg2.IsWhole) (arg3 : Memref sig .tc .vmem S64x1024 .f32) (harg3 : arg3.IsWhole) (arg4 : Memref sig .tc .vmem S784x64 .f32) (harg4 : arg4.IsWhole) (arg5 : Memref sig .tc .vmem S1x1 .f32) (harg5 : arg5.IsWhole) (hc0 : ¬cond3_0 i) (hc1 : cond3_1 i)
    (x0 : Vec F S784x64 .f32) (x1 : Vec F S1024x64 .f32) (x2 : Vec F S64x1024 .f32) (xo4 : Vec F S1x1 .f32) (y : S1x1.Idx) :
    ∃ pc ∈ (kernelRun3_B c i arg1 harg1 arg2 harg2 arg3 harg3 arg4 harg4 arg5 harg5 hc0 hc1 x0 x1 x2 xo4).2.1, y ∈ pc.1.set :=
  View.cover_of_tiledL (kernelRun3_B c i arg1 harg1 arg2 harg2 arg3 harg3 arg4 harg4 arg5 harg5 hc0 hc1 x0 x1 x2 xo4).2.1 S1x1.size (by sl_kernel_rfl) y

/-- What case B leaves in output 4's staging buffer: its pieces read back over junk. -/
def out3_B_4 (c : Dev nD) (i : grid3.Coords) (arg1 : Memref sig .tc .vmem S784x64 .f32) (harg1 : arg1.IsWhole) (arg2 : Memref sig .tc .vmem S1024x64 .f32) (harg2 : arg2.IsWhole) (arg3 : Memref sig .tc .vmem S64x1024 .f32) (harg3 : arg3.IsWhole) (arg4 : Memref sig .tc .vmem S784x64 .f32) (harg4 : arg4.IsWhole) (arg5 : Memref sig .tc .vmem S1x1 .f32) (harg5 : arg5.IsWhole) (hc0 : ¬cond3_0 i) (hc1 : cond3_1 i)
    (x0 : Vec F S784x64 .f32) (x1 : Vec F S1024x64 .f32) (x2 : Vec F S64x1024 .f32) (xo4 : Vec F S1x1 .f32) : Vec F S1x1 .f32 :=
  VO3_4.read (Elt F) (VO3_4.writes (Elt F) VO3_4.junk (kernelRun3_B c i arg1 harg1 arg2 harg2 arg3 harg3 arg4 harg4 arg5 harg5 hc0 hc1 x0 x1 x2 xo4).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before3_W_κ`); an output it leaves idle whose contents another case keeps stays
    what this leaves at `n - 1`, carried. An assignment of the conditions no point meets is no case (`False.elim`). -/
def outsAt3 (c : Dev nD) : (n : ℕ) → n < cfg3.N → Vec F S784x64 .f32 × Vec F S1x1 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : 1 ≤ (n + 1) then
        False.elim (by have hN : n + 1 < 8 := lt_of_lt_of_eq hn (show cfg3.N = 8 from N_3); omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : 1 ≤ (n + 1) then
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        False.elim (by have hN : n + 1 < 8 := lt_of_lt_of_eq hn (show cfg3.N = 8 from N_3); omega)

/-- `outsAt3` at a point of case A: that case's contents. -/
theorem outsAt3_A (c : Dev nD) (t : Fin cfg3.N) (h0 : t.val % 8 = 0) (h1 : ¬1 ≤ t.val) :
    outsAt3 V c t.val t.isLt = (out3_A_3 c (grid3.coords t) (ms3_0 t) (hs3_0 t) (ms3_1 t) (hs3_1 t) (ms3_2 t) (hs3_2 t) (ms3_3 t) (hs3_3 t) (ms3_4 t) (hs3_4 t) ((hcond3_0 t).mpr h0) (fun h => h1 ((hcond3_1 t).mp h)) (iblk3 V c 0 t) (iblk3 V c 1 t) (iblk3 V c 2 t), out3_A_4 c (grid3.coords t) (ms3_0 t) (hs3_0 t) (ms3_1 t) (hs3_1 t) (ms3_2 t) (hs3_2 t) (ms3_3 t) (hs3_3 t) (ms3_4 t) (hs3_4 t) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 8 = 0) (h1 : 1 ≤ t.val) :
    outsAt3 V c t.val t.isLt = (out3_B_3 c (grid3.coords t) (ms3_0 t) (hs3_0 t) (ms3_1 t) (hs3_1 t) (ms3_2 t) (hs3_2 t) (ms3_3 t) (hs3_3 t) (ms3_4 t) (hs3_4 t) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, out3_B_4 c (grid3.coords t) (ms3_0 t) (hs3_0 t) (ms3_1 t) (hs3_1 t) (ms3_2 t) (hs3_2 t) (ms3_3 t) (hs3_3 t) (ms3_4 t) (hs3_4 t) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 3 on core `c`: the arrays as the region finds them (`V`); after the body at
    point `t` each input's buffer at its block and the outputs' at `outsAt3`; the invariant the class's
    (Lib/Pipeline/Frame.lean `ΦA`: the scoped rest and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2 := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- Output 4's contents CARRY through the points that leave it idle: at such a point, its buffer not fresh, the proof data's
    `after` is the point before's (the case there stores nothing into the window and its term says so; a case that stores
    into it is not idle there by `liveAt3_4_κ`) — the hypothesis of Lib/Pipeline/TableIdle.lean `Dat.before_out_traj`. -/
theorem hcarry3_4 (c : Dev nD) : ∀ (t : Fin cfg3.N) (_ : t.val ≠ 0), cfg3.idle 4 (grid3.coords t) = true → cfg3.fresh 4 t.val = false →
    (dat3 V c).after 4 t = (dat3 V c).after 4 ⟨t.val - 1, by omega⟩ := by
  intro t _ hi _
  have hN : t.val < 8 := lt_of_lt_of_eq t.isLt (show cfg3.N = 8 from N_3)
  rw [after3_4, after3_4]
  by_cases h0 : t.val % 8 = 0
  · by_cases h1 : 1 ≤ t.val
    · exfalso; omega
    · rw [liveAt3_4_A t ((hcond3_0 t).mpr h0) (fun h => h1 ((hcond3_1 t).mp h))] at hi
      exact absurd hi Bool.false_ne_true
  · by_cases h1 : 1 ≤ t.val
    · rw [liveAt3_4_B t (fun h => h0 ((hcond3_0 t).mp h)) ((hcond3_1 t).mpr h1)] at hi
      exact absurd hi Bool.false_ne_true
    · exfalso; omega
/-- At a point of case B output 4's current staging buffer holds what the point before left: the buffer is not fresh
    there (`notFresh3_4_B`: stored into since the region's entry or the last write-back, carried through the points that
    leave it idle by `hcarry3_4`; Lib/Pipeline/TableIdle.lean `Dat.before_out_traj`). -/
theorem before3_4_B (c : Dev nD) (t : Fin cfg3.N) (h0 : ¬t.val % 8 = 0) (h1 : 1 ≤ t.val) (d) :
    (dat3 V c).before 4 t d = (outsAt3 V c (t.val - 1) (Nat.lt_of_le_of_lt (Nat.sub_le _ _) t.isLt)).2 := by
  rw [Dat.before_out_traj _ 4 rfl (fun _ _ => rfl) (hcarry3_4 V c) t.val t rfl d,
    if_neg (by rw [notFresh3_4_B t (fun h => h0 ((hcond3_0 t).mp h)) ((hcond3_1 t).mpr h1)]; exact Bool.false_ne_true)]
  dsimp only [dat3]

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 800000 in
/-- The body at any point: the inputs' memrefs hold their blocks (`before3_W`); the closed forms say which case the point is in (`by_cases`), an output the case reads before covering holds what the point before left (`before3_W_κ`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl]
  have hN : t.val < 8 := lt_of_lt_of_eq t.isLt (show cfg3.N = 8 from N_3)
  by_cases h0 : t.val % 8 = 0
  · by_cases h1 : 1 ≤ t.val
    · exfalso; omega
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4_A t ((hcond3_0 t).mpr h0) (fun h => h1 ((hcond3_1 t).mp h))], after3_4]
      rw [outsAt3_A V c t h0 h1]
      unfold out3_A_3 out3_A_4; (try dsimp only)
      iintro ⟨HΦ, Ho, ⟨%d0, H0⟩, ⟨%d1, H1⟩, ⟨%d2, H2⟩, ⟨%d3, H3⟩, ⟨%d4, H4⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 Set.univ _)
      isplitl [H0]; · iexact H0
      isplitl [H1]; · iexact H1
      isplitl [H2]; · iexact H2
      isplitl [H3]; · iexists _; iexact H3
      isplitl [H4]; · iexists _; iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_A_3 c _ _ _ _ _ _ _ _ _ _ _ _ _ _ _ _)
      unfold owns; iexists _; isplitr
      swap; · iexact H4
      ipureintro; exact View.read_writes_of_cover _ _ _ _ _ (cover3_A_4 c _ _ _ _ _ _ _ _ _ _ _ _ _ _ _ _)
  · by_cases h1 : 1 ≤ t.val
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4_B t (fun h => h0 ((hcond3_0 t).mp h)) ((hcond3_1 t).mpr h1)], after3_4]
      rw [outsAt3_B V c t h0 h1]
      simp only [before3_4_B V c t h0 h1]
      unfold out3_B_3 out3_B_4; (try dsimp only)
      iintro ⟨HΦ, Ho, ⟨%d0, H0⟩, ⟨%d1, H1⟩, ⟨%d2, H2⟩, ⟨%d3, H3⟩, ⟨%d4, H4⟩⟩
      iapply ((kernelRun3_B c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [H4]; · iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_B_3 c _ _ _ _ _ _ _ _ _ _ _ _ _ _ _ _ _)
      unfold owns; iexists _; isplitr
      swap; · iexact H4
      ipureintro; exact View.read_writes_of_cover _ _ _ _ _ (cover3_B_4 c _ _ _ _ _ _ _ _ _ _ _ _ _ _ _ _ _)
    · exfalso; omega

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Run

end
-- ==== Proof.Run.Region4.lean ====
/- The body of pallas_call 4 at any contents of the buffers: what its output blocks hold after a grid point, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 4 of @main: custom_call 4, `cc4__dec_conv_kernel` (pipeline 4), at the entry contents `V` -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S1x30x40x64 := Rect.unit (s := S1x30x40x64) ![0, 0, 0, 0] S1x28x32x64.size inb_S1x30x40x64_S1x28x32x64_0_0_0_0
abbrev r4_1 : Rect S4x4x64x192 := Rect.unit (s := S4x4x64x192) ![0, 0, 0, 0] S1x1x64x192.size inb_S4x4x64x192_S1x1x64x192_0_0_0_0
abbrev r4_2 : Rect S1x30x40x64 := Rect.unit (s := S1x30x40x64) ![0, 0, 1, 0] S1x28x32x64.size inb_S1x30x40x64_S1x28x32x64_0_0_1_0
abbrev r4_3 : Rect S4x4x64x192 := Rect.unit (s := S4x4x64x192) ![0, 1, 0, 0] S1x1x64x192.size inb_S4x4x64x192_S1x1x64x192_0_1_0_0
abbrev r4_4 : Rect S1x30x40x64 := Rect.unit (s := S1x30x40x64) ![0, 1, 0, 0] S1x28x32x64.size inb_S1x30x40x64_S1x28x32x64_0_1_0_0
abbrev r4_5 : Rect S4x4x64x192 := Rect.unit (s := S4x4x64x192) ![0, 2, 0, 0] S1x1x64x192.size inb_S4x4x64x192_S1x1x64x192_0_2_0_0
abbrev r4_6 : Rect S1x30x40x64 := Rect.unit (s := S1x30x40x64) ![0, 1, 1, 0] S1x28x32x64.size inb_S1x30x40x64_S1x28x32x64_0_1_1_0
abbrev r4_7 : Rect S4x4x64x192 := Rect.unit (s := S4x4x64x192) ![0, 3, 0, 0] S1x1x64x192.size inb_S4x4x64x192_S1x1x64x192_0_3_0_0
abbrev r4_8 : Rect S1x4x28x32x192 := Rect.unit (s := S1x4x28x32x192) ![0, 0, 0, 0, 0] S1x1x28x32x192.size inb_S1x4x28x32x192_S1x1x28x32x192_0_0_0_0_0
abbrev r4_9 : Rect S4x4x64x192 := Rect.unit (s := S4x4x64x192) ![1, 0, 0, 0] S1x1x64x192.size inb_S4x4x64x192_S1x1x64x192_1_0_0_0
abbrev r4_10 : Rect S1x30x40x64 := Rect.unit (s := S1x30x40x64) ![0, 0, 2, 0] S1x28x32x64.size inb_S1x30x40x64_S1x28x32x64_0_0_2_0
abbrev r4_11 : Rect S4x4x64x192 := Rect.unit (s := S4x4x64x192) ![1, 1, 0, 0] S1x1x64x192.size inb_S4x4x64x192_S1x1x64x192_1_1_0_0
abbrev r4_12 : Rect S4x4x64x192 := Rect.unit (s := S4x4x64x192) ![1, 2, 0, 0] S1x1x64x192.size inb_S4x4x64x192_S1x1x64x192_1_2_0_0
abbrev r4_13 : Rect S1x30x40x64 := Rect.unit (s := S1x30x40x64) ![0, 1, 2, 0] S1x28x32x64.size inb_S1x30x40x64_S1x28x32x64_0_1_2_0
abbrev r4_14 : Rect S4x4x64x192 := Rect.unit (s := S4x4x64x192) ![1, 3, 0, 0] S1x1x64x192.size inb_S4x4x64x192_S1x1x64x192_1_3_0_0
abbrev r4_15 : Rect S1x4x28x32x192 := Rect.unit (s := S1x4x28x32x192) ![0, 1, 0, 0, 0] S1x1x28x32x192.size inb_S1x4x28x32x192_S1x1x28x32x192_0_1_0_0_0
abbrev r4_16 : Rect S4x4x64x192 := Rect.unit (s := S4x4x64x192) ![2, 0, 0, 0] S1x1x64x192.size inb_S4x4x64x192_S1x1x64x192_2_0_0_0
abbrev r4_17 : Rect S4x4x64x192 := Rect.unit (s := S4x4x64x192) ![2, 1, 0, 0] S1x1x64x192.size inb_S4x4x64x192_S1x1x64x192_2_1_0_0
abbrev r4_18 : Rect S1x30x40x64 := Rect.unit (s := S1x30x40x64) ![0, 2, 0, 0] S1x28x32x64.size inb_S1x30x40x64_S1x28x32x64_0_2_0_0
abbrev r4_19 : Rect S4x4x64x192 := Rect.unit (s := S4x4x64x192) ![2, 2, 0, 0] S1x1x64x192.size inb_S4x4x64x192_S1x1x64x192_2_2_0_0
abbrev r4_20 : Rect S1x30x40x64 := Rect.unit (s := S1x30x40x64) ![0, 2, 1, 0] S1x28x32x64.size inb_S1x30x40x64_S1x28x32x64_0_2_1_0
abbrev r4_21 : Rect S4x4x64x192 := Rect.unit (s := S4x4x64x192) ![2, 3, 0, 0] S1x1x64x192.size inb_S4x4x64x192_S1x1x64x192_2_3_0_0
abbrev r4_22 : Rect S1x4x28x32x192 := Rect.unit (s := S1x4x28x32x192) ![0, 2, 0, 0, 0] S1x1x28x32x192.size inb_S1x4x28x32x192_S1x1x28x32x192_0_2_0_0_0
abbrev r4_23 : Rect S4x4x64x192 := Rect.unit (s := S4x4x64x192) ![3, 0, 0, 0] S1x1x64x192.size inb_S4x4x64x192_S1x1x64x192_3_0_0_0
abbrev r4_24 : Rect S4x4x64x192 := Rect.unit (s := S4x4x64x192) ![3, 1, 0, 0] S1x1x64x192.size inb_S4x4x64x192_S1x1x64x192_3_1_0_0
abbrev r4_25 : Rect S4x4x64x192 := Rect.unit (s := S4x4x64x192) ![3, 2, 0, 0] S1x1x64x192.size inb_S4x4x64x192_S1x1x64x192_3_2_0_0
abbrev r4_26 : Rect S1x30x40x64 := Rect.unit (s := S1x30x40x64) ![0, 2, 2, 0] S1x28x32x64.size inb_S1x30x40x64_S1x28x32x64_0_2_2_0
abbrev r4_27 : Rect S4x4x64x192 := Rect.unit (s := S4x4x64x192) ![3, 3, 0, 0] S1x1x64x192.size inb_S4x4x64x192_S1x1x64x192_3_3_0_0
abbrev r4_28 : Rect S1x4x28x32x192 := Rect.unit (s := S1x4x28x32x192) ![0, 3, 0, 0, 0] S1x1x28x32x192.size inb_S1x4x28x32x192_S1x1x28x32x192_0_3_0_0_0

/-! ## What the body leaves in each output window's buffer -/

/-- Window 2's staging buffer after the body, from the input windows' blocks: its 4 stores as pieces, LAST
    FIRST (Lib/Pipeline/FrameBody.lean `View.canon`; the payloads are the skeleton's). -/
def out4_2 (x0 : Vec F S1x30x40x64 .f32) (x1 : Vec F S4x4x64x192 .f32) : Vec F S1x4x28x32x192 .f32 :=
  View.canon [⟨r4_28, k4_pay1 (k4_pay12 (k4_pay11 (View.ld x0 r4_6)) (View.ld x1 r4_23) (View.ld x0 r4_13) (View.ld x1 r4_24) (View.ld x0 r4_20) (View.ld x1 r4_25) (View.ld x0 r4_26) (View.ld x1 r4_27))⟩,
    ⟨r4_22, k4_pay10 (k4_pay8 (View.ld x0 r4_4) (View.ld x1 r4_16)) (k4_pay9 (View.ld x0 r4_6)) (View.ld x1 r4_17) (View.ld x0 r4_18) (View.ld x1 r4_19) (View.ld x0 r4_20) (View.ld x1 r4_21)⟩,
    ⟨r4_15, k4_pay7 (k4_pay5 (View.ld x0 r4_2) (View.ld x1 r4_9) (View.ld x0 r4_10) (View.ld x1 r4_11)) (k4_pay6 (View.ld x0 r4_6)) (View.ld x1 r4_12) (View.ld x0 r4_13) (View.ld x1 r4_14)⟩,
    ⟨r4_8, k4_pay4 (k4_pay2 (View.ld x0 r4_0) (View.ld x1 r4_1) (View.ld x0 r4_2) (View.ld x1 r4_3) (View.ld x0 r4_4) (View.ld x1 r4_5)) (k4_pay3 (View.ld x0 r4_6)) (View.ld x1 r4_7)⟩]

/-- Its stores tile the buffer (checked by evaluation), so they cover it. -/
theorem cover4_2 (p0 : Vec F S1x1x28x32x192 .f32) (p1 : Vec F S1x1x28x32x192 .f32) (p2 : Vec F S1x1x28x32x192 .f32) (p3 : Vec F S1x1x28x32x192 .f32) (y : S1x4x28x32x192.Idx) :
    ∃ pc ∈ ([⟨r4_28, p0⟩, ⟨r4_22, p1⟩, ⟨r4_15, p2⟩, ⟨r4_8, p3⟩] : List (View.Piece (Elt F) S1x4x28x32x192 .f32)), y ∈ pc.1.set :=
  View.cover_of_tiled [⟨r4_28, p0⟩, ⟨r4_22, p1⟩, ⟨r4_15, p2⟩, ⟨r4_8, p3⟩] S1x1x28x32x192.size (by rfl) y

/-! ## The body's triple -/

set_option maxHeartbeats 1000000 in
/-- The kernel body on whole staging memrefs, the inputs' at read contents `xW` and the outputs' at anything, runs to
    the continuation holding the inputs' as they were and each output's at `out4_W` of the inputs': the printed functions
    are their skeletons (`Gen.*_eq_skeleton`), which `sl_exec` runs (Lib/Exec.lean), through every part call. -/
theorem sound_kernel4 (c : Dev nD) (E : Set ℕ) (i : grid4.Coords) (arg1 : Memref sig .tc .vmem S1x30x40x64 .f32) (harg1 : arg1.IsWhole) (arg2 : Memref sig .tc .vmem S4x4x64x192 .f32) (harg2 : arg2.IsWhole) (arg3 : Memref sig .tc .vmem S1x4x28x32x192 .f32) (harg3 : arg3.IsWhole)
    (x0 : Vec F S1x30x40x64 .f32) (x1 : Vec F S4x4x64x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__dec_conv_kernel i arg1 harg1 arg2 harg2 arg3 harg3) K := by
  simp only [cc4__dec_conv_kernel_eq_skeleton]; unfold cc4__dec_conv_kernel_skel
  simp only [k4_part1_eq_skeleton, k4_part2_eq_skeleton, k4_part3_eq_skeleton, k4_part4_eq_skeleton, k4_part5_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _ _ _ _)

/-! ## The pipeline's proof data -/

/-- The proof data of pipeline 4 on core `c`: the arrays as the region finds them (`V`); after the body at
    point `t` each input's buffer at its block and each output's at `out4_W` of the input blocks; the invariant the
    class's (Lib/Pipeline/Frame.lean `ΦA`: the scoped rest and the generator register, untouched); nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks (`before4_W`), so `sound_kernel4` applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Run

end
-- ==== Proof.Run.Region5.lean ====
/- The body of pallas_call 5 at any contents of the buffers: what its output blocks hold after a grid point, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 5 of @main: custom_call 5, `cc5__dec_conv_kernel` (pipeline 5), at the entry contents `V` -/

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S1x58x64x192 := Rect.unit (s := S1x58x64x192) ![0, 0, 0, 0] S1x56x56x192.size inb_S1x58x64x192_S1x56x56x192_0_0_0_0
abbrev r5_1 : Rect S4x4x192x96 := Rect.unit (s := S4x4x192x96) ![0, 0, 0, 0] S1x1x192x96.size inb_S4x4x192x96_S1x1x192x96_0_0_0_0
abbrev r5_2 : Rect S1x58x64x192 := Rect.unit (s := S1x58x64x192) ![0, 0, 1, 0] S1x56x56x192.size inb_S1x58x64x192_S1x56x56x192_0_0_1_0
abbrev r5_3 : Rect S4x4x192x96 := Rect.unit (s := S4x4x192x96) ![0, 1, 0, 0] S1x1x192x96.size inb_S4x4x192x96_S1x1x192x96_0_1_0_0
abbrev r5_4 : Rect S1x58x64x192 := Rect.unit (s := S1x58x64x192) ![0, 1, 0, 0] S1x56x56x192.size inb_S1x58x64x192_S1x56x56x192_0_1_0_0
abbrev r5_5 : Rect S4x4x192x96 := Rect.unit (s := S4x4x192x96) ![0, 2, 0, 0] S1x1x192x96.size inb_S4x4x192x96_S1x1x192x96_0_2_0_0
abbrev r5_6 : Rect S1x58x64x192 := Rect.unit (s := S1x58x64x192) ![0, 1, 1, 0] S1x56x56x192.size inb_S1x58x64x192_S1x56x56x192_0_1_1_0
abbrev r5_7 : Rect S4x4x192x96 := Rect.unit (s := S4x4x192x96) ![0, 3, 0, 0] S1x1x192x96.size inb_S4x4x192x96_S1x1x192x96_0_3_0_0
abbrev r5_8 : Rect S1x4x56x56x96 := Rect.unit (s := S1x4x56x56x96) ![0, 0, 0, 0, 0] S1x1x56x56x96.size inb_S1x4x56x56x96_S1x1x56x56x96_0_0_0_0_0
abbrev r5_9 : Rect S4x4x192x96 := Rect.unit (s := S4x4x192x96) ![1, 0, 0, 0] S1x1x192x96.size inb_S4x4x192x96_S1x1x192x96_1_0_0_0
abbrev r5_10 : Rect S1x58x64x192 := Rect.unit (s := S1x58x64x192) ![0, 0, 2, 0] S1x56x56x192.size inb_S1x58x64x192_S1x56x56x192_0_0_2_0
abbrev r5_11 : Rect S4x4x192x96 := Rect.unit (s := S4x4x192x96) ![1, 1, 0, 0] S1x1x192x96.size inb_S4x4x192x96_S1x1x192x96_1_1_0_0
abbrev r5_12 : Rect S4x4x192x96 := Rect.unit (s := S4x4x192x96) ![1, 2, 0, 0] S1x1x192x96.size inb_S4x4x192x96_S1x1x192x96_1_2_0_0
abbrev r5_13 : Rect S1x58x64x192 := Rect.unit (s := S1x58x64x192) ![0, 1, 2, 0] S1x56x56x192.size inb_S1x58x64x192_S1x56x56x192_0_1_2_0
abbrev r5_14 : Rect S4x4x192x96 := Rect.unit (s := S4x4x192x96) ![1, 3, 0, 0] S1x1x192x96.size inb_S4x4x192x96_S1x1x192x96_1_3_0_0
abbrev r5_15 : Rect S1x4x56x56x96 := Rect.unit (s := S1x4x56x56x96) ![0, 1, 0, 0, 0] S1x1x56x56x96.size inb_S1x4x56x56x96_S1x1x56x56x96_0_1_0_0_0
abbrev r5_16 : Rect S4x4x192x96 := Rect.unit (s := S4x4x192x96) ![2, 0, 0, 0] S1x1x192x96.size inb_S4x4x192x96_S1x1x192x96_2_0_0_0
abbrev r5_17 : Rect S4x4x192x96 := Rect.unit (s := S4x4x192x96) ![2, 1, 0, 0] S1x1x192x96.size inb_S4x4x192x96_S1x1x192x96_2_1_0_0
abbrev r5_18 : Rect S1x58x64x192 := Rect.unit (s := S1x58x64x192) ![0, 2, 0, 0] S1x56x56x192.size inb_S1x58x64x192_S1x56x56x192_0_2_0_0
abbrev r5_19 : Rect S4x4x192x96 := Rect.unit (s := S4x4x192x96) ![2, 2, 0, 0] S1x1x192x96.size inb_S4x4x192x96_S1x1x192x96_2_2_0_0
abbrev r5_20 : Rect S1x58x64x192 := Rect.unit (s := S1x58x64x192) ![0, 2, 1, 0] S1x56x56x192.size inb_S1x58x64x192_S1x56x56x192_0_2_1_0
abbrev r5_21 : Rect S4x4x192x96 := Rect.unit (s := S4x4x192x96) ![2, 3, 0, 0] S1x1x192x96.size inb_S4x4x192x96_S1x1x192x96_2_3_0_0
abbrev r5_22 : Rect S1x4x56x56x96 := Rect.unit (s := S1x4x56x56x96) ![0, 2, 0, 0, 0] S1x1x56x56x96.size inb_S1x4x56x56x96_S1x1x56x56x96_0_2_0_0_0
abbrev r5_23 : Rect S4x4x192x96 := Rect.unit (s := S4x4x192x96) ![3, 0, 0, 0] S1x1x192x96.size inb_S4x4x192x96_S1x1x192x96_3_0_0_0
abbrev r5_24 : Rect S4x4x192x96 := Rect.unit (s := S4x4x192x96) ![3, 1, 0, 0] S1x1x192x96.size inb_S4x4x192x96_S1x1x192x96_3_1_0_0
abbrev r5_25 : Rect S4x4x192x96 := Rect.unit (s := S4x4x192x96) ![3, 2, 0, 0] S1x1x192x96.size inb_S4x4x192x96_S1x1x192x96_3_2_0_0
abbrev r5_26 : Rect S1x58x64x192 := Rect.unit (s := S1x58x64x192) ![0, 2, 2, 0] S1x56x56x192.size inb_S1x58x64x192_S1x56x56x192_0_2_2_0
abbrev r5_27 : Rect S4x4x192x96 := Rect.unit (s := S4x4x192x96) ![3, 3, 0, 0] S1x1x192x96.size inb_S4x4x192x96_S1x1x192x96_3_3_0_0
abbrev r5_28 : Rect S1x4x56x56x96 := Rect.unit (s := S1x4x56x56x96) ![0, 3, 0, 0, 0] S1x1x56x56x96.size inb_S1x4x56x56x96_S1x1x56x56x96_0_3_0_0_0

/-! ## What the body leaves in each output window's buffer -/

/-- Window 2's staging buffer after the body, from the input windows' blocks: its 4 stores as pieces, LAST
    FIRST (Lib/Pipeline/FrameBody.lean `View.canon`; the payloads are the skeleton's). -/
def out5_2 (x0 : Vec F S1x58x64x192 .f32) (x1 : Vec F S4x4x192x96 .f32) : Vec F S1x4x56x56x96 .f32 :=
  View.canon [⟨r5_28, k5_pay1 (k5_pay12 (k5_pay11 (View.ld x0 r5_6)) (View.ld x1 r5_23) (View.ld x0 r5_13) (View.ld x1 r5_24) (View.ld x0 r5_20) (View.ld x1 r5_25) (View.ld x0 r5_26) (View.ld x1 r5_27))⟩,
    ⟨r5_22, k5_pay10 (k5_pay8 (View.ld x0 r5_4) (View.ld x1 r5_16)) (k5_pay9 (View.ld x0 r5_6)) (View.ld x1 r5_17) (View.ld x0 r5_18) (View.ld x1 r5_19) (View.ld x0 r5_20) (View.ld x1 r5_21)⟩,
    ⟨r5_15, k5_pay7 (k5_pay5 (View.ld x0 r5_2) (View.ld x1 r5_9) (View.ld x0 r5_10) (View.ld x1 r5_11)) (k5_pay6 (View.ld x0 r5_6)) (View.ld x1 r5_12) (View.ld x0 r5_13) (View.ld x1 r5_14)⟩,
    ⟨r5_8, k5_pay4 (k5_pay2 (View.ld x0 r5_0) (View.ld x1 r5_1) (View.ld x0 r5_2) (View.ld x1 r5_3) (View.ld x0 r5_4) (View.ld x1 r5_5)) (k5_pay3 (View.ld x0 r5_6)) (View.ld x1 r5_7)⟩]

/-- Its stores tile the buffer (checked by evaluation), so they cover it. -/
theorem cover5_2 (p0 : Vec F S1x1x56x56x96 .f32) (p1 : Vec F S1x1x56x56x96 .f32) (p2 : Vec F S1x1x56x56x96 .f32) (p3 : Vec F S1x1x56x56x96 .f32) (y : S1x4x56x56x96.Idx) :
    ∃ pc ∈ ([⟨r5_28, p0⟩, ⟨r5_22, p1⟩, ⟨r5_15, p2⟩, ⟨r5_8, p3⟩] : List (View.Piece (Elt F) S1x4x56x56x96 .f32)), y ∈ pc.1.set :=
  View.cover_of_tiled [⟨r5_28, p0⟩, ⟨r5_22, p1⟩, ⟨r5_15, p2⟩, ⟨r5_8, p3⟩] S1x1x56x56x96.size (by rfl) y

/-! ## The body's triple -/

set_option maxHeartbeats 1000000 in
/-- The kernel body on whole staging memrefs, the inputs' at read contents `xW` and the outputs' at anything, runs to
    the continuation holding the inputs' as they were and each output's at `out5_W` of the inputs': the printed functions
    are their skeletons (`Gen.*_eq_skeleton`), which `sl_exec` runs (Lib/Exec.lean), through every part call. -/
theorem sound_kernel5 (c : Dev nD) (E : Set ℕ) (i : grid5.Coords) (arg1 : Memref sig .tc .vmem S1x58x64x192 .f32) (harg1 : arg1.IsWhole) (arg2 : Memref sig .tc .vmem S4x4x192x96 .f32) (harg2 : arg2.IsWhole) (arg3 : Memref sig .tc .vmem S1x4x56x56x96 .f32) (harg3 : arg3.IsWhole)
    (x0 : Vec F S1x58x64x192 .f32) (x1 : Vec F S4x4x192x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__dec_conv_kernel i arg1 harg1 arg2 harg2 arg3 harg3) K := by
  simp only [cc5__dec_conv_kernel_eq_skeleton]; unfold cc5__dec_conv_kernel_skel
  simp only [k5_part1_eq_skeleton, k5_part2_eq_skeleton, k5_part3_eq_skeleton, k5_part4_eq_skeleton, k5_part5_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _ _ _ _)

/-! ## The pipeline's proof data -/

/-- The proof data of pipeline 5 on core `c`: the arrays as the region finds them (`V`); after the body at
    point `t` each input's buffer at its block and each output's at `out5_W` of the input blocks; the invariant the
    class's (Lib/Pipeline/Frame.lean `ΦA`: the scoped rest and the generator register, untouched); nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point, fetched there or not (`beforeK_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t` (Lib/Pipeline.lean `BodyObligation`'s precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks (`before5_W`), so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rw [Defs.onTc_tc]

/-- The library's body obligation, at every point: the body's triple restated (Lib/Pipeline/FrameBody.lean `triple_restated`). -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions

end Cert.KernelIdeal.Run

end
-- ==== Proof.Run.Region6.lean ====
/- The body of pallas_call 6 at any contents of the buffers: what its output blocks hold after a grid point, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 6 of @main: custom_call 6, `cc6__dec_conv9_kernel` (pipeline 6), at the entry contents `V` -/

/-! ## The windows' blocks -/

/-- Window `w`'s block at point `t`, read off its array as the region finds it (`V`). -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S1x114x120x96 := Rect.unit (s := S1x114x120x96) ![0, 0, 0, 0] S1x112x112x96.size inb_S1x114x120x96_S1x112x112x96_0_0_0_0
abbrev r6_1 : Rect S9x96x12 := Rect.unit (s := S9x96x12) ![0, 0, 0] S1x96x12.size inb_S9x96x12_S1x96x12_0_0_0
abbrev r6_2 : Rect S1x114x120x96 := Rect.unit (s := S1x114x120x96) ![0, 0, 1, 0] S1x112x112x96.size inb_S1x114x120x96_S1x112x112x96_0_0_1_0
abbrev r6_3 : Rect S9x96x12 := Rect.unit (s := S9x96x12) ![1, 0, 0] S1x96x12.size inb_S9x96x12_S1x96x12_1_0_0
abbrev r6_4 : Rect S1x114x120x96 := Rect.unit (s := S1x114x120x96) ![0, 0, 2, 0] S1x112x112x96.size inb_S1x114x120x96_S1x112x112x96_0_0_2_0
abbrev r6_5 : Rect S9x96x12 := Rect.unit (s := S9x96x12) ![2, 0, 0] S1x96x12.size inb_S9x96x12_S1x96x12_2_0_0
abbrev r6_6 : Rect S1x114x120x96 := Rect.unit (s := S1x114x120x96) ![0, 1, 0, 0] S1x112x112x96.size inb_S1x114x120x96_S1x112x112x96_0_1_0_0
abbrev r6_7 : Rect S9x96x12 := Rect.unit (s := S9x96x12) ![3, 0, 0] S1x96x12.size inb_S9x96x12_S1x96x12_3_0_0
abbrev r6_8 : Rect S1x114x120x96 := Rect.unit (s := S1x114x120x96) ![0, 1, 1, 0] S1x112x112x96.size inb_S1x114x120x96_S1x112x112x96_0_1_1_0
abbrev r6_9 : Rect S9x96x12 := Rect.unit (s := S9x96x12) ![4, 0, 0] S1x96x12.size inb_S9x96x12_S1x96x12_4_0_0
abbrev r6_10 : Rect S1x114x120x96 := Rect.unit (s := S1x114x120x96) ![0, 1, 2, 0] S1x112x112x96.size inb_S1x114x120x96_S1x112x112x96_0_1_2_0
abbrev r6_11 : Rect S9x96x12 := Rect.unit (s := S9x96x12) ![5, 0, 0] S1x96x12.size inb_S9x96x12_S1x96x12_5_0_0
abbrev r6_12 : Rect S1x114x120x96 := Rect.unit (s := S1x114x120x96) ![0, 2, 0, 0] S1x112x112x96.size inb_S1x114x120x96_S1x112x112x96_0_2_0_0
abbrev r6_13 : Rect S9x96x12 := Rect.unit (s := S9x96x12) ![6, 0, 0] S1x96x12.size inb_S9x96x12_S1x96x12_6_0_0
abbrev r6_14 : Rect S1x114x120x96 := Rect.unit (s := S1x114x120x96) ![0, 2, 1, 0] S1x112x112x96.size inb_S1x114x120x96_S1x112x112x96_0_2_1_0
abbrev r6_15 : Rect S9x96x12 := Rect.unit (s := S9x96x12) ![7, 0, 0] S1x96x12.size inb_S9x96x12_S1x96x12_7_0_0
abbrev r6_16 : Rect S1x114x120x96 := Rect.unit (s := S1x114x120x96) ![0, 2, 2, 0] S1x112x112x96.size inb_S1x114x120x96_S1x112x112x96_0_2_2_0
abbrev r6_17 : Rect S9x96x12 := Rect.unit (s := S9x96x12) ![8, 0, 0] S1x96x12.size inb_S9x96x12_S1x96x12_8_0_0
abbrev r6_18 : Rect S1x112x112x12 := Rect.unit (s := S1x112x112x12) ![0, 0, 0, 0] S1x112x112x12.size inb_S1x112x112x12_S1x112x112x12_0_0_0_0

/-! ## What the body leaves in each output window's buffer -/

/-- Window 2's staging buffer after the body, from the input windows' blocks: its 1 store as pieces, LAST
    FIRST (Lib/Pipeline/FrameBody.lean `View.canon`; the payloads are the skeleton's). -/
def out6_2 (x0 : Vec F S1x114x120x96 .f32) (x1 : Vec F S9x96x12 .f32) : Vec F S1x112x112x12 .f32 :=
  View.canon [⟨r6_18, k6_pay1 (k6_pay3 (k6_pay2 (View.ld x0 r6_0) (View.ld x1 r6_1) (View.ld x0 r6_2) (View.ld x1 r6_3) (View.ld x0 r6_4) (View.ld x1 r6_5) (View.ld x0 r6_6) (View.ld x1 r6_7)) (View.ld x0 r6_8) (View.ld x1 r6_9) (View.ld x0 r6_10) (View.ld x1 r6_11) (View.ld x0 r6_12) (View.ld x1 r6_13) (View.ld x0 r6_14) (View.ld x1 r6_15)) (View.ld x0 r6_16) (View.ld x1 r6_17)⟩]

/-- Its stores tile the buffer (checked by evaluation), so they cover it. -/
theorem cover6_2 (p0 : Vec F S1x112x112x12 .f32) (y : S1x112x112x12.Idx) :
    ∃ pc ∈ ([⟨r6_18, p0⟩] : List (View.Piece (Elt F) S1x112x112x12 .f32)), y ∈ pc.1.set :=
  View.cover_of_tiled [⟨r6_18, p0⟩] S1x112x112x12.size (by rfl) y

/-! ## The body's triple -/

set_option maxHeartbeats 1000000 in
/-- The kernel body on whole staging memrefs, the inputs' at read contents `xW` and the outputs' at anything, runs to
    the continuation holding the inputs' as they were and each output's at `out6_W` of the inputs': the printed functions
    are their skeletons (`Gen.*_eq_skeleton`), which `sl_exec` runs (Lib/Exec.lean), through every part call. -/
theorem sound_kernel6 (c : Dev nD) (E : Set ℕ) (i : grid6.Coords) (arg1 : Memref sig .tc .vmem S1x114x120x96 .f32) (harg1 : arg1.IsWhole) (arg2 : Memref sig .tc .vmem S9x96x12 .f32) (harg2 : arg2.IsWhole) (arg3 : Memref sig .tc .vmem S1x112x112x12 .f32) (harg3 : arg3.IsWhole)
    (x0 : Vec F S1x114x120x96 .f32) (x1 : Vec F S9x96x12 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__dec_conv9_kernel i arg1 harg1 arg2 harg2 arg3 harg3) K := by
  simp only [cc6__dec_conv9_kernel_eq_skeleton]; unfold cc6__dec_conv9_kernel_skel
  simp only [k6_part1_eq_skeleton, k6_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at
    point `t` each input's buffer at its block and each output's at `out6_W` of the input blocks; the invariant the
    class's (Lib/Pipeline/Frame.lean `ΦA`: the scoped rest and the generator register, untouched); nothing owed;
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not (`beforeK_W_of`). -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t` (Lib/Pipeline.lean `BodyObligation`'s precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks (`before6_W`), so `sound_kernel6` applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt6` spells it. -/
theorem defs₀_row6 (t : Fin cfg6.N) :
    defs₀ (F := F) .tc cfg6.body (cfg6.bodyArgs t (cfg6.slots t)) = bodyAt6 t := by
  unfold defs₀; rw [Defs.onTc_tc]

/-- The library's body obligation, at every point: the body's triple restated (Lib/Pipeline/FrameBody.lean `triple_restated`). -/
theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

end Regions

end Cert.KernelIdeal.Run

end
-- ==== Proof.Run.Hosts0.lean ====
/- The references that each stretch of host operations writes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v1]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v2, main_v3, main_v4, main_v5, main_v6, main_v7, main_v8, main_v9, main_v10, main_v11, main_v12, main_v13, main_v14, main_v15, main_v16, main_v17, main_v18]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_c_0]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call1_v0, main_v20]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_v21, main_v22, main_v23, main_v24, main_v25, main_v26, main_v27, main_v28, main_v29, main_v30, main_v31, main_v32, main_v33, main_v34, main_v35, main_v36, main_v37]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_c_1]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps2_1` allocates a buffer. -/
theorem hostOps2_1_fresh : (hostOps2_1 : List (HloOp τ sig (Elt F))).Forall fun op => op.fresh = ∅ := by
  simp only [List.Forall]; repeat' constructor
/-- The reference each operation of `hostOps2_1` writes, in order. -/
abbrev hostOps2_1_W : List (Ref sig .tc) := [main_call2_v0, main_v39]
theorem hostOps2_1_writes : (hostOps2_1 : List (HloOp τ sig (Elt F))).Forall fun op => op.writes ⊆ (hostOps2_1_W.map (Proc.devRef (τ := τ) .tc)).toFinset :=
  StableHlo.forall_writes_sub_of_map rfl
/-- `hostOps2_1` writes none of the argument arrays (checked: each argument against each reference it writes). -/
theorem hostOps2_1_args : ∀ a ∈ argRefs, a ∉ hostOps2_1_W := ListAll.forall_mem_of_all_decide (by decide +kernel)

/-- No operation of `hostOps2_2` allocates a buffer. -/
theorem hostOps2_2_fresh : (hostOps2_2 : List (HloOp τ sig (Elt F))).Forall fun op => op.fresh = ∅ := by
  simp only [List.Forall]; repeat' constructor
/-- The reference each operation of `hostOps2_2` writes, in order. -/
abbrev hostOps2_2_W : List (Ref sig .tc) := [main_v40, main_v41, main_v42, main_c_2]
theorem hostOps2_2_writes : (hostOps2_2 : List (HloOp τ sig (Elt F))).Forall fun op => op.writes ⊆ (hostOps2_2_W.map (Proc.devRef (τ := τ) .tc)).toFinset :=
  StableHlo.forall_writes_sub_of_map rfl
/-- `hostOps2_2` writes none of the argument arrays (checked: each argument against each reference it writes). -/
theorem hostOps2_2_args : ∀ a ∈ argRefs, a ∉ hostOps2_2_W := ListAll.forall_mem_of_all_decide (by decide +kernel)

/-- No operation of `hostOps2_3` allocates a buffer. -/
theorem hostOps2_3_fresh : (hostOps2_3 : List (HloOp τ sig (Elt F))).Forall fun op => op.fresh = ∅ := by
  simp only [List.Forall]; repeat' constructor
/-- The reference each operation of `hostOps2_3` writes, in order. -/
abbrev hostOps2_3_W : List (Ref sig .tc) := [main_call3_v0, main_v43]
theorem hostOps2_3_writes : (hostOps2_3 : List (HloOp τ sig (Elt F))).Forall fun op => op.writes ⊆ (hostOps2_3_W.map (Proc.devRef (τ := τ) .tc)).toFinset :=
  StableHlo.forall_writes_sub_of_map rfl
/-- `hostOps2_3` writes none of the argument arrays (checked: each argument against each reference it writes). -/
theorem hostOps2_3_args : ∀ a ∈ argRefs, a ∉ hostOps2_3_W := ListAll.forall_mem_of_all_decide (by decide +kernel)

/-- No operation of `hostOps2_4` allocates a buffer. -/
theorem hostOps2_4_fresh : (hostOps2_4 : List (HloOp τ sig (Elt F))).Forall fun op => op.fresh = ∅ := by
  simp only [List.Forall]; repeat' constructor
/-- The reference each operation of `hostOps2_4` writes, in order. -/
abbrev hostOps2_4_W : List (Ref sig .tc) := [main_v44, main_v45, main_v46, main_v47, main_v48, main_v49, main_v50, main_v51, main_v52, main_v53, main_v54, main_v55, main_v56, main_v57]
theorem hostOps2_4_writes : (hostOps2_4 : List (HloOp τ sig (Elt F))).Forall fun op => op.writes ⊆ (hostOps2_4_W.map (Proc.devRef (τ := τ) .tc)).toFinset :=
  StableHlo.forall_writes_sub_of_map rfl
/-- `hostOps2_4` writes none of the argument arrays (checked: each argument against each reference it writes). -/
theorem hostOps2_4_args : ∀ a ∈ argRefs, a ∉ hostOps2_4_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v59, main_v60, main_v61]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v63, main_cst, main_v64, main_cst_3, main_v65, main_v66, main_c_4]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-- No operation of `hostOps4_1` allocates a buffer. -/
theorem hostOps4_1_fresh : (hostOps4_1 : List (HloOp τ sig (Elt F))).Forall fun op => op.fresh = ∅ := by
  simp only [List.Forall]; repeat' constructor
/-- The reference each operation of `hostOps4_1` writes, in order. -/
abbrev hostOps4_1_W : List (Ref sig .tc) := [main_call4_v0, main_v67]
theorem hostOps4_1_writes : (hostOps4_1 : List (HloOp τ sig (Elt F))).Forall fun op => op.writes ⊆ (hostOps4_1_W.map (Proc.devRef (τ := τ) .tc)).toFinset :=
  StableHlo.forall_writes_sub_of_map rfl
/-- `hostOps4_1` writes none of the argument arrays (checked: each argument against each reference it writes). -/
theorem hostOps4_1_args : ∀ a ∈ argRefs, a ∉ hostOps4_1_W := ListAll.forall_mem_of_all_decide (by decide +kernel)

/-- No operation of `hostOps4_2` allocates a buffer. -/
theorem hostOps4_2_fresh : (hostOps4_2 : List (HloOp τ sig (Elt F))).Forall fun op => op.fresh = ∅ := by
  simp only [List.Forall]; repeat' constructor
/-- The reference each operation of `hostOps4_2` writes, in order. -/
abbrev hostOps4_2_W : List (Ref sig .tc) := [main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125]
theorem hostOps4_2_writes : (hostOps4_2 : List (HloOp τ sig (Elt F))).Forall fun op => op.writes ⊆ (hostOps4_2_W.map (Proc.devRef (τ := τ) .tc)).toFinset :=
  StableHlo.forall_writes_sub_of_map rfl
/-- `hostOps4_2` writes none of the argument arrays (checked: each argument against each reference it writes). -/
theorem hostOps4_2_args : ∀ a ∈ argRefs, a ∉ hostOps4_2_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v127, main_v128, main_v129, main_v130, main_c_5]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked: each argument against each reference it writes). -/
theorem hostOps5_args : ∀ a ∈ argRefs, a ∉ hostOps5_W := ListAll.forall_mem_of_all_decide (by decide +kernel)

/-- No operation of `hostOps5_1` allocates a buffer. -/
theorem hostOps5_1_fresh : (hostOps5_1 : List (HloOp τ sig (Elt F))).Forall fun op => op.fresh = ∅ := by
  simp only [List.Forall]; repeat' constructor
/-- The reference each operation of `hostOps5_1` writes, in order. -/
abbrev hostOps5_1_W : List (Ref sig .tc) := [main_call5_v0, main_v131]
theorem hostOps5_1_writes : (hostOps5_1 : List (HloOp τ sig (Elt F))).Forall fun op => op.writes ⊆ (hostOps5_1_W.map (Proc.devRef (τ := τ) .tc)).toFinset :=
  StableHlo.forall_writes_sub_of_map rfl
/-- `hostOps5_1` writes none of the argument arrays (checked: each argument against each reference it writes). -/
theorem hostOps5_1_args : ∀ a ∈ argRefs, a ∉ hostOps5_1_W := ListAll.forall_mem_of_all_decide (by decide +kernel)

/-- No operation of `hostOps5_2` allocates a buffer. -/
theorem hostOps5_2_fresh : (hostOps5_2 : List (HloOp τ sig (Elt F))).Forall fun op => op.fresh = ∅ := by
  simp only [List.Forall]; repeat' constructor
/-- The reference each operation of `hostOps5_2` writes, in order. -/
abbrev hostOps5_2_W : List (Ref sig .tc) := [main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189]
theorem hostOps5_2_writes : (hostOps5_2 : List (HloOp τ sig (Elt F))).Forall fun op => op.writes ⊆ (hostOps5_2_W.map (Proc.devRef (τ := τ) .tc)).toFinset :=
  StableHlo.forall_writes_sub_of_map rfl
/-- `hostOps5_2` writes none of the argument arrays (checked: each argument against each reference it writes). -/
theorem hostOps5_2_args : ∀ a ∈ argRefs, a ∉ hostOps5_2_W := ListAll.forall_mem_of_all_decide (by decide +kernel)

/-- No operation of `hostOps6` allocates a buffer. -/
theorem hostOps6_fresh : (hostOps6 : List (HloOp τ sig (Elt F))).Forall fun op => op.fresh = ∅ := by
  simp only [List.Forall]; repeat' constructor
/-- The reference each operation of `hostOps6` writes, in order. -/
abbrev hostOps6_W : List (Ref sig .tc) := [main_v191, main_v192, main_v193, main_c_6]
theorem hostOps6_writes : (hostOps6 : List (HloOp τ sig (Elt F))).Forall fun op => op.writes ⊆ (hostOps6_W.map (Proc.devRef (τ := τ) .tc)).toFinset :=
  StableHlo.forall_writes_sub_of_map rfl
/-- `hostOps6` writes none of the argument arrays (checked: each argument against each reference it writes). -/
theorem hostOps6_args : ∀ a ∈ argRefs, a ∉ hostOps6_W := ListAll.forall_mem_of_all_decide (by decide +kernel)

/-- No operation of `hostOps6_1` allocates a buffer. -/
theorem hostOps6_1_fresh : (hostOps6_1 : List (HloOp τ sig (Elt F))).Forall fun op => op.fresh = ∅ := by
  simp only [List.Forall]; repeat' constructor
/-- The reference each operation of `hostOps6_1` writes, in order. -/
abbrev hostOps6_1_W : List (Ref sig .tc) := [main_call6_v0, main_v194]
theorem hostOps6_1_writes : (hostOps6_1 : List (HloOp τ sig (Elt F))).Forall fun op => op.writes ⊆ (hostOps6_1_W.map (Proc.devRef (τ := τ) .tc)).toFinset :=
  StableHlo.forall_writes_sub_of_map rfl
/-- `hostOps6_1` writes none of the argument arrays (checked: each argument against each reference it writes). -/
theorem hostOps6_1_args : ∀ a ∈ argRefs, a ∉ hostOps6_1_W := ListAll.forall_mem_of_all_decide (by decide +kernel)

/-- No operation of `hostOps6_2` allocates a buffer. -/
theorem hostOps6_2_fresh : (hostOps6_2 : List (HloOp τ sig (Elt F))).Forall fun op => op.fresh = ∅ := by
  simp only [List.Forall]; repeat' constructor
/-- The reference each operation of `hostOps6_2` writes, in order. -/
abbrev hostOps6_2_W : List (Ref sig .tc) := [main_v195, main_v196, main_v197, main_cst_7, main_v198, main_cst_8, main_v199, main_cst_9, main_v200, main_v201, main_v202, main_v203, main_v204, main_v205, main_cst_10, main_v206, main_cst_11, main_v207, main_v208, main_cst_12, main_v209, main_v210, main_v211, main_cst_13, main_v212, main_cst_14, main_v213, main_v214, main_v215, main_v216, main_cst_15, main_v217, main_v218, main_v219, main_cst_16, main_v220, main_v221, main_v222, main_v223, main_v224, main_v225, main_v226, main_v227, main_v228, main_v229, main_v230, main_cst_17, main_v231, main_v232, main_v233, main_cst_18, main_v234, main_v235, main_v236, main_v237, main_cst_19, main_v238, main_cst_20, main_v239, main_v240, main_v241, main_cst_21, main_v242, main_v243, main_cst_22, main_v244, main_cst_23, main_v245, main_v246, main_v247, main_v248, main_v249, main_v250, main_cst_24, main_v251, main_cst_25, main_v252, main_cst_26, main_v253, main_v254, main_v255, main_v256, main_v257, main_v258, main_v259, main_v260, main_v261, main_v262, main_v263, main_v264, main_v265, main_v266]
theorem hostOps6_2_writes : (hostOps6_2 : List (HloOp τ sig (Elt F))).Forall fun op => op.writes ⊆ (hostOps6_2_W.map (Proc.devRef (τ := τ) .tc)).toFinset :=
  StableHlo.forall_writes_sub_of_map rfl
/-- `hostOps6_2` writes none of the argument arrays (checked: each argument against each reference it writes). -/
theorem hostOps6_2_args : ∀ a ∈ argRefs, a ∉ hostOps6_2_W := ListAll.forall_mem_of_all_decide (by decide +kernel)

/-- No operation of `hostOps7` allocates a buffer. -/
theorem hostOps7_fresh : (hostOps7 : List (HloOp τ sig (Elt F))).Forall fun op => op.fresh = ∅ := by
  simp only [List.Forall]; repeat' constructor
/-- The reference each operation of `hostOps7` writes, in order. -/
abbrev hostOps7_W : List (Ref sig .tc) := [main_v268, main_v269, main_v270, main_v271, main_v272]
theorem hostOps7_writes : (hostOps7 : List (HloOp τ sig (Elt F))).Forall fun op => op.writes ⊆ (hostOps7_W.map (Proc.devRef (τ := τ) .tc)).toFinset :=
  StableHlo.forall_writes_sub_of_map rfl
/-- `hostOps7` writes none of the argument arrays (checked: each argument against each reference it writes). -/
theorem hostOps7_args : ∀ a ∈ argRefs, a ∉ hostOps7_W := ListAll.forall_mem_of_all_decide (by decide +kernel)

end Cert.KernelIdeal.Run

end
-- ==== Proof.Run.Fold0.lean ====
/- The contents of the buffers between the items of @main. -/
module

public import proofs.«01_k».proof.Proof.Run.Region0
public import proofs.«01_k».proof.Proof.Run.Region1
public import proofs.«01_k».proof.Proof.Run.Region2
public import proofs.«01_k».proof.Proof.Run.Region3
public import proofs.«01_k».proof.Proof.Run.Region4
public import proofs.«01_k».proof.Proof.Run.Region5
public import proofs.«01_k».proof.Proof.Run.Region6
public import proofs.«01_k».proof.Proof.Run.Hosts0

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1`. -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- After `hostOps1_1`. -/
abbrev W6 : Dev nD → Valuation τ sig (Elt F) := fun c => StableHlo.after hostOps1_1 (W5 m ρ c)
/-- A reference `hostOps1_1` does not write keeps its contents across it. -/
theorem W6_of (c : Dev nD) (r : Ref sig .tc) (h : r ∉ hostOps1_1_W) : W6 m ρ c (Proc.devRef .tc r) = W5 m ρ c (Proc.devRef .tc r) :=
  StableHlo.after_of_writes_sub hostOps1_1 _ hostOps1_1_writes h
theorem W6_args (c : Dev nD) : ∀ a ∈ argRefs, W6 m ρ c (Proc.devRef .tc a) = m ((c : Thread nD τ).loc a) :=
  fun a ha => (W6_of m ρ c a (hostOps1_1_args a ha)).trans (W5_args m ρ c a ha)
/-- After `hostOps1_2` (region 1's entry). -/
abbrev W7 : Dev nD → Valuation τ sig (Elt F) := fun c => StableHlo.after hostOps1_2 (W6 m ρ c)
/-- A reference `hostOps1_2` does not write keeps its contents across it. -/
theorem W7_of (c : Dev nD) (r : Ref sig .tc) (h : r ∉ hostOps1_2_W) : W7 m ρ c (Proc.devRef .tc r) = W6 m ρ c (Proc.devRef .tc r) :=
  StableHlo.after_of_writes_sub hostOps1_2 _ hostOps1_2_writes h
theorem W7_args (c : Dev nD) : ∀ a ∈ argRefs, W7 m ρ c (Proc.devRef .tc a) = m ((c : Thread nD τ).loc a) :=
  fun a ha => (W7_of m ρ c a (hostOps1_2_args a ha)).trans (W6_args m ρ c a ha)
/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- A reference that is none of region 1's OUTPUT arrays keeps its entry contents across it: an input window's
    array is never written back (`Dat.arrAt_in`, `A_eq1`); any other buffer is left as is. -/
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((dat1 (V7 m ρ) c).arrAt_in w (h w rfl) _).trans (A_eq1 (V7 m ρ) c w))
  · exact W8_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn1 a ha)).trans (W7_args m ρ c a ha)
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2`. -/
abbrev W9 : Dev nD → Valuation τ sig (Elt F) := fun c => StableHlo.after hostOps2 (W8 m ρ c)
/-- A reference `hostOps2` does not write keeps its contents across it. -/
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
theorem W9_args (c : Dev nD) : ∀ a ∈ argRefs, W9 m ρ c (Proc.devRef .tc a) = m ((c : Thread nD τ).loc a) :=
  fun a ha => (W9_of m ρ c a (hostOps2_args a ha)).trans (W8_args m ρ c a ha)
/-- After `hostOps2_1`. -/
abbrev W10 : Dev nD → Valuation τ sig (Elt F) := fun c => StableHlo.after hostOps2_1 (W9 m ρ c)
/-- A reference `hostOps2_1` does not write keeps its contents across it. -/
theorem W10_of (c : Dev nD) (r : Ref sig .tc) (h : r ∉ hostOps2_1_W) : W10 m ρ c (Proc.devRef .tc r) = W9 m ρ c (Proc.devRef .tc r) :=
  StableHlo.after_of_writes_sub hostOps2_1 _ hostOps2_1_writes h
theorem W10_args (c : Dev nD) : ∀ a ∈ argRefs, W10 m ρ c (Proc.devRef .tc a) = m ((c : Thread nD τ).loc a) :=
  fun a ha => (W10_of m ρ c a (hostOps2_1_args a ha)).trans (W9_args m ρ c a ha)
/-- After `hostOps2_2`. -/
abbrev W11 : Dev nD → Valuation τ sig (Elt F) := fun c => StableHlo.after hostOps2_2 (W10 m ρ c)
/-- A reference `hostOps2_2` does not write keeps its contents across it. -/
theorem W11_of (c : Dev nD) (r : Ref sig .tc) (h : r ∉ hostOps2_2_W) : W11 m ρ c (Proc.devRef .tc r) = W10 m ρ c (Proc.devRef .tc r) :=
  StableHlo.after_of_writes_sub hostOps2_2 _ hostOps2_2_writes h
theorem W11_args (c : Dev nD) : ∀ a ∈ argRefs, W11 m ρ c (Proc.devRef .tc a) = m ((c : Thread nD τ).loc a) :=
  fun a ha => (W11_of m ρ c a (hostOps2_2_args a ha)).trans (W10_args m ρ c a ha)
/-- After `hostOps2_3`. -/
abbrev W12 : Dev nD → Valuation τ sig (Elt F) := fun c => StableHlo.after hostOps2_3 (W11 m ρ c)
/-- A reference `hostOps2_3` does not write keeps its contents across it. -/
theorem W12_of (c : Dev nD) (r : Ref sig .tc) (h : r ∉ hostOps2_3_W) : W12 m ρ c (Proc.devRef .tc r) = W11 m ρ c (Proc.devRef .tc r) :=
  StableHlo.after_of_writes_sub hostOps2_3 _ hostOps2_3_writes h
theorem W12_args (c : Dev nD) : ∀ a ∈ argRefs, W12 m ρ c (Proc.devRef .tc a) = m ((c : Thread nD τ).loc a) :=
  fun a ha => (W12_of m ρ c a (hostOps2_3_args a ha)).trans (W11_args m ρ c a ha)
/-- After `hostOps2_4` (region 2's entry). -/
abbrev W13 : Dev nD → Valuation τ sig (Elt F) := fun c => StableHlo.after hostOps2_4 (W12 m ρ c)
/-- A reference `hostOps2_4` does not write keeps its contents across it. -/
theorem W13_of (c : Dev nD) (r : Ref sig .tc) (h : r ∉ hostOps2_4_W) : W13 m ρ c (Proc.devRef .tc r) = W12 m ρ c (Proc.devRef .tc r) :=
  StableHlo.after_of_writes_sub hostOps2_4 _ hostOps2_4_writes h
theorem W13_args (c : Dev nD) : ∀ a ∈ argRefs, W13 m ρ c (Proc.devRef .tc a) = m ((c : Thread nD τ).loc a) :=
  fun a ha => (W13_of m ρ c a (hostOps2_4_args a ha)).trans (W12_args m ρ c a ha)
/-- The same read at the TensorCore's references (what region 2's proof data take). -/
abbrev V13 : (c : Dev nD) → (b : Ref sig .tc) → Buf (Elt F) ((c : Thread nD τ).loc b) := fun c b => W13 m ρ c b
/-- At region 2's exit: its arrays at what the pipeline leaves (the inputs as entered, each output's write-backs
    folded: `Dat.arrAt … N`), every other buffer as entered (Lib/Pipeline/FrameSuffix.lean `withArrays`). -/
def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
/-- A reference that is none of region 2's OUTPUT arrays keeps its entry contents across it: an input window's
    array is never written back (`Dat.arrAt_in`, `A_eq2`); any other buffer is left as is. -/
theorem W14_of (c : Dev nD) (r : Ref sig .tc) (h : ∀ w : Fin cfg2.W, Pipeline.arrRef spec2 w = r → (cfg2.win w).isOut = false) :
    W14 m ρ c (Proc.devRef .tc r) = W13 m ρ c (Proc.devRef .tc r) := by
  by_cases hw : ∃ w : Fin cfg2.W, Pipeline.arrRef spec2 w = r
  · obtain ⟨w, rfl⟩ := hw
    exact (W14_arr m ρ c w).trans (((dat2 (V13 m ρ) c).arrAt_in w (h w rfl) _).trans (A_eq2 (V13 m ρ) c w))
  · exact W14_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn2 a ha)).trans (W13_args m ρ c a ha)
/-- The same read at the TensorCore's references (region 2's exit contents). -/
abbrev V14 : (c : Dev nD) → (b : Ref sig .tc) → Buf (Elt F) ((c : Thread nD τ).loc b) := fun c b => W14 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V13 m ρ) c).arrAt w cfg2.N = V14 m ρ c (Pipeline.arrRef spec2 w) :=
  (W14_arr m ρ c w).symm
theorem hrest2 (c : Dev nD) : ∀ b, b ∉ Finset.univ.image (Pipeline.arrRef spec2) → V14 m ρ c b = V13 m ρ c b :=
  fun b hb => W14_of_ne m ρ c b fun w e => hb (Finset.mem_image.mpr ⟨w, Finset.mem_univ _, e⟩)

/-- After `hostOps3` (region 3's entry). -/
abbrev W15 : Dev nD → Valuation τ sig (Elt F) := fun c => StableHlo.after hostOps3 (W14 m ρ c)
/-- A reference `hostOps3` does not write keeps its contents across it. -/
theorem W15_of (c : Dev nD) (r : Ref sig .tc) (h : r ∉ hostOps3_W) : W15 m ρ c (Proc.devRef .tc r) = W14 m ρ c (Proc.devRef .tc r) :=
  StableHlo.after_of_writes_sub hostOps3 _ hostOps3_writes h
theorem W15_args (c : Dev nD) : ∀ a ∈ argRefs, W15 m ρ c (Proc.devRef .tc a) = m ((c : Thread nD τ).loc a) :=
  fun a ha => (W15_of m ρ c a (hostOps3_args a ha)).trans (W14_args m ρ c a ha)
/-- The same read at the TensorCore's references (what region 3's proof data take). -/
abbrev V15 : (c : Dev nD) → (b : Ref sig .tc) → Buf (Elt F) ((c : Thread nD τ).loc b) := fun c b => W15 m ρ c b
/-- At region 3's exit: its arrays at what the pipeline leaves (the inputs as entered, each output's write-backs
    folded: `Dat.arrAt … N`), every other buffer as entered (Lib/Pipeline/FrameSuffix.lean `withArrays`). -/
def W16 (c : Dev nD) : Valuation τ sig (Elt F) :=
  Pipeline.withArrays spec3 c (W15 m ρ c) fun w => (dat3 (V15 m ρ) c).arrAt w cfg3.N
theorem W16_arr (c : Dev nD) (w : Fin cfg3.W) :
    W16 m ρ c (Proc.devRef .tc (Pipeline.arrRef spec3 w)) = (dat3 (V15 m ρ) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m ρ c (Proc.devRef .tc b) = W15 m ρ c (Proc.devRef .tc b) := by
  unfold W16; exact Pipeline.withArrays_of_ne spec3 c _ _ b hb
/-- A reference that is none of region 3's OUTPUT arrays keeps its entry contents across it: an input window's
    array is never written back (`Dat.arrAt_in`, `A_eq3`); any other buffer is left as is. -/
theorem W16_of (c : Dev nD) (r : Ref sig .tc) (h : ∀ w : Fin cfg3.W, Pipeline.arrRef spec3 w = r → (cfg3.win w).isOut = false) :
    W16 m ρ c (Proc.devRef .tc r) = W15 m ρ c (Proc.devRef .tc r) := by
  by_cases hw : ∃ w : Fin cfg3.W, Pipeline.arrRef spec3 w = r
  · obtain ⟨w, rfl⟩ := hw
    exact (W16_arr m ρ c w).trans (((dat3 (V15 m ρ) c).arrAt_in w (h w rfl) _).trans (A_eq3 (V15 m ρ) c w))
  · exact W16_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn3 a ha)).trans (W15_args m ρ c a ha)
/-- The same read at the TensorCore's references (region 3's exit contents). -/
abbrev V16 : (c : Dev nD) → (b : Ref sig .tc) → Buf (Elt F) ((c : Thread nD τ).loc b) := fun c b => W16 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V15 m ρ) c).arrAt w cfg3.N = V16 m ρ c (Pipeline.arrRef spec3 w) :=
  (W16_arr m ρ c w).symm
theorem hrest3 (c : Dev nD) : ∀ b, b ∉ Finset.univ.image (Pipeline.arrRef spec3) → V16 m ρ c b = V15 m ρ c b :=
  fun b hb => W16_of_ne m ρ c b fun w e => hb (Finset.mem_image.mpr ⟨w, Finset.mem_univ _, e⟩)

/-- After `hostOps4`. -/
abbrev W17 : Dev nD → Valuation τ sig (Elt F) := fun c => StableHlo.after hostOps4 (W16 m ρ c)
/-- A reference `hostOps4` does not write keeps its contents across it. -/
theorem W17_of (c : Dev nD) (r : Ref sig .tc) (h : r ∉ hostOps4_W) : W17 m ρ c (Proc.devRef .tc r) = W16 m ρ c (Proc.devRef .tc r) :=
  StableHlo.after_of_writes_sub hostOps4 _ hostOps4_writes h
theorem W17_args (c : Dev nD) : ∀ a ∈ argRefs, W17 m ρ c (Proc.devRef .tc a) = m ((c : Thread nD τ).loc a) :=
  fun a ha => (W17_of m ρ c a (hostOps4_args a ha)).trans (W16_args m ρ c a ha)
/-- After `hostOps4_1`. -/
abbrev W18 : Dev nD → Valuation τ sig (Elt F) := fun c => StableHlo.after hostOps4_1 (W17 m ρ c)
/-- A reference `hostOps4_1` does not write keeps its contents across it. -/
theorem W18_of (c : Dev nD) (r : Ref sig .tc) (h : r ∉ hostOps4_1_W) : W18 m ρ c (Proc.devRef .tc r) = W17 m ρ c (Proc.devRef .tc r) :=
  StableHlo.after_of_writes_sub hostOps4_1 _ hostOps4_1_writes h
theorem W18_args (c : Dev nD) : ∀ a ∈ argRefs, W18 m ρ c (Proc.devRef .tc a) = m ((c : Thread nD τ).loc a) :=
  fun a ha => (W18_of m ρ c a (hostOps4_1_args a ha)).trans (W17_args m ρ c a ha)
/-- After `hostOps4_2` (region 4's entry). -/
abbrev W19 : Dev nD → Valuation τ sig (Elt F) := fun c => StableHlo.after hostOps4_2 (W18 m ρ c)
/-- A reference `hostOps4_2` does not write keeps its contents across it. -/
theorem W19_of (c : Dev nD) (r : Ref sig .tc) (h : r ∉ hostOps4_2_W) : W19 m ρ c (Proc.devRef .tc r) = W18 m ρ c (Proc.devRef .tc r) :=
  StableHlo.after_of_writes_sub hostOps4_2 _ hostOps4_2_writes h
theorem W19_args (c : Dev nD) : ∀ a ∈ argRefs, W19 m ρ c (Proc.devRef .tc a) = m ((c : Thread nD τ).loc a) :=
  fun a ha => (W19_of m ρ c a (hostOps4_2_args a ha)).trans (W18_args m ρ c a ha)
/-- The same read at the TensorCore's references (what region 4's proof data take). -/
abbrev V19 : (c : Dev nD) → (b : Ref sig .tc) → Buf (Elt F) ((c : Thread nD τ).loc b) := fun c b => W19 m ρ c b
/-- At region 4's exit: its arrays at what the pipeline leaves (the inputs as entered, each output's write-backs
    folded: `Dat.arrAt … N`), every other buffer as entered (Lib/Pipeline/FrameSuffix.lean `withArrays`). -/
def W20 (c : Dev nD) : Valuation τ sig (Elt F) :=
  Pipeline.withArrays spec4 c (W19 m ρ c) fun w => (dat4 (V19 m ρ) c).arrAt w cfg4.N
theorem W20_arr (c : Dev nD) (w : Fin cfg4.W) :
    W20 m ρ c (Proc.devRef .tc (Pipeline.arrRef spec4 w)) = (dat4 (V19 m ρ) c).arrAt w cfg4.N := by
  unfold W20; exact Pipeline.withArrays_arr spec4 launch4.win.arr_inj c _ _ w
theorem W20_of_ne (c : Dev nD) (b : Ref sig .tc) (hb : ∀ w, Pipeline.arrRef spec4 w ≠ b) :
    W20 m ρ c (Proc.devRef .tc b) = W19 m ρ c (Proc.devRef .tc b) := by
  unfold W20; exact Pipeline.withArrays_of_ne spec4 c _ _ b hb
/-- A reference that is none of region 4's OUTPUT arrays keeps its entry contents across it: an input window's
    array is never written back (`Dat.arrAt_in`, `A_eq4`); any other buffer is left as is. -/
theorem W20_of (c : Dev nD) (r : Ref sig .tc) (h : ∀ w : Fin cfg4.W, Pipeline.arrRef spec4 w = r → (cfg4.win w).isOut = false) :
    W20 m ρ c (Proc.devRef .tc r) = W19 m ρ c (Proc.devRef .tc r) := by
  by_cases hw : ∃ w : Fin cfg4.W, Pipeline.arrRef spec4 w = r
  · obtain ⟨w, rfl⟩ := hw
    exact (W20_arr m ρ c w).trans (((dat4 (V19 m ρ) c).arrAt_in w (h w rfl) _).trans (A_eq4 (V19 m ρ) c w))
  · exact W20_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W20_args (c : Dev nD) : ∀ a ∈ argRefs, W20 m ρ c (Proc.devRef .tc a) = m ((c : Thread nD τ).loc a) :=
  fun a ha => (W20_of m ρ c a (argsIn4 a ha)).trans (W19_args m ρ c a ha)
/-- The same read at the TensorCore's references (region 4's exit contents). -/
abbrev V20 : (c : Dev nD) → (b : Ref sig .tc) → Buf (Elt F) ((c : Thread nD τ).loc b) := fun c b => W20 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V19 m ρ) c).arrAt w cfg4.N = V20 m ρ c (Pipeline.arrRef spec4 w) :=
  (W20_arr m ρ c w).symm
theorem hrest4 (c : Dev nD) : ∀ b, b ∉ Finset.univ.image (Pipeline.arrRef spec4) → V20 m ρ c b = V19 m ρ c b :=
  fun b hb => W20_of_ne m ρ c b fun w e => hb (Finset.mem_image.mpr ⟨w, Finset.mem_univ _, e⟩)

/-- After `hostOps5`. -/
abbrev W21 : Dev nD → Valuation τ sig (Elt F) := fun c => StableHlo.after hostOps5 (W20 m ρ c)
/-- A reference `hostOps5` does not write keeps its contents across it. -/
theorem W21_of (c : Dev nD) (r : Ref sig .tc) (h : r ∉ hostOps5_W) : W21 m ρ c (Proc.devRef .tc r) = W20 m ρ c (Proc.devRef .tc r) :=
  StableHlo.after_of_writes_sub hostOps5 _ hostOps5_writes h
theorem W21_args (c : Dev nD) : ∀ a ∈ argRefs, W21 m ρ c (Proc.devRef .tc a) = m ((c : Thread nD τ).loc a) :=
  fun a ha => (W21_of m ρ c a (hostOps5_args a ha)).trans (W20_args m ρ c a ha)
/-- After `hostOps5_1`. -/
abbrev W22 : Dev nD → Valuation τ sig (Elt F) := fun c => StableHlo.after hostOps5_1 (W21 m ρ c)
/-- A reference `hostOps5_1` does not write keeps its contents across it. -/
theorem W22_of (c : Dev nD) (r : Ref sig .tc) (h : r ∉ hostOps5_1_W) : W22 m ρ c (Proc.devRef .tc r) = W21 m ρ c (Proc.devRef .tc r) :=
  StableHlo.after_of_writes_sub hostOps5_1 _ hostOps5_1_writes h
theorem W22_args (c : Dev nD) : ∀ a ∈ argRefs, W22 m ρ c (Proc.devRef .tc a) = m ((c : Thread nD τ).loc a) :=
  fun a ha => (W22_of m ρ c a (hostOps5_1_args a ha)).trans (W21_args m ρ c a ha)
/-- After `hostOps5_2` (region 5's entry). -/
abbrev W23 : Dev nD → Valuation τ sig (Elt F) := fun c => StableHlo.after hostOps5_2 (W22 m ρ c)
/-- A reference `hostOps5_2` does not write keeps its contents across it. -/
theorem W23_of (c : Dev nD) (r : Ref sig .tc) (h : r ∉ hostOps5_2_W) : W23 m ρ c (Proc.devRef .tc r) = W22 m ρ c (Proc.devRef .tc r) :=
  StableHlo.after_of_writes_sub hostOps5_2 _ hostOps5_2_writes h
theorem W23_args (c : Dev nD) : ∀ a ∈ argRefs, W23 m ρ c (Proc.devRef .tc a) = m ((c : Thread nD τ).loc a) :=
  fun a ha => (W23_of m ρ c a (hostOps5_2_args a ha)).trans (W22_args m ρ c a ha)
/-- The same read at the TensorCore's references (what region 5's proof data take). -/
abbrev V23 : (c : Dev nD) → (b : Ref sig .tc) → Buf (Elt F) ((c : Thread nD τ).loc b) := fun c b => W23 m ρ c b
/-- At region 5's exit: its arrays at what the pipeline leaves (the inputs as entered, each output's write-backs
    folded: `Dat.arrAt … N`), every other buffer as entered (Lib/Pipeline/FrameSuffix.lean `withArrays`). -/
def W24 (c : Dev nD) : Valuation τ sig (Elt F) :=
  Pipeline.withArrays spec5 c (W23 m ρ c) fun w => (dat5 (V23 m ρ) c).arrAt w cfg5.N
theorem W24_arr (c : Dev nD) (w : Fin cfg5.W) :
    W24 m ρ c (Proc.devRef .tc (Pipeline.arrRef spec5 w)) = (dat5 (V23 m ρ) c).arrAt w cfg5.N := by
  unfold W24; exact Pipeline.withArrays_arr spec5 launch5.win.arr_inj c _ _ w
theorem W24_of_ne (c : Dev nD) (b : Ref sig .tc) (hb : ∀ w, Pipeline.arrRef spec5 w ≠ b) :
    W24 m ρ c (Proc.devRef .tc b) = W23 m ρ c (Proc.devRef .tc b) := by
  unfold W24; exact Pipeline.withArrays_of_ne spec5 c _ _ b hb
/-- A reference that is none of region 5's OUTPUT arrays keeps its entry contents across it: an input window's
    array is never written back (`Dat.arrAt_in`, `A_eq5`); any other buffer is left as is. -/
theorem W24_of (c : Dev nD) (r : Ref sig .tc) (h : ∀ w : Fin cfg5.W, Pipeline.arrRef spec5 w = r → (cfg5.win w).isOut = false) :
    W24 m ρ c (Proc.devRef .tc r) = W23 m ρ c (Proc.devRef .tc r) := by
  by_cases hw : ∃ w : Fin cfg5.W, Pipeline.arrRef spec5 w = r
  · obtain ⟨w, rfl⟩ := hw
    exact (W24_arr m ρ c w).trans (((dat5 (V23 m ρ) c).arrAt_in w (h w rfl) _).trans (A_eq5 (V23 m ρ) c w))
  · exact W24_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
theorem W24_args (c : Dev nD) : ∀ a ∈ argRefs, W24 m ρ c (Proc.devRef .tc a) = m ((c : Thread nD τ).loc a) :=
  fun a ha => (W24_of m ρ c a (argsIn5 a ha)).trans (W23_args m ρ c a ha)
/-- The same read at the TensorCore's references (region 5's exit contents). -/
abbrev V24 : (c : Dev nD) → (b : Ref sig .tc) → Buf (Elt F) ((c : Thread nD τ).loc b) := fun c b => W24 m ρ c b
/-- At region 5's exit each of its arrays holds what the pipeline leaves (`hF5`) and every other buffer what it
    held at entry (`hrest5`): the two hypotheses of Lib/Pipeline/RegionsLoop.lean `unscopedBufs_of_arrays`. -/
theorem hF5 (c : Dev nD) (w : Fin cfg5.W) : (dat5 (V23 m ρ) c).arrAt w cfg5.N = V24 m ρ c (Pipeline.arrRef spec5 w) :=
  (W24_arr m ρ c w).symm
theorem hrest5 (c : Dev nD) : ∀ b, b ∉ Finset.univ.image (Pipeline.arrRef spec5) → V24 m ρ c b = V23 m ρ c b :=
  fun b hb => W24_of_ne m ρ c b fun w e => hb (Finset.mem_image.mpr ⟨w, Finset.mem_univ _, e⟩)

/-- After `hostOps6`. -/
abbrev W25 : Dev nD → Valuation τ sig (Elt F) := fun c => StableHlo.after hostOps6 (W24 m ρ c)
/-- A reference `hostOps6` does not write keeps its contents across it. -/
theorem W25_of (c : Dev nD) (r : Ref sig .tc) (h : r ∉ hostOps6_W) : W25 m ρ c (Proc.devRef .tc r) = W24 m ρ c (Proc.devRef .tc r) :=
  StableHlo.after_of_writes_sub hostOps6 _ hostOps6_writes h
theorem W25_args (c : Dev nD) : ∀ a ∈ argRefs, W25 m ρ c (Proc.devRef .tc a) = m ((c : Thread nD τ).loc a) :=
  fun a ha => (W25_of m ρ c a (hostOps6_args a ha)).trans (W24_args m ρ c a ha)
/-- After `hostOps6_1`. -/
abbrev W26 : Dev nD → Valuation τ sig (Elt F) := fun c => StableHlo.after hostOps6_1 (W25 m ρ c)
/-- A reference `hostOps6_1` does not write keeps its contents across it. -/
theorem W26_of (c : Dev nD) (r : Ref sig .tc) (h : r ∉ hostOps6_1_W) : W26 m ρ c (Proc.devRef .tc r) = W25 m ρ c (Proc.devRef .tc r) :=
  StableHlo.after_of_writes_sub hostOps6_1 _ hostOps6_1_writes h
theorem W26_args (c : Dev nD) : ∀ a ∈ argRefs, W26 m ρ c (Proc.devRef .tc a) = m ((c : Thread nD τ).loc a) :=
  fun a ha => (W26_of m ρ c a (hostOps6_1_args a ha)).trans (W25_args m ρ c a ha)
/-- After `hostOps6_2` (region 6's entry). -/
abbrev W27 : Dev nD → Valuation τ sig (Elt F) := fun c => StableHlo.after hostOps6_2 (W26 m ρ c)
/-- A reference `hostOps6_2` does not write keeps its contents across it. -/
theorem W27_of (c : Dev nD) (r : Ref sig .tc) (h : r ∉ hostOps6_2_W) : W27 m ρ c (Proc.devRef .tc r) = W26 m ρ c (Proc.devRef .tc r) :=
  StableHlo.after_of_writes_sub hostOps6_2 _ hostOps6_2_writes h
theorem W27_args (c : Dev nD) : ∀ a ∈ argRefs, W27 m ρ c (Proc.devRef .tc a) = m ((c : Thread nD τ).loc a) :=
  fun a ha => (W27_of m ρ c a (hostOps6_2_args a ha)).trans (W26_args m ρ c a ha)
/-- The same read at the TensorCore's references (what region 6's proof data take). -/
abbrev V27 : (c : Dev nD) → (b : Ref sig .tc) → Buf (Elt F) ((c : Thread nD τ).loc b) := fun c b => W27 m ρ c b
/-- At region 6's exit: its arrays at what the pipeline leaves (the inputs as entered, each output's write-backs
    folded: `Dat.arrAt … N`), every other buffer as entered (Lib/Pipeline/FrameSuffix.lean `withArrays`). -/
def W28 (c : Dev nD) : Valuation τ sig (Elt F) :=
  Pipeline.withArrays spec6 c (W27 m ρ c) fun w => (dat6 (V27 m ρ) c).arrAt w cfg6.N
theorem W28_arr (c : Dev nD) (w : Fin cfg6.W) :
    W28 m ρ c (Proc.devRef .tc (Pipeline.arrRef spec6 w)) = (dat6 (V27 m ρ) c).arrAt w cfg6.N := by
  unfold W28; exact Pipeline.withArrays_arr spec6 launch6.win.arr_inj c _ _ w
theorem W28_of_ne (c : Dev nD) (b : Ref sig .tc) (hb : ∀ w, Pipeline.arrRef spec6 w ≠ b) :
    W28 m ρ c (Proc.devRef .tc b) = W27 m ρ c (Proc.devRef .tc b) := by
  unfold W28; exact Pipeline.withArrays_of_ne spec6 c _ _ b hb
/-- A reference that is none of region 6's OUTPUT arrays keeps its entry contents across it: an input window's
    array is never written back (`Dat.arrAt_in`, `A_eq6`); any other buffer is left as is. -/
theorem W28_of (c : Dev nD) (r : Ref sig .tc) (h : ∀ w : Fin cfg6.W, Pipeline.arrRef spec6 w = r → (cfg6.win w).isOut = false) :
    W28 m ρ c (Proc.devRef .tc r) = W27 m ρ c (Proc.devRef .tc r) := by
  by_cases hw : ∃ w : Fin cfg6.W, Pipeline.arrRef spec6 w = r
  · obtain ⟨w, rfl⟩ := hw
    exact (W28_arr m ρ c w).trans (((dat6 (V27 m ρ) c).arrAt_in w (h w rfl) _).trans (A_eq6 (V27 m ρ) c w))
  · exact W28_of_ne m ρ c r fun w e => hw ⟨w, e⟩
/-- Every argument among region 6's arrays is an input window's (checked: each argument against each window). -/
theorem argsIn6 : ∀ a ∈ argRefs, ∀ w : Fin cfg6.W, Pipeline.arrRef spec6 w = a → (cfg6.win w).isOut = false :=
  ListAll.forall_mem_of_all_decide (by decide +kernel)
theorem W28_args (c : Dev nD) : ∀ a ∈ argRefs, W28 m ρ c (Proc.devRef .tc a) = m ((c : Thread nD τ).loc a) :=
  fun a ha => (W28_of m ρ c a (argsIn6 a ha)).trans (W27_args m ρ c a ha)
/-- The same read at the TensorCore's references (region 6's exit contents). -/
abbrev V28 : (c : Dev nD) → (b : Ref sig .tc) → Buf (Elt F) ((c : Thread nD τ).loc b) := fun c b => W28 m ρ c b
/-- At region 6's exit each of its arrays holds what the pipeline leaves (`hF6`) and every other buffer what it
    held at entry (`hrest6`): the two hypotheses of Lib/Pipeline/RegionsLoop.lean `unscopedBufs_of_arrays`. -/
theorem hF6 (c : Dev nD) (w : Fin cfg6.W) : (dat6 (V27 m ρ) c).arrAt w cfg6.N = V28 m ρ c (Pipeline.arrRef spec6 w) :=
  (W28_arr m ρ c w).symm
theorem hrest6 (c : Dev nD) : ∀ b, b ∉ Finset.univ.image (Pipeline.arrRef spec6) → V28 m ρ c b = V27 m ρ c b :=
  fun b hb => W28_of_ne m ρ c b fun w e => hb (Finset.mem_image.mpr ⟨w, Finset.mem_univ _, e⟩)

/-- After `hostOps7`. -/
abbrev W29 : Dev nD → Valuation τ sig (Elt F) := fun c => StableHlo.after hostOps7 (W28 m ρ c)
/-- A reference `hostOps7` does not write keeps its contents across it. -/
theorem W29_of (c : Dev nD) (r : Ref sig .tc) (h : r ∉ hostOps7_W) : W29 m ρ c (Proc.devRef .tc r) = W28 m ρ c (Proc.devRef .tc r) :=
  StableHlo.after_of_writes_sub hostOps7 _ hostOps7_writes h
theorem W29_args (c : Dev nD) : ∀ a ∈ argRefs, W29 m ρ c (Proc.devRef .tc a) = m ((c : Thread nD τ).loc a) :=
  fun a ha => (W29_of m ρ c a (hostOps7_args a ha)).trans (W28_args m ρ c a ha)

/-! ### The arguments end as launched: no host stretch writes one and no region may change one (a region reads it
    through an input window or bypasses it) -/

theorem W29_main_arg0 (c : Dev nD) : W29 m ρ c (Proc.devRef .tc main_arg0) = m ((c : Thread nD τ).loc main_arg0) :=
  W29_args m ρ c main_arg0 (by decide)
theorem W29_main_arg1 (c : Dev nD) : W29 m ρ c (Proc.devRef .tc main_arg1) = m ((c : Thread nD τ).loc main_arg1) :=
  W29_args m ρ c main_arg1 (by decide)
theorem W29_main_arg2 (c : Dev nD) : W29 m ρ c (Proc.devRef .tc main_arg2) = m ((c : Thread nD τ).loc main_arg2) :=
  W29_args m ρ c main_arg2 (by decide)
theorem W29_main_arg3 (c : Dev nD) : W29 m ρ c (Proc.devRef .tc main_arg3) = m ((c : Thread nD τ).loc main_arg3) :=
  W29_args m ρ c main_arg3 (by decide)
theorem W29_main_arg4 (c : Dev nD) : W29 m ρ c (Proc.devRef .tc main_arg4) = m ((c : Thread nD τ).loc main_arg4) :=
  W29_args m ρ c main_arg4 (by decide)
theorem W29_main_arg5 (c : Dev nD) : W29 m ρ c (Proc.devRef .tc main_arg5) = m ((c : Thread nD τ).loc main_arg5) :=
  W29_args m ρ c main_arg5 (by decide)
theorem W29_main_arg6 (c : Dev nD) : W29 m ρ c (Proc.devRef .tc main_arg6) = m ((c : Thread nD τ).loc main_arg6) :=
  W29_args m ρ c main_arg6 (by decide)
theorem W29_main_arg7 (c : Dev nD) : W29 m ρ c (Proc.devRef .tc main_arg7) = m ((c : Thread nD τ).loc main_arg7) :=
  W29_args m ρ c main_arg7 (by decide)
end Cert.KernelIdeal.Run

end
-- ==== Proof.Run.State.lean ====
/- The proof data of all seven pallas_calls and the thread state between the items of @main. -/
module

public import proofs.«01_k».proof.Proof.Run.Fold0

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 7) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 7) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V13 m ρ) c
  | ⟨3, _⟩ => fun c => dat3 (V15 m ρ) c
  | ⟨4, _⟩ => fun c => dat4 (V19 m ρ) c
  | ⟨5, _⟩ => fun c => dat5 (V23 m ρ) c
  | ⟨6, _⟩ => fun c => dat6 (V27 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W29`, the generator register at some state. -/
abbrev Tₙ (c : Dev nD) : sProp 𝕄 := iprop(StableHlo.held (c : Thread nD τ) (Pipeline.ucRefs τ sig) (W29 m ρ c) ∗ ∃ r, prngReg c r)

end Cert.KernelIdeal.Run

end
-- ==== Proof.Run.Record0.lean ====
/- Pallas_call 0 as a segment of @main. -/
module

public import proofs.«01_k».proof.Proof.Run.State

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- the library's lemmas are stated over the pinned configuration `pin pcs a p`
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record1.lean ====
/- Pallas_call 1 as a segment of @main. -/
module

public import proofs.«01_k».proof.Proof.Run.State

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration `pin pcs a p`
set_option backward.isDefEq.respectTransparency.types false in
/-- REGION 1 (custom_call 1) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record2.lean ====
/- Pallas_call 2 as a segment of @main. -/
module

public import proofs.«01_k».proof.Proof.Run.State

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration `pin pcs a p`
set_option backward.isDefEq.respectTransparency.types false in
/-- REGION 2 (custom_call 2) over the thread state: entered from every unscoped buffer at `W13`, left at `W14`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) (A_eq2 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (V14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record3.lean ====
/- Pallas_call 3 as a segment of @main. -/
module

public import proofs.«01_k».proof.Proof.Run.State

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration `pin pcs a p`
set_option backward.isDefEq.respectTransparency.types false in
/-- REGION 3 (custom_call 3) over the thread state: entered from every unscoped buffer at `W15`, left at `W16`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V15 m ρ) c).loose
  hwaits := Pipeline.hwaits_of_owed_zero _ _ _ _ L lv 3 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec3 c (V15 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V15 m ρ c) (A_eq3 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V15 m ρ c) (V16 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record4.lean ====
/- Pallas_call 4 as a segment of @main. -/
module

public import proofs.«01_k».proof.Proof.Run.State

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration `pin pcs a p`
set_option backward.isDefEq.respectTransparency.types false in
/-- REGION 4 (custom_call 4) over the thread state: entered from every unscoped buffer at `W19`, left at `W20`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V19 m ρ) c).loose
  hwaits := Pipeline.hwaits_of_owed_zero _ _ _ _ L lv 4 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec4 c (V19 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V19 m ρ c) (A_eq4 (V19 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V19 m ρ c) (V20 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record5.lean ====
/- Pallas_call 5 as a segment of @main. -/
module

public import proofs.«01_k».proof.Proof.Run.State

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration `pin pcs a p`
set_option backward.isDefEq.respectTransparency.types false in
/-- REGION 5 (custom_call 5) over the thread state: entered from every unscoped buffer at `W23`, left at `W24`
    (what the next segment is entered from). Its arrays split out of the unscoped buffers
    (`arrays_of_unscopedBufs`) and put back at the exit contents (`unscopedBufs_of_arrays`); the generator register into the
    class invariant `ΦA` and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V23 m ρ) c).loose
  hwaits := Pipeline.hwaits_of_owed_zero _ _ _ _ L lv 5 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec5 c (V23 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V23 m ρ c) (A_eq5 (V23 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V23 m ρ c) (V24 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record6.lean ====
/- Pallas_call 6 as a segment of @main. -/
module

public import proofs.«01_k».proof.Proof.Run.State

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration `pin pcs a p`
set_option backward.isDefEq.respectTransparency.types false in
/-- REGION 6 (custom_call 6) over the thread state: entered from every unscoped buffer at `W27`, left at `W28`
    (what the next segment is entered from). Its arrays split out of the unscoped buffers
    (`arrays_of_unscopedBufs`) and put back at the exit contents (`unscopedBufs_of_arrays`); the generator register into the
    class invariant `ΦA` and out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V27 m ρ) c).loose
  hwaits := Pipeline.hwaits_of_owed_zero _ _ _ _ L lv 6 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec6 c (V27 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V27 m ρ c) (A_eq6 (V27 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V27 m ρ c) (V28 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Frame.lean ====
/- The run of the whole program: its final buffer contents, its arguments unchanged and its semaphore counters at zero. -/
module

public import proofs.«01_k».proof.Proof.Run.Record0
public import proofs.«01_k».proof.Proof.Run.Record1
public import proofs.«01_k».proof.Proof.Run.Record2
public import proofs.«01_k».proof.Proof.Run.Record3
public import proofs.«01_k».proof.Proof.Run.Record4
public import proofs.«01_k».proof.Proof.Run.Record5
public import proofs.«01_k».proof.Proof.Run.Record6

@[expose] public section

-- the blocks' axes have up to some thousand coordinates
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 29 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .host (hseg hostOps2_3 hostOps2_3_sub hostOps2_3_fresh (W11 m ρ)),
    .host (hseg hostOps2_4 hostOps2_4_sub hostOps2_4_fresh (W12 m ρ)),
    .region (reg2 m ρ),
    .host (hseg hostOps3 hostOps3_sub hostOps3_fresh (W14 m ρ)),
    .region (reg3 m ρ),
    .host (hseg hostOps4 hostOps4_sub hostOps4_fresh (W16 m ρ)),
    .host (hseg hostOps4_1 hostOps4_1_sub hostOps4_1_fresh (W17 m ρ)),
    .host (hseg hostOps4_2 hostOps4_2_sub hostOps4_2_fresh (W18 m ρ)),
    .region (reg4 m ρ),
    .host (hseg hostOps5 hostOps5_sub hostOps5_fresh (W20 m ρ)),
    .host (hseg hostOps5_1 hostOps5_1_sub hostOps5_1_fresh (W21 m ρ)),
    .host (hseg hostOps5_2 hostOps5_2_sub hostOps5_2_fresh (W22 m ρ)),
    .region (reg5 m ρ),
    .host (hseg hostOps6 hostOps6_sub hostOps6_fresh (W24 m ρ)),
    .host (hseg hostOps6_1 hostOps6_1_sub hostOps6_1_fresh (W25 m ρ)),
    .host (hseg hostOps6_2 hostOps6_2_sub hostOps6_2_fresh (W26 m ρ)),
    .region (reg6 m ρ),
    .host (hseg hostOps7 hostOps7_sub hostOps7_fresh (W28 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- From any memory with zero counters every weakly fair execution of @main terminates, nothing faulting; at the end
    each buffer of the device that no region scopes holds `W29`, the contents computed item by item from the launch
    memory, and every semaphore counter is zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W29 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h hz => ⟨h, funext fun g => hz g (.inr (no_unscoped g.2))⟩)

/-- The argument arrays end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨(fun c =>
      ⟨(h.1 c _ (mem_uc main_arg0 (by decide))).trans (W29_main_arg0 m ρ c),
       (h.1 c _ (mem_uc main_arg1 (by decide))).trans (W29_main_arg1 m ρ c),
       (h.1 c _ (mem_uc main_arg2 (by decide))).trans (W29_main_arg2 m ρ c),
       (h.1 c _ (mem_uc main_arg3 (by decide))).trans (W29_main_arg3 m ρ c),
       (h.1 c _ (mem_uc main_arg4 (by decide))).trans (W29_main_arg4 m ρ c),
       (h.1 c _ (mem_uc main_arg5 (by decide))).trans (W29_main_arg5 m ρ c),
       (h.1 c _ (mem_uc main_arg6 (by decide))).trans (W29_main_arg6 m ρ c),
       (h.1 c _ (mem_uc main_arg7 (by decide))).trans (W29_main_arg7 m ρ c)⟩), h.2⟩) (run m ρ)

end Cert.KernelIdeal.Run

end
-- ==== Proof.Same.lean ====
/- The printed kernel and its idealization are one text: the two programs are equal at any float
   values, so what is proved of the one's run holds of the other's. -/
module

public import proofs.«01_k».proof.Kernel
public import proofs.«01_k».proof.Proof.Gen.Kernel
public import proofs.«01_k».proof.Proof.Run.Frame

@[expose] public section

noncomputable section

namespace Cert.Same

open Idealize.ShloMosaic Idealize.ShloMosaic.TcCoe Idealize.SL.Sem

attribute [local instance] Cert.Kernel.Gen.facts Cert.KernelIdeal.Gen.facts

set_option maxRecDepth 100000
set_option maxHeartbeats 0

variable {F : FTy → Type} [FloatOps F]

/-- The kernels' bodies are the same. -/
theorem defs₀_same : @Cert.Kernel.defs₀ F _ _ = @Cert.KernelIdeal.defs₀ F _ _ := by
  unfold Cert.Kernel.defs₀ Cert.KernelIdeal.defs₀
  refine congrArg Defs.onTc ?_
  funext x y
  fin_cases x <;> rfl

/-- The body tables are the same. -/
theorem defs_same : @Cert.Kernel.defs F _ _ = @Cert.KernelIdeal.defs F _ _ := by
  unfold Cert.Kernel.defs Cert.KernelIdeal.defs
  exact congrArg (Pipeline.defs Cert.KernelIdeal.pcfgs) defs₀_same

/-- The host programs are the same, part by part. -/
theorem main_same : @Cert.Kernel.main F _ _ = @Cert.KernelIdeal.main F _ _ := rfl

/-- The printed kernel runs, leaves its arguments unchanged and every semaphore counter at zero. -/
theorem frame (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4)
        ∧ r.2.mem ((c.tc : Thread Cert.Kernel.nD Cert.Kernel.τ).loc Cert.Kernel.main_arg5) = m ((c.tc : Thread Cert.Kernel.nD Cert.Kernel.τ).loc Cert.Kernel.main_arg5)
        ∧ r.2.mem ((c.tc : Thread Cert.Kernel.nD Cert.Kernel.τ).loc Cert.Kernel.main_arg6) = m ((c.tc : Thread Cert.Kernel.nD Cert.Kernel.τ).loc Cert.Kernel.main_arg6)
        ∧ r.2.mem ((c.tc : Thread Cert.Kernel.nD Cert.Kernel.τ).loc Cert.Kernel.main_arg7) = m ((c.tc : Thread Cert.Kernel.nD Cert.Kernel.τ).loc Cert.Kernel.main_arg7))
        ∧ r.2.sem = fun _ => 0) := by
  rw [defs_same, main_same]
  exact Cert.KernelIdeal.Run.frame m ρ

end Cert.Same
-- ==== Proof.Spec.lean ====
/- The network's mathematics on arrays indexed by natural numbers: convolution with padding one and stride two,
   transposed convolution, the sums they are made of. -/
module

public import Mathlib.Data.EReal.Operations
public import Mathlib.Algebra.BigOperators.Fin
public import Mathlib.Tactic.Abel

@[expose] public section

noncomputable section

namespace Cert.Spec

/-- An array of four axes, read at natural numbers. -/
abbrev Arr : Type := ℕ → ℕ → ℕ → ℕ → EReal

/-- The array with one ring of zeros around its last two axes, of extents `H` and `W`. -/
def pad1 (H W : ℕ) (X : Arr) : Arr := fun n c y z =>
  if (1 ≤ y ∧ y - 1 < H) ∧ 1 ≤ z ∧ z - 1 < W then X n c (y - 1) (z - 1) else 0

/-- The 4 × 4 convolution over `C` channels, stride two, padding one. -/
def conv (C H W : ℕ) (X K : Arr) : Arr := fun n o u v =>
  ∑ c : Fin C, ∑ a : Fin 4, ∑ b : Fin 4, K o c a b * pad1 H W X n c (2 * u + a) (2 * v + b)

/-- A conditional read that spells a padded array's. -/
theorem eq_pad1 {H W : ℕ} {X : Arr} {n c y z : ℕ} {P : Prop} [Decidable P] {e : EReal}
    (h : P ↔ (1 ≤ y ∧ y - 1 < H) ∧ 1 ≤ z ∧ z - 1 < W) (he : P → e = X n c (y - 1) (z - 1)) :
    (if P then e else 0) = pad1 H W X n c y z := by
  unfold pad1
  by_cases hP : P
  · rw [if_pos hP, if_pos (h.1 hP), he hP]
  · rw [if_neg hP, if_neg fun hq => hP (h.2 hq)]

/-- Negative values clipped to zero. -/
def relu (X : Arr) : Arr := fun n c y z => max (X n c y z) 0

/-- The array with a zero between any two neighbours and two rings of zeros around its last two axes. -/
def up (H W : ℕ) (X : Arr) : Arr := fun n c y z =>
  if (2 ≤ y ∧ (y - 2) % 2 = 0 ∧ (y - 2) / 2 < H) ∧ 2 ≤ z ∧ (z - 2) % 2 = 0 ∧ (z - 2) / 2 < W then
    X n c ((y - 2) / 2) ((z - 2) / 2) else 0

/-- A conditional read that spells a dilated array's. -/
theorem eq_up {H W : ℕ} {X : Arr} {n c y z : ℕ} {P : Prop} [Decidable P] {e : EReal}
    (h : P ↔ (2 ≤ y ∧ (y - 2) % 2 = 0 ∧ (y - 2) / 2 < H) ∧ 2 ≤ z ∧ (z - 2) % 2 = 0 ∧ (z - 2) / 2 < W)
    (he : P → e = X n c ((y - 2) / 2) ((z - 2) / 2)) :
    (if P then e else 0) = up H W X n c y z := by
  unfold up
  by_cases hP : P
  · rw [if_pos hP, if_pos (h.1 hP), he hP]
  · rw [if_neg hP, if_neg fun hq => hP (h.2 hq)]

/-- The 4 × 4 transposed convolution over `C` channels, stride two. -/
def convT (C H W : ℕ) (X K : Arr) : Arr := fun n o u v =>
  ∑ c : Fin C, ∑ a : Fin 4, ∑ b : Fin 4, K o c a b * up H W X n c (u + a) (v + b)

/-- A sum over `k < 4 * C`, read by quotient and remainder of `k` by `C`. -/
theorem sum_quarters (C K : ℕ) (hK : K = 4 * C) (f : ℕ → ℕ → EReal) :
    ∑ k : Fin K, f (k.val / C) (k.val % C) = ∑ c : Fin C, (f 0 c + f 1 c + f 2 c + f 3 c) := by
  subst hK
  rcases Nat.eq_zero_or_pos C with rfl | hC
  · simp
  rw [← (finProdFinEquiv (m := 4) (n := C)).sum_comp]
  rw [Fintype.sum_prod_type, Fin.sum_univ_four]
  simp only [finProdFinEquiv_apply_val]
  have h : ∀ (c : Fin C) (q : ℕ), (c.val + C * q) / C = q ∧ (c.val + C * q) % C = c.val := fun c q =>
    ⟨by rw [Nat.add_mul_div_left _ _ hC, Nat.div_eq_of_lt c.isLt, zero_add],
     by rw [Nat.add_mul_mod_self_left, Nat.mod_eq_of_lt c.isLt]⟩
  simp only [fun c q => (h c q).1, fun c q => (h c q).2, ← Finset.sum_add_distrib]
  rfl

/-- Four partial sums over `4 * C` columns, the columns holding a 2 × 2 patch of `C` channels each, are the sum over
    the channels and the 4 × 4 window. -/
theorem sum_taps (C K : ℕ) (hK : K = 4 * C) (f : ℕ → ℕ → ℕ → EReal) :
    (((∑ k : Fin K, f (k.val % C) (k.val / C / 2) (k.val / C % 2))
      + ∑ k : Fin K, f (k.val % C) (k.val / C / 2) (2 + k.val / C % 2))
      + ∑ k : Fin K, f (k.val % C) (2 + k.val / C / 2) (k.val / C % 2))
      + ∑ k : Fin K, f (k.val % C) (2 + k.val / C / 2) (2 + k.val / C % 2)
    = ∑ c : Fin C, ∑ a : Fin 4, ∑ b : Fin 4, f c a b := by
  rw [sum_quarters C K hK fun q c => f c (q / 2) (q % 2), sum_quarters C K hK fun q c => f c (q / 2) (2 + q % 2),
    sum_quarters C K hK fun q c => f c (2 + q / 2) (q % 2), sum_quarters C K hK fun q c => f c (2 + q / 2) (2 + q % 2)]
  simp only [← Finset.sum_add_distrib, Fin.sum_univ_four]
  refine Finset.sum_congr rfl fun c _ => ?_
  norm_num
  abel

end Cert.Spec

end
-- ==== Proof.Dot3.lean ====
/- A product of a filter bank with an array of 4 × 4 windows, contracted over channel, window column and window row,
   read at a position: the triple sum. -/
module

public import proofs.«01_k».proof.Proof.Spec
public import Idealize.ShloMosaic.Lib.ValueIdx
public import Idealize.ShloMosaic.PureOps.Ideal.Laws
public import Idealize.ShloMosaic.Lib.Pointwise

@[expose] public section

noncomputable section

namespace Cert.Spec

open Idealize.ShloMosaic

/-- The array `f`, of four axes, holds what `X` says at every position. -/
abbrev Is4 (n0 n1 n2 n3 : ℕ) (f : (⟨4, ![n0, n1, n2, n3]⟩ : Shape).Idx → EReal) (X : Arr) : Prop :=
  ∀ (a : Fin n0) (b : Fin n1) (c : Fin n2) (d : Fin n3), f (ix4 a b c d) = X a b c d

/-- The integer zero, converted. -/
theorem sitofp_zero : (FloatOps.sitofp FTy.f32 (0#32) : Ideal .f32) = (0 : EReal) := by
  show ((((0#32 : BitVec 32).toInt : ℝ)) : EReal) = 0
  norm_num

/-- The contraction index of three coordinates. -/
def contr3 (O C N H W : ℕ)
    (wf : DotDims.WF ⟨4, ![O, C, 4, 4]⟩ ⟨6, ![N, C, 4, 4, H, W]⟩ ⟨4, ![O, N, H, W]⟩ [1, 3, 2] [1, 3, 2] [0] [0, 4, 5] [] []) :
    (Fin C × Fin 4 × Fin 4) ≃ (⟨[1, 3, 2], [1, 3, 2], [0], [0, 4, 5], [], [], wf⟩ : DotDims _ _ _).contr.Idx where
  toFun p := fun a => match a with
    | ⟨0, _⟩ => p.1
    | ⟨1, _⟩ => p.2.1
    | ⟨2, _⟩ => p.2.2
  invFun k := (k ⟨0, Nat.zero_lt_succ _⟩, k ⟨1, by show 1 < 3; omega⟩, k ⟨2, by show 2 < 3; omega⟩)
  left_inv p := rfl
  right_inv k := by
    funext a
    match a with
    | ⟨0, _⟩ => rfl
    | ⟨1, _⟩ => rfl
    | ⟨2, _⟩ => rfl

/-- The product at a position, into the zero accumulator. -/
theorem matmul3 (O C N H W : ℕ)
    (wf : DotDims.WF ⟨4, ![O, C, 4, 4]⟩ ⟨6, ![N, C, 4, 4, H, W]⟩ ⟨4, ![O, N, H, W]⟩ [1, 3, 2] [1, 3, 2] [0] [0, 4, 5] [] [])
    (l : (⟨4, ![O, C, 4, 4]⟩ : Shape).Idx → EReal) (r : (⟨6, ![N, C, 4, 4, H, W]⟩ : Shape).Idx → EReal)
    (o : Fin O) (n : Fin N) (u : Fin H) (v : Fin W) :
    Ideal.matmul ⟨[1, 3, 2], [1, 3, 2], [0], [0, 4, 5], [], [], wf⟩ l r (fun _ => 0) (ix4 o n u v)
      = ∑ c : Fin C, ∑ a : Fin 4, ∑ b : Fin 4, l (ix4 o c a b) * r (ix6 n c a b u v) := by
  unfold Ideal.matmul
  rw [zero_add, ← (contr3 O C N H W wf).sum_comp, Fintype.sum_prod_type]
  refine Finset.sum_congr rfl fun c _ => ?_
  rw [Fintype.sum_prod_type, Finset.sum_comm]
  refine Finset.sum_congr rfl fun a _ => Finset.sum_congr rfl fun b _ => ?_
  congr 2
  · funext i; fin_cases i <;> rfl
  · funext i; fin_cases i <;> rfl

end Cert.Spec

end
-- ==== Proof.Taps.lean ====
/- Sums over taps: what a call with four (or nine) shifted products leaves at a position, and the convolution it is when
   the array holds 2 × 2 patches of a padded image (or the padded image itself). -/
module

public import proofs.«01_k».proof.Proof.Spec
public import proofs.«01_k».proof.Proof.Dot3

@[expose] public section

noncomputable section

namespace Cert.Spec

open Idealize.ShloMosaic

/-- An image stored with its channels last. -/
abbrev nhwc (X : Arr) : Arr := fun n y z c => X n c y z

/-- The array `f`, of three axes, holds what `W` says at every position. -/
abbrev Is3 (n0 n1 n2 : ℕ) (f : (⟨3, ![n0, n1, n2]⟩ : Shape).Idx → EReal) (W : ℕ → ℕ → ℕ → EReal) : Prop :=
  ∀ (a : Fin n0) (b : Fin n1) (c : Fin n2), f (ix3 a b c) = W a b c

/-- The sum over the channels at one tap: the image at `y`, `z`, the weights of tap `t`. -/
def tap (K : ℕ) (X : Arr) (W : ℕ → ℕ → ℕ → EReal) (t n y z o : ℕ) : EReal := ∑ k : Fin K, X n y z k * W t k o

/-- Four taps, at the four corners of a square. -/
def taps4 (K : ℕ) (X : Arr) (W : ℕ → ℕ → ℕ → EReal) : Arr := fun n u v o =>
  ((tap K X W 0 n u v o + tap K X W 1 n u (v + 1) o) + tap K X W 2 n (u + 1) v o) + tap K X W 3 n (u + 1) (v + 1) o

/-- The 2 × 2 patches of a padded image, as columns: the patch's row, its column, the channel. -/
def patches (C H W : ℕ) (X : Arr) : Arr := fun n u v k =>
  pad1 H W X n (k % C) (2 * u + k / C / 2) (2 * v + k / C % 2)

/-- The filter bank, laid out by tap and patch position. -/
def encW (C : ℕ) (K : Arr) : ℕ → ℕ → ℕ → EReal := fun t k o =>
  K o (k % C) (2 * (t / 2) + k / C / 2) (2 * (t % 2) + k / C % 2)

/-- Four taps over the patches are the convolution. -/
theorem taps4_patches (C H W : ℕ) (X K : Arr) (n u v o : ℕ) :
    taps4 (4 * C) (patches C H W X) (encW C K) n u v o = conv C H W X K n o u v := by
  unfold conv
  rw [← sum_taps C (4 * C) rfl fun c a b => K o c a b * pad1 H W X n c (2 * u + a) (2 * v + b)]
  unfold taps4 tap patches encW
  have h : ∀ (p q r s : ℕ), 2 * (p + 1) + q = 2 * p + (2 + q) := fun p q r s => by ring
  congr 1
  · congr 1
    · congr 1
      all_goals refine Finset.sum_congr rfl fun k _ => ?_; rw [mul_comm]; norm_num [mul_add, add_assoc]
    · refine Finset.sum_congr rfl fun k _ => ?_; rw [mul_comm]; norm_num [mul_add, add_assoc]
  · refine Finset.sum_congr rfl fun k _ => ?_; rw [mul_comm]; norm_num [mul_add, add_assoc]

/-- Taps read the image and the weights at the square's positions only. -/
theorem taps4_congr (K : ℕ) {X X' : Arr} {W W' : ℕ → ℕ → ℕ → EReal} {n u v o : ℕ}
    (hX : ∀ y z k, y ≤ u + 1 → z ≤ v + 1 → k < K → X n y z k = X' n y z k)
    (hW : ∀ t k, t < 4 → k < K → W t k o = W' t k o) :
    taps4 K X W n u v o = taps4 K X' W' n u v o := by
  have h : ∀ t y z, t < 4 → y ≤ u + 1 → z ≤ v + 1 → tap K X W t n y z o = tap K X' W' t n y z o :=
    fun t y z ht hy hz => Finset.sum_congr rfl fun k _ => by rw [hX y z k hy hz k.isLt, hW t k ht k.isLt]
  unfold taps4
  rw [h 0 u v (by omega) (by omega) (by omega), h 1 u (v + 1) (by omega) (by omega) (by omega),
    h 2 (u + 1) v (by omega) (by omega) (by omega), h 3 (u + 1) (v + 1) (by omega) (by omega) (by omega)]

end Cert.Spec

end
-- ==== Proof.TapSum.lean ====
/- Four shifted products of an array of images with a bank of matrices, as an array. -/
module

public import proofs.«01_k».proof.Proof.Taps

@[expose] public section

noncomputable section

namespace Cert.Spec

open Idealize.ShloMosaic

/-- Negative values clipped to zero. -/
def clip {s : Shape} (f : FVec Ideal s .f32) : FVec Ideal s .f32 := fun j => max (f j : EReal) 0

/-- Clipped values agree where the values do. -/
theorem clip_congr {s s' : Shape} {f : FVec Ideal s .f32} {g : FVec Ideal s' .f32} {y : s.Idx} {j : s'.Idx}
    (h : (f y : EReal) = g j) : (clip f y : EReal) = clip g j := congrArg (fun e : EReal => max e 0) h

/-- The sum over the channels at each tap, the image shifted by the tap's row and column, the four added in order. -/
def encSum (N Hu Wu K Ho Wo O : ℕ) (hH : Ho + 1 ≤ Hu) (hW : Wo + 1 ≤ Wu) (x : FVec Ideal ⟨4, ![N, Hu, Wu, K]⟩ .f32)
    (w : FVec Ideal ⟨3, ![4, K, O]⟩ .f32) : FVec Ideal ⟨4, ![N, Ho, Wo, O]⟩ .f32 := fun j =>
  (((∑ k : Fin K, x (ix4 (j 0) ⟨(j 1).val, by have : (j 1).val < Ho := (j 1).isLt; omega⟩ ⟨(j 2).val, by have : (j 2).val < Wo := (j 2).isLt; omega⟩ k) * w (ix3 0 k (j 3)))
    + ∑ k : Fin K, x (ix4 (j 0) ⟨(j 1).val, by have : (j 1).val < Ho := (j 1).isLt; omega⟩ ⟨(j 2).val + 1, by have : (j 2).val < Wo := (j 2).isLt; omega⟩ k) * w (ix3 1 k (j 3)))
    + ∑ k : Fin K, x (ix4 (j 0) ⟨(j 1).val + 1, by have : (j 1).val < Ho := (j 1).isLt; omega⟩ ⟨(j 2).val, by have : (j 2).val < Wo := (j 2).isLt; omega⟩ k) * w (ix3 2 k (j 3)))
    + ∑ k : Fin K, x (ix4 (j 0) ⟨(j 1).val + 1, by have : (j 1).val < Ho := (j 1).isLt; omega⟩ ⟨(j 2).val + 1, by have : (j 2).val < Wo := (j 2).isLt; omega⟩ k) * w (ix3 3 k (j 3))

/-- One image's sum is the whole array's at that image. -/
theorem encSum_block {N Hu Wu K Ho Wo O : ℕ} {hH : Ho + 1 ≤ Hu} {hW : Wo + 1 ≤ Wu} {x : FVec Ideal ⟨4, ![N, Hu, Wu, K]⟩ .f32}
    {w w' : FVec Ideal ⟨3, ![4, K, O]⟩ .f32} {x' : FVec Ideal ⟨4, ![1, Hu, Wu, K]⟩ .f32} (n : Fin N)
    (hx : ∀ (b : Fin Hu) (c : Fin Wu) (d : Fin K), x' (ix4 0 b c d) = x (ix4 n b c d))
    (hw : ∀ i, w' i = w i)
    (y : (⟨4, ![1, Ho, Wo, O]⟩ : Shape).Idx) (j : (⟨4, ![N, Ho, Wo, O]⟩ : Shape).Idx) (h0 : (j 0).val = n.val)
    (h1 : (j 1).val = (y 1).val) (h2 : (j 2).val = (y 2).val) (h3 : (j 3).val = (y 3).val) :
    encSum 1 Hu Wu K Ho Wo O hH hW x' w' y = encSum N Hu Wu K Ho Wo O hH hW x w j := by
  have e0 : j 0 = n := Fin.ext h0
  have e1 : j 1 = y 1 := Fin.ext h1
  have e2 : j 2 = y 2 := Fin.ext h2
  have e3 : j 3 = y 3 := Fin.ext h3
  have f0 : y 0 = (0 : Fin 1) := Subsingleton.elim (α := Fin 1) _ _
  unfold encSum
  simp only [e0, e1, e2, e3, f0, hx _ _ _, hw]

/-- Of arrays known by their values at positions. -/
theorem encSum_at {N Hu Wu K Ho Wo O : ℕ} {hH : Ho + 1 ≤ Hu} {hW : Wo + 1 ≤ Wu} {x : FVec Ideal ⟨4, ![N, Hu, Wu, K]⟩ .f32}
    {w : FVec Ideal ⟨3, ![4, K, O]⟩ .f32} {X : Arr} {W : ℕ → ℕ → ℕ → EReal} (hx : Is4 N Hu Wu K x X) (hw : Is3 4 K O w W)
    (n : Fin N) (u : Fin Ho) (v : Fin Wo) (o : Fin O) :
    encSum N Hu Wu K Ho Wo O hH hW x w (ix4 n u v o) = taps4 K X W n u v o := by
  unfold encSum taps4 tap
  simp only [ix4_0, ix4_1, ix4_2, ix4_3]
  simp only [hx _ _ _ _, hw _ _ _]
  rfl

/-- The sum over the channels at each of four taps, for each of four phases: phase `p` reads the image from row `p / 2`
    and column `p % 2` on. -/
def decSum (N Hu Wu K Ho Wo O : ℕ) (hH : Ho + 2 ≤ Hu) (hW : Wo + 2 ≤ Wu) (x : FVec Ideal ⟨4, ![N, Hu, Wu, K]⟩ .f32)
    (w : FVec Ideal ⟨4, ![4, 4, K, O]⟩ .f32) : FVec Ideal ⟨5, ![N, 4, Ho, Wo, O]⟩ .f32 := fun j =>
  (((∑ k : Fin K, x (ix4 (j 0) ⟨(j 1).val / 2 + (j 2).val, by have : (j 2).val < Ho := (j 2).isLt; have : (j 1).val < 4 := (j 1).isLt; omega⟩ ⟨(j 1).val % 2 + (j 3).val, by have : (j 3).val < Wo := (j 3).isLt; omega⟩ k) * w (ix4 (j 1) 0 k (j 4)))
    + ∑ k : Fin K, x (ix4 (j 0) ⟨(j 1).val / 2 + (j 2).val, by have : (j 2).val < Ho := (j 2).isLt; have : (j 1).val < 4 := (j 1).isLt; omega⟩ ⟨(j 1).val % 2 + (j 3).val + 1, by have : (j 3).val < Wo := (j 3).isLt; omega⟩ k) * w (ix4 (j 1) 1 k (j 4)))
    + ∑ k : Fin K, x (ix4 (j 0) ⟨(j 1).val / 2 + (j 2).val + 1, by have : (j 2).val < Ho := (j 2).isLt; have : (j 1).val < 4 := (j 1).isLt; omega⟩ ⟨(j 1).val % 2 + (j 3).val, by have : (j 3).val < Wo := (j 3).isLt; omega⟩ k) * w (ix4 (j 1) 2 k (j 4)))
    + ∑ k : Fin K, x (ix4 (j 0) ⟨(j 1).val / 2 + (j 2).val + 1, by have : (j 2).val < Ho := (j 2).isLt; have : (j 1).val < 4 := (j 1).isLt; omega⟩ ⟨(j 1).val % 2 + (j 3).val + 1, by have : (j 3).val < Wo := (j 3).isLt; omega⟩ k) * w (ix4 (j 1) 3 k (j 4))

/-- One image's sum is the whole array's at that image. -/
theorem decSum_block {N Hu Wu K Ho Wo O : ℕ} {hH : Ho + 2 ≤ Hu} {hW : Wo + 2 ≤ Wu} {x : FVec Ideal ⟨4, ![N, Hu, Wu, K]⟩ .f32}
    {w w' : FVec Ideal ⟨4, ![4, 4, K, O]⟩ .f32} {x' : FVec Ideal ⟨4, ![1, Hu, Wu, K]⟩ .f32} (n : Fin N)
    (hx : ∀ (b : Fin Hu) (c : Fin Wu) (d : Fin K), x' (ix4 0 b c d) = x (ix4 n b c d))
    (hw : ∀ i, w' i = w i)
    (y : (⟨5, ![1, 4, Ho, Wo, O]⟩ : Shape).Idx) (j : (⟨5, ![N, 4, Ho, Wo, O]⟩ : Shape).Idx) (h0 : (j 0).val = n.val)
    (h1 : (j 1).val = (y 1).val) (h2 : (j 2).val = (y 2).val) (h3 : (j 3).val = (y 3).val) (h4 : (j 4).val = (y 4).val) :
    decSum 1 Hu Wu K Ho Wo O hH hW x' w' y = decSum N Hu Wu K Ho Wo O hH hW x w j := by
  have e0 : j 0 = n := Fin.ext h0
  have e1 : j 1 = y 1 := Fin.ext h1
  have e2 : j 2 = y 2 := Fin.ext h2
  have e3 : j 3 = y 3 := Fin.ext h3
  have e4 : j 4 = y 4 := Fin.ext h4
  have f0 : y 0 = (0 : Fin 1) := Subsingleton.elim (α := Fin 1) _ _
  unfold decSum
  simp only [e0, e1, e2, e3, e4, f0, hx _ _ _, hw]

/-- Nine shifted products: the image shifted by `s / 3` rows and `s % 3` columns at tap `s`. -/
def dec9Sum (N Hu Wu K Ho Wo O : ℕ) (hH : Ho + 2 ≤ Hu) (hW : Wo + 2 ≤ Wu) (x : FVec Ideal ⟨4, ![N, Hu, Wu, K]⟩ .f32)
    (w : FVec Ideal ⟨3, ![9, K, O]⟩ .f32) : FVec Ideal ⟨4, ![N, Ho, Wo, O]⟩ .f32 := fun j =>
  let P : (s : Fin 9) → EReal := fun s =>
    ∑ k : Fin K, x (ix4 (j 0) ⟨s.val / 3 + (j 1).val, by have : (j 1).val < Ho := (j 1).isLt; omega⟩
      ⟨s.val % 3 + (j 2).val, by have : (j 2).val < Wo := (j 2).isLt; omega⟩ k) * w (ix3 s k (j 3))
  (((((((P 0 + P 1) + P 2) + P 3) + P 4) + P 5) + P 6) + P 7) + P 8

/-- One image's sum is the whole array's at that image. -/
theorem dec9Sum_block {N Hu Wu K Ho Wo O : ℕ} {hH : Ho + 2 ≤ Hu} {hW : Wo + 2 ≤ Wu} {x : FVec Ideal ⟨4, ![N, Hu, Wu, K]⟩ .f32}
    {w w' : FVec Ideal ⟨3, ![9, K, O]⟩ .f32} {x' : FVec Ideal ⟨4, ![1, Hu, Wu, K]⟩ .f32} (n : Fin N)
    (hx : ∀ (b : Fin Hu) (c : Fin Wu) (d : Fin K), x' (ix4 0 b c d) = x (ix4 n b c d))
    (hw : ∀ i, w' i = w i)
    (y : (⟨4, ![1, Ho, Wo, O]⟩ : Shape).Idx) (j : (⟨4, ![N, Ho, Wo, O]⟩ : Shape).Idx) (h0 : (j 0).val = n.val)
    (h1 : (j 1).val = (y 1).val) (h2 : (j 2).val = (y 2).val) (h3 : (j 3).val = (y 3).val) :
    dec9Sum 1 Hu Wu K Ho Wo O hH hW x' w' y = dec9Sum N Hu Wu K Ho Wo O hH hW x w j := by
  have e0 : j 0 = n := Fin.ext h0
  have e1 : j 1 = y 1 := Fin.ext h1
  have e2 : j 2 = y 2 := Fin.ext h2
  have e3 : j 3 = y 3 := Fin.ext h3
  have f0 : y 0 = (0 : Fin 1) := Subsingleton.elim (α := Fin 1) _ _
  unfold dec9Sum
  simp only [e0, e1, e2, e3, f0, hx _ _ _, hw]

end Cert.Spec

end
-- ==== Proof.DecTaps.lean ====
/- Transposed convolution as sums of taps: each phase of the result is a four-tap sum over the padded image. -/
module

public import proofs.«01_k».proof.Proof.TapSum

@[expose] public section

noncomputable section

namespace Cert.Spec

open Idealize.ShloMosaic

/-- The array `f`, of five axes, holds what `X` says at every position. -/
abbrev Is5 (n0 n1 n2 n3 n4 : ℕ) (f : (⟨5, ![n0, n1, n2, n3, n4]⟩ : Shape).Idx → EReal) (X : ℕ → ℕ → ℕ → ℕ → ℕ → EReal) : Prop :=
  ∀ (a : Fin n0) (b : Fin n1) (c : Fin n2) (d : Fin n3) (e : Fin n4), f (ix5 a b c d e) = X a b c d e

/-- The array `f`, of two axes, holds what `X` says at every position. -/
abbrev Is2 (n0 n1 : ℕ) (f : (⟨2, ![n0, n1]⟩ : Shape).Idx → EReal) (X : ℕ → ℕ → EReal) : Prop :=
  ∀ (a : Fin n0) (b : Fin n1), f (ix2 a b) = X a b

/-- An image's positions as rows, the channels as columns. -/
def rows (H W : ℕ) (X : Arr) : ℕ → ℕ → EReal := fun r c => X (r / (H * W)) c (r / W % H) (r % W)

/-- Four phases side by side: the row's and the column's parities choose the phase. -/
def phases (X : ℕ → ℕ → ℕ → ℕ → ℕ → EReal) : Arr := fun n o y z => X n (2 * (y % 2) + z % 2) (y / 2) (z / 2) o

/-- The filter bank, laid out by phase and tap. -/
def decW (K : Arr) : Arr := fun p t k o => K o k (2 * (t / 2) + p / 2) (2 * (t % 2) + p % 2)

/-- The filter bank, laid out by shift; the columns are the four phases' channels, zero where the phase does not use the shift. -/
def decW9 (O : ℕ) (K : Arr) : ℕ → ℕ → ℕ → EReal := fun s k q =>
  if (q / O / 2 ≤ s / 3 ∧ s / 3 ≤ q / O / 2 + 1) ∧ q / O % 2 ≤ s % 3 ∧ s % 3 ≤ q / O % 2 + 1 then
    K (q % O) k (2 * (s / 3) - q / O / 2) (2 * (s % 3) - q / O % 2) else 0

/-- The dilated array at a position of parities `p`, `q`: of the 4 × 4 window four places are read. -/
theorem sum_window (H W : ℕ) (X : Arr) (n c i j p q : ℕ) (hp : p < 2) (hq : q < 2) (k : ℕ → ℕ → EReal) :
    ∑ a : Fin 4, ∑ b : Fin 4, k a b * up H W X n c (2 * i + p + a) (2 * j + q + b)
    = ((k p q * pad1 H W X n c (p + i) (q + j) + k p (2 + q) * pad1 H W X n c (p + i) (q + j + 1))
      + k (2 + p) q * pad1 H W X n c (p + i + 1) (q + j))
      + k (2 + p) (2 + q) * pad1 H W X n c (p + i + 1) (q + j + 1) := by
  have e : ∀ (a b : ℕ), a < 4 → b < 4 → up H W X n c (2 * i + p + a) (2 * j + q + b)
      = if a % 2 = p ∧ b % 2 = q then pad1 H W X n c (p + i + a / 2) (q + j + b / 2) else 0 := by
    intro a b ha hb
    unfold up pad1
    by_cases h : a % 2 = p ∧ b % 2 = q
    · rw [if_pos h]
      refine if_congr (by omega) ?_ rfl
      congr 1 <;> omega
    · rw [if_neg h, if_neg (by omega)]
  simp only [Fin.sum_univ_four]
  simp only [e _ _ (Fin.isLt _) (Fin.isLt _)]
  rcases (by omega : p = 0 ∨ p = 1) with rfl | rfl <;> rcases (by omega : q = 0 ∨ q = 1) with rfl | rfl <;>
    simp [add_assoc]

/-- The four taps of a phase over a padded image are the transposed convolution at that phase. -/
theorem decSum_at {N Hu Wu K Ho Wo O H W : ℕ} {hH : Ho + 2 ≤ Hu} {hW : Wo + 2 ≤ Wu} {x : FVec Ideal ⟨4, ![N, Hu, Wu, K]⟩ .f32}
    {w : FVec Ideal ⟨4, ![4, 4, K, O]⟩ .f32} {X B : Arr} (hx : Is4 N Hu Wu K x (nhwc (pad1 H W X))) (hw : Is4 4 4 K O w (decW B))
    (n : Fin N) (p : Fin 4) (u : Fin Ho) (v : Fin Wo) (o : Fin O) :
    decSum N Hu Wu K Ho Wo O hH hW x w (ix5 n p u v o) = convT K H W X B n o (2 * u + p.val / 2) (2 * v + p.val % 2) := by
  unfold decSum convT
  simp only [ix5_0, ix5_1, ix5_2, ix5_3, ix5_4]
  simp only [hx _ _ _ _, hw _ _ _ _]
  simp only [sum_window H W X _ _ _ _ _ _ (show p.val / 2 < 2 by omega) (show p.val % 2 < 2 by omega), Finset.sum_add_distrib]
  unfold decW nhwc
  congr 1
  · congr 1
    · congr 1
      all_goals
        refine Finset.sum_congr rfl fun k _ => ?_
        rw [mul_comm]
        norm_num
    · refine Finset.sum_congr rfl fun k _ => ?_
      rw [mul_comm]
      norm_num
  · refine Finset.sum_congr rfl fun k _ => ?_
    rw [mul_comm]
    norm_num

/-- The phases of an array side by side are the array. -/
theorem phases_eq (Y : Arr) : phases (fun n p u v o => Y n o (2 * u + p / 2) (2 * v + p % 2)) = Y := by
  funext n o y z
  show Y n o (2 * (y / 2) + (2 * (y % 2) + z % 2) / 2) (2 * (z / 2) + (2 * (y % 2) + z % 2) % 2) = Y n o y z
  rw [show 2 * (y / 2) + (2 * (y % 2) + z % 2) / 2 = y by omega, show 2 * (z / 2) + (2 * (y % 2) + z % 2) % 2 = z by omega]

/-- The nine shifts over a padded image, at a phase's columns, are the transposed convolution at that phase. -/
theorem dec9Sum_at {N Hu Wu K Ho Wo O H W : ℕ} {hH : Ho + 2 ≤ Hu} {hW : Wo + 2 ≤ Wu} {x : FVec Ideal ⟨4, ![N, Hu, Wu, K]⟩ .f32}
    {w : FVec Ideal ⟨3, ![9, K, 4 * O]⟩ .f32} {X B : Arr} (hx : Is4 N Hu Wu K x (nhwc (pad1 H W X))) (hw : Is3 9 K (4 * O) w (decW9 O B))
    (n : Fin N) (u : Fin Ho) (v : Fin Wo) (q : Fin (4 * O)) :
    dec9Sum N Hu Wu K Ho Wo (4 * O) hH hW x w (ix4 n u v q)
      = convT K H W X B n (q.val % O) (2 * u + q.val / O / 2) (2 * v + q.val / O % 2) := by
  have hq : q.val / O < 4 := Nat.div_lt_of_lt_mul (by have := q.isLt; omega)
  unfold dec9Sum convT
  simp only [ix4_0, ix4_1, ix4_2, ix4_3]
  simp only [hx _ _ _ _, hw _ _ _]
  simp only [sum_window H W X _ _ _ _ _ _ (show q.val / O / 2 < 2 by omega) (show q.val / O % 2 < 2 by omega), ← Finset.sum_add_distrib]
  refine Finset.sum_congr rfl fun k _ => ?_
  unfold decW9 nhwc
  generalize q.val / O = p at hq
  generalize q.val % O = o
  interval_cases p <;> simp [mul_comm, add_comm, add_left_comm, add_assoc]

end Cert.Spec

end
-- ==== Proof.Vq.lean ====
/- The first position of a least value, and the folds that find it. -/
module

public import proofs.«01_k».proof.Proof.Spec
public import proofs.«01_k».proof.Proof.Dot3
public import Idealize.ShloMosaic.Lib.ValueIdx
public import Idealize.ShloMosaic.PureOps.Ideal.Laws
public import Idealize.ShloMosaic.Lib.Pointwise
public import Idealize.ShloMosaic.Lib.SortNet.Extract

@[expose] public section

noncomputable section

namespace Cert.Spec

open Idealize.ShloMosaic

/-- `i` is the first position at which `d` is least. -/
def FirstMin {N : ℕ} (d : Fin N → EReal) (i : Fin N) : Prop := (∀ j, d i ≤ d j) ∧ ∀ j, j < i → d i < d j

/-- There is a first least position. -/
theorem exists_firstMin {N : ℕ} (d : Fin (N + 1) → EReal) : ∃ i, FirstMin d i := by
  obtain ⟨a, -, ha⟩ := Finset.exists_min_image Finset.univ d ⟨0, Finset.mem_univ _⟩
  have hne : (Finset.univ.filter fun j => d j = d a).Nonempty := ⟨a, by simp⟩
  refine ⟨(Finset.univ.filter fun j => d j = d a).min' hne, ?_⟩
  have hi := Finset.min'_mem _ hne
  rw [Finset.mem_filter] at hi
  refine ⟨fun j => by rw [hi.2]; exact ha j (Finset.mem_univ _), fun j hj => ?_⟩
  rw [hi.2]
  refine lt_of_le_of_ne (ha j (Finset.mem_univ _)) fun e => ?_
  exact absurd (Finset.min'_le _ j (by simp [e])) (not_le.mpr hj)

/-- There is only one. -/
theorem FirstMin.unique {N : ℕ} {d : Fin N → EReal} {i j : Fin N} (hi : FirstMin d i) (hj : FirstMin d j) : i = j := by
  rcases lt_trichotomy i j with h | h | h
  · exact absurd (hi.1 j) (not_le.mpr (hj.2 i h))
  · exact h
  · exact absurd (hj.1 i) (not_le.mpr (hi.2 j h))

/-- A constant real shift of real values leaves it where it is. -/
theorem FirstMin.shift {N : ℕ} {d e : Fin N → EReal} {i : Fin N} (a : ℝ) (r : Fin N → ℝ) (hd : ∀ j, d j = (r j : EReal))
    (he : ∀ j, e j = ((a + r j : ℝ) : EReal)) (h : FirstMin d i) : FirstMin e i := by
  constructor
  · intro j
    have := h.1 j
    rw [hd, hd, EReal.coe_le_coe_iff] at this
    rw [he, he, EReal.coe_le_coe_iff]
    linarith
  · intro j hj
    have := h.2 j hj
    rw [hd, hd, EReal.coe_lt_coe_iff] at this
    rw [he, he, EReal.coe_lt_coe_iff]
    linarith

/-- The minimum of all values is the value there. -/
theorem FirstMin.fold_min {N : ℕ} {d : Fin N → EReal} {i : Fin N} (h : FirstMin d i) : Finset.univ.fold min ⊤ d = d i := by
  refine le_antisymm (Finset.fold_min_le _ |>.mpr (Or.inr ⟨i, Finset.mem_univ _, le_rfl⟩)) ?_
  exact Finset.le_fold_min _ |>.mpr ⟨le_top, fun j _ => h.1 j⟩

/-- A fold of the signed minimum is a least element among those folded, when the start is no less. -/
theorem fold_minsi {N : ℕ} (g : Fin N → BitVec 32) (i : Fin N) (z : BitVec 32) (hz : (g i).toInt ≤ z.toInt)
    (hg : ∀ j, (g i).toInt ≤ (g j).toInt) : Finset.univ.fold IntOp.minsi z g = g i := by
  refine BitVec.eq_of_toInt_eq ?_
  have h := Finset.fold_hom (s := Finset.univ) (f := g) (b := z) (op := IntOp.minsi) (op' := min) (m := BitVec.toInt)
    (fun a b => Idealize.ShloMosaic.SortNet.toInt_minsi a b)
  rw [← h]
  refine le_antisymm (Finset.fold_min_le _ |>.mpr (Or.inr ⟨i, Finset.mem_univ _, le_rfl⟩)) ?_
  exact Finset.le_fold_min _ |>.mpr ⟨hz, fun j _ => hg j⟩

/-- Choosing, among the positions of the least value, the smallest finds the first least position. -/
theorem FirstMin.fold_minsi {d : Fin 1024 → EReal} {i : Fin 1024} (h : FirstMin d i) (g : Fin 1024 → BitVec 32)
    (hg : ∀ j, g j = if d j = d i then BitVec.ofNat 32 j.val else 1024#32) :
    Finset.univ.fold IntOp.minsi 2147483647#32 g = BitVec.ofNat 32 i.val := by
  have hn : ∀ n : ℕ, n ≤ 1024 → (BitVec.ofNat 32 n).toInt = n := fun n hn => by
    rw [BitVec.toInt_ofNat', Int.bmod_def]; omega
  have hi : g i = BitVec.ofNat 32 i.val := by rw [hg, if_pos rfl]
  rw [Cert.Spec.fold_minsi g i, hi]
  · rw [hi, hn _ (by omega)]
    have : (2147483647#32 : BitVec 32).toInt = 2147483647 := by decide
    rw [this]; omega
  · intro j
    rw [hi, hn _ (by omega), hg]
    split_ifs with e
    · rw [hn _ (by omega)]
      have : ¬ j < i := fun hj => (ne_of_gt (h.2 j hj)) e
      have : i.val ≤ j.val := not_lt.mp this
      omega
    · rw [show (1024#32 : BitVec 32) = BitVec.ofNat 32 1024 from rfl, hn _ (by omega)]; omega

/-- The word 2.0. -/
theorem two_f32 : Ideal.ofBits .f32 0x40000000#32 = ((2 : ℝ) : EReal) := by
  simp [Ideal.ofBits, Ideal.ieee, -EReal.coe_mul]; norm_num

/-- The word +∞. -/
theorem inf_f32 : Ideal.ofBits .f32 0x7F800000#32 = (⊤ : EReal) := by
  simp [Ideal.ofBits, Ideal.ieee]

/-- A row's distance from a code, up to the row's own square. -/
def dist (z : ℕ → EReal) (C : ℕ → ℕ → EReal) (j : Fin 1024) : EReal :=
  ∑ k : Fin 64, C j k * C j k - ((2 : ℝ) : EReal) * ∑ k : Fin 64, z k * C j k

/-- The nearest code, the first of several. -/
def pick (z : ℕ → EReal) (C : ℕ → ℕ → EReal) : Fin 1024 := (exists_firstMin (dist z C)).choose

theorem pick_spec (z : ℕ → EReal) (C : ℕ → ℕ → EReal) : FirstMin (dist z C) (pick z C) := (exists_firstMin (dist z C)).choose_spec

/-- The nearest code's entries. -/
def quant (Z C : ℕ → ℕ → EReal) : ℕ → ℕ → EReal := fun r k => C (pick (Z r) C) k

/-- A product with the indicator of one position, summed, is the entry there. -/
theorem sum_indicator (i : Fin 1024) (f : Fin 1024 → EReal) :
    ∑ x : Fin 1024, (FloatOps.sitofp FTy.f32 (BitVec.setWidth 32 (IntOp.cmpi .eq (BitVec.ofNat 32 x.val) (BitVec.ofNat 32 i.val))) : Ideal .f32) * f x
      = f i := by
  have h1 : (FloatOps.sitofp FTy.f32 (1#32) : Ideal .f32) = (1 : EReal) := by
    show ((((1#32 : BitVec 32).toInt : ℝ)) : EReal) = 1
    norm_num
  have hc : ∀ x : Fin 1024, BitVec.setWidth 32 (IntOp.cmpi .eq (BitVec.ofNat 32 x.val) (BitVec.ofNat 32 i.val)) = if x = i then 1#32 else 0#32 := by
    intro x
    by_cases h : x = i
    · subst h; simp [IntOp.cmpi]
    · have : BitVec.ofNat 32 x.val ≠ BitVec.ofNat 32 i.val := fun e => h (by
        have := congrArg BitVec.toNat e
        simp only [BitVec.toNat_ofNat] at this
        exact Fin.ext (by omega))
      simp [IntOp.cmpi, h, beq_false_of_ne this]
  rw [Finset.sum_eq_single i]
  · rw [hc, if_pos rfl, h1, one_mul]
  · intro x _ h
    rw [hc, if_neg h, sitofp_zero, zero_mul]
  · intro h; exact absurd (Finset.mem_univ _) h

end Cert.Spec

end
-- ==== Proof.Net.lean ====
/- The network as a whole: the encoder, the codes, the decoder; and what finite entries give. -/
module

public import proofs.«01_k».proof.Proof.Spec
public import proofs.«01_k».proof.Proof.DecTaps
public import proofs.«01_k».proof.Proof.Vq
public import Idealize.ShloMosaic.PureOps.Ideal.Laws

@[expose] public section

noncomputable section

namespace Cert.Spec

open Idealize.ShloMosaic

/-- The encoder. -/
def enc (x w1 w2 w3 : Arr) : Arr := conv 192 56 56 (relu (conv 96 112 112 (relu (conv 3 224 224 x w1)) w2)) w3

/-- The decoder. -/
def dec (q w4 w5 w6 : Arr) : Arr := convT 96 112 112 (relu (convT 192 56 56 (relu (convT 64 28 28 q w4)) w5)) w6

/-- Rows of codes as an image. -/
def codes (w : ℕ → ℕ → EReal) : Arr := fun n c y z => w (n * 784 + y * 28 + z) c

/-- The nearest codes of an image's positions, as an image. -/
def nearest (z : Arr) (C : ℕ → ℕ → EReal) : Arr := codes (quant (rows 28 28 z) C)

/-- The sum of the squared differences of an image from its nearest codes. -/
def sqErr (z : Arr) (C : ℕ → ℕ → EReal) : EReal :=
  ∑ n : Fin 8, ∑ c : Fin 64, ∑ y : Fin 28, ∑ x : Fin 28,
    (nearest z C n c y x - z n c y x) * (nearest z C n c y x - z n c y x)

/-- The rows of the codes' image are the codes. -/
theorem rows_codes (w : ℕ → ℕ → EReal) : rows 28 28 (codes w) = w := by
  funext r c
  show w (r / (28 * 28) * 784 + r / 28 % 28 * 28 + r % 28) c = w r c
  rw [show r / (28 * 28) * 784 + r / 28 % 28 * 28 + r % 28 = r by omega]

/-- A sum over the rows of an image is one over its rows and columns. -/
theorem sum_rows (f : ℕ → EReal) (n : ℕ) : ∑ r : Fin 784, f (784 * n + r) = ∑ y : Fin 28, ∑ x : Fin 28, f (n * 784 + y * 28 + x) := by
  rw [← (finProdFinEquiv (m := 28) (n := 28)).sum_comp, Fintype.sum_prod_type]
  refine Finset.sum_congr rfl fun y _ => Finset.sum_congr rfl fun x _ => ?_
  show f (784 * n + (x.val + 28 * y.val)) = _
  rw [show 784 * n + (x.val + 28 * y.val) = n * 784 + y.val * 28 + x.val by omega]

/-- The squared differences, summed row by row of a row-major table. -/
theorem sum_blocks (z : Arr) (C : ℕ → ℕ → EReal) :
    ∑ t : Fin 8, ∑ r : Fin 784, ∑ k : Fin 64,
      (quant (rows 28 28 z) C (784 * t.val + r) k - rows 28 28 z (784 * t.val + r) k)
        * (quant (rows 28 28 z) C (784 * t.val + r) k - rows 28 28 z (784 * t.val + r) k) = sqErr z C := by
  unfold sqErr
  refine Finset.sum_congr rfl fun n _ => ?_
  rw [Finset.sum_comm]
  refine Finset.sum_congr rfl fun k _ => ?_
  rw [sum_rows (fun r => (quant (rows 28 28 z) C r k - rows 28 28 z r k) * (quant (rows 28 28 z) C r k - rows 28 28 z r k)) n]
  refine Finset.sum_congr rfl fun y _ => Finset.sum_congr rfl fun x _ => ?_
  have e : rows 28 28 z (n.val * 784 + y.val * 28 + x.val) k = z n k y x := by
    show z _ _ _ _ = _
    have := y.isLt
    have := x.isLt
    rw [show (n.val * 784 + y.val * 28 + x.val) / (28 * 28) = n.val by omega,
      show (n.val * 784 + y.val * 28 + x.val) / 28 % 28 = y.val by omega,
      show (n.val * 784 + y.val * 28 + x.val) % 28 = x.val by omega]
  rw [e]
  rfl

/-- A real number among the extended ones. -/
def IsReal (e : EReal) : Prop := ∃ r : ℝ, e = (r : EReal)

theorem IsReal.zero : IsReal 0 := ⟨0, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max {a b : EReal} (ha : IsReal a) (hb : IsReal b) : IsReal (max a b) := by
  rcases max_choice a b with h | h <;> rw [h] <;> assumption

theorem IsReal.sum {N : ℕ} {f : Fin N → EReal} (h : ∀ i, IsReal (f i)) : IsReal (∑ i, f i) := by
  choose r hr using h
  refine ⟨∑ i, r i, ?_⟩
  simp only [hr]
  exact (map_sum (⟨⟨Real.toEReal, EReal.coe_zero⟩, EReal.coe_add⟩ : ℝ →+ EReal) r Finset.univ).symm

/-- An array of reals. -/
def Reals (X : Arr) : Prop := ∀ a b c d, IsReal (X a b c d)

/-- A convolution of reals is one. -/
theorem Reals.conv {C H W : ℕ} {X K : Arr} (hX : Reals X) (hK : Reals K) : Reals (conv C H W X K) := fun n o u v =>
  IsReal.sum fun c => IsReal.sum fun a => IsReal.sum fun b => (hK _ _ _ _).mul (by
    unfold pad1
    split_ifs
    · exact hX _ _ _ _
    · exact IsReal.zero)

theorem Reals.relu {X : Arr} (hX : Reals X) : Reals (relu X) := fun n o u v => (hX _ _ _ _).max IsReal.zero

/-- The encoder takes reals to reals. -/
theorem Reals.enc {x w1 w2 w3 : Arr} (hx : Reals x) (h1 : Reals w1) (h2 : Reals w2) (h3 : Reals w3) : Reals (enc x w1 w2 w3) :=
  Reals.conv (Reals.relu (Reals.conv (Reals.relu (Reals.conv hx h1)) h2)) h3

/-- What is added after it is taken away is still there. -/
theorem add_sub_self {a b : EReal} (ha : IsReal a) (hb : IsReal b) : a + (b - a) = b := by
  obtain ⟨r, rfl⟩ := ha
  obtain ⟨s, rfl⟩ := hb
  rw [← EReal.coe_sub, ← EReal.coe_add, add_sub_cancel]

/-- The distance with the row's own square, in the order it is computed. -/
def fullDist (z : ℕ → EReal) (C : ℕ → ℕ → EReal) (j : Fin 1024) : EReal :=
  (∑ k : Fin 64, z k * z k - ∑ k : Fin 64, ((2 : ℝ) : EReal) * z k * C j k) + ∑ k : Fin 64, C j k * C j k

/-- On reals the nearest code is the same with the row's own square and without. -/
theorem fullDist_firstMin {z : ℕ → EReal} {C : ℕ → ℕ → EReal} (hz : ∀ k, IsReal (z k)) (hC : ∀ j k, IsReal (C j k)) :
    FirstMin (fullDist z C) (pick z C) := by
  choose a ha using hz
  choose b hb using hC
  have coe_sum : ∀ f : Fin 64 → ℝ, ∑ k, ((f k : ℝ) : EReal) = ((∑ k, f k : ℝ) : EReal) := fun f =>
    (map_sum (⟨⟨Real.toEReal, EReal.coe_zero⟩, EReal.coe_add⟩ : ℝ →+ EReal) f Finset.univ).symm
  refine FirstMin.shift (∑ k : Fin 64, a k * a k)
    (fun j => ∑ k : Fin 64, b j k * b j k - 2 * ∑ k : Fin 64, a k * b j k) (fun j => ?_) (fun j => ?_) (pick_spec z C)
  · unfold dist
    simp only [ha, hb, ← EReal.coe_mul, coe_sum, ← EReal.coe_sub]
  · unfold fullDist
    simp only [ha, hb, ← EReal.coe_mul, coe_sum, ← EReal.coe_sub, ← EReal.coe_add, EReal.coe_eq_coe_iff]
    simp only [mul_assoc, ← Finset.mul_sum]
    ring

/-- The loss of a sum of squared differences. -/
def loss (s : EReal) : EReal :=
  Ideal.div s (Ideal.ofBits .f32 0x48C40000#32) + Ideal.ofBits .f32 0x3E800000#32 * Ideal.div s (Ideal.ofBits .f32 0x48C40000#32)

/-- One and a quarter of the sum over the count is the count's part plus a quarter of it. -/
theorem loss_eq (s : EReal) :
    Ideal.div (Ideal.ofBits .f32 0x3FA00000#32 * s) (Ideal.ofBits .f32 0x48C40000#32) = loss s := by
  have h1 : Ideal.ofBits .f32 0x3FA00000#32 = ((1.25 : ℝ) : EReal) := by
    simp [Ideal.ofBits, Ideal.ieee, -EReal.coe_mul]; norm_num
  have h2 : Ideal.ofBits .f32 0x48C40000#32 = ((401408 : ℝ) : EReal) := by
    simp [Ideal.ofBits, Ideal.ieee, -EReal.coe_mul]; norm_num
  have h3 : Ideal.ofBits .f32 0x3E800000#32 = ((0.25 : ℝ) : EReal) := by
    simp [Ideal.ofBits, Ideal.ieee, -EReal.coe_mul]; norm_num
  have h4 : ((401408 : ℝ) : EReal) ≠ 0 := by
    rw [← EReal.coe_zero, Ne, EReal.coe_eq_coe_iff]; norm_num
  unfold loss Ideal.div
  rw [h1, h2, h3, if_neg h4, if_neg h4, mul_assoc]
  generalize s * ((401408 : ℝ) : EReal)⁻¹ = e
  have h5 : ((1.25 : ℝ) : EReal) = 1 + ((0.25 : ℝ) : EReal) := by
    rw [← EReal.coe_one, ← EReal.coe_add]; norm_num
  rw [h5, EReal.right_distrib_of_nonneg (by norm_num) (by exact_mod_cast (by norm_num : (0:ℝ) ≤ 0.25)), one_mul]

end Cert.Spec

end
-- ==== Proof.Host.Enc0.lean ====
/- The host's patches of the image and its layout of the first filter bank. -/
module

public import proofs.«01_k».proof.Proof.Gen.KernelIdeal.Launch
public import proofs.«01_k».proof.Proof.Taps
public import Idealize.ShloMosaic.Lib.StableHlo.ReadAt
public import Idealize.ShloMosaic.Lib.Pointwise

@[expose] public section

set_option maxRecDepth 8192

noncomputable section

namespace Cert.KernelIdeal.Host

open Cert.KernelIdeal Cert.KernelIdeal.Gen Idealize.ShloMosaic Idealize.ShloMosaic.TcCoe Idealize.SL.Sem
open Idealize.ShloMosaic.StableHlo
open Cert.Spec

variable (V : Valuation τ sig (Elt Ideal)) (x w : Arr)

/-- The first call's image: 2 × 2 patches of the padded image. -/
theorem img0 (hx : Is4 8 3 224 224 (V (Proc.devRef .tc main_arg0)) x) :
    Is4 8 113 113 12 (after hostOps0_2 (after hostOps0_1 (after hostOps0 V)) (Proc.devRef .tc main_v4)) (patches 3 224 224 x) := by
  intro a b c d
  after_reads_at
  simp only [hx, dite_eq_ite, sitofp_zero]
  refine eq_pad1 (by omega) fun _ => ?_ <;> congr 1 <;> omega

/-- The first call's weights. -/
theorem wts0 (hw : Is4 96 3 4 4 (V (Proc.devRef .tc main_arg1)) w) :
    Is3 4 12 96 (after hostOps0_2 (after hostOps0_1 (after hostOps0 V)) (Proc.devRef .tc main_v18)) (encW 3 w) := by
  intro t k o
  after_reads_at
  after_reads_at
  unfold encW
  fin_cases t <;> simp (config := { decide := true }) only [hw, dite_true, dite_false] <;> congr 1 <;> omega

end Cert.KernelIdeal.Host

end
-- ==== Proof.Host.Enc1.lean ====
/- The host's patches of the image and its layout of the second filter bank. -/
module

public import proofs.«01_k».proof.Proof.Gen.KernelIdeal.Launch
public import proofs.«01_k».proof.Proof.Taps
public import Idealize.ShloMosaic.Lib.StableHlo.ReadAt
public import Idealize.ShloMosaic.Lib.Pointwise

@[expose] public section

set_option maxRecDepth 8192

noncomputable section

namespace Cert.KernelIdeal.Host

open Cert.KernelIdeal Cert.KernelIdeal.Gen Idealize.ShloMosaic Idealize.ShloMosaic.TcCoe Idealize.SL.Sem
open Idealize.ShloMosaic.StableHlo
open Cert.Spec

variable (V : Valuation τ sig (Elt Ideal)) (x w : Arr)

/-- The second call's image: 2 × 2 patches of the padded image. -/
theorem img1 (hx : Is4 8 112 112 96 (V (Proc.devRef .tc main_v19)) (nhwc x)) :
    Is4 8 57 57 384 (after hostOps1_2 (after hostOps1_1 (after hostOps1 V)) (Proc.devRef .tc main_v23)) (patches 96 112 112 x) := by
  intro a b c d
  after_reads_at
  simp only [hx, dite_eq_ite, sitofp_zero]
  refine eq_pad1 (by omega) fun _ => ?_ <;> congr 1 <;> omega

/-- The second call's weights. -/
theorem wts1 (hw : Is4 192 96 4 4 (V (Proc.devRef .tc main_arg2)) w) :
    Is3 4 384 192 (after hostOps1_2 (after hostOps1_1 (after hostOps1 V)) (Proc.devRef .tc main_v37)) (encW 96 w) := by
  intro t k o
  after_reads_at
  after_reads_at
  unfold encW
  fin_cases t <;> simp (config := { decide := true }) only [hw, dite_true, dite_false] <;> congr 1 <;> omega

end Cert.KernelIdeal.Host

end
-- ==== Proof.Host.Enc2.lean ====
/- The host's patches of the image and its layout of the third filter bank. -/
module

public import proofs.«01_k».proof.Proof.Gen.KernelIdeal.Launch
public import proofs.«01_k».proof.Proof.Taps
public import Idealize.ShloMosaic.Lib.StableHlo.ReadAt
public import Idealize.ShloMosaic.Lib.Pointwise

@[expose] public section

set_option maxRecDepth 8192

noncomputable section

namespace Cert.KernelIdeal.Host

open Cert.KernelIdeal Cert.KernelIdeal.Gen Idealize.ShloMosaic Idealize.ShloMosaic.TcCoe Idealize.SL.Sem
open Idealize.ShloMosaic.StableHlo
open Cert.Spec

variable (V : Valuation τ sig (Elt Ideal)) (x w : Arr)

/-- The third call's image: 2 × 2 patches of the padded image, zero beyond the last column. -/
theorem img2 (hx : Is4 8 56 56 192 (V (Proc.devRef .tc main_v38)) (nhwc x)) :
    Is4 8 29 40 768 (after hostOps2_4 (after hostOps2_3 (after hostOps2_2 (after hostOps2_1 (after hostOps2 V)))) (Proc.devRef .tc main_v43)) (fun n u v k => if v < 29 then patches 192 56 56 x n u v k else 0) := by
  intro a b c d
  after_reads_at
  simp only [hx, dite_eq_ite, sitofp_zero]
  by_cases hc : c.val < 29
  · rw [if_pos hc, if_pos hc]
    refine eq_pad1 (by omega) fun _ => ?_ <;> congr 1 <;> omega
  · rw [if_neg hc, if_neg hc]

/-- The third call's weights. -/
theorem wts2 (hw : Is4 64 192 4 4 (V (Proc.devRef .tc main_arg3)) w) :
    Is3 4 768 64 (after hostOps2_4 (after hostOps2_3 (after hostOps2_2 (after hostOps2_1 (after hostOps2 V)))) (Proc.devRef .tc main_v57)) (encW 192 w) := by
  intro t k o
  after_reads_at
  after_reads_at
  unfold encW
  fin_cases t <;> simp (config := { decide := true }) only [hw, dite_true, dite_false] <;> congr 1 <;> omega

end Cert.KernelIdeal.Host

end
-- ==== Proof.Host.Codes.lean ====
/- The rows the codes are chosen for, and the results the host lays out. -/
module

public import proofs.«01_k».proof.Proof.Gen.KernelIdeal.Launch
public import proofs.«01_k».proof.Proof.Net
public import Idealize.ShloMosaic.Lib.StableHlo.ReadAt
public import Idealize.ShloMosaic.Lib.Pointwise

@[expose] public section

set_option maxRecDepth 8192

noncomputable section

namespace Cert.KernelIdeal.Host

open Cert.KernelIdeal Cert.KernelIdeal.Gen Idealize.ShloMosaic Idealize.ShloMosaic.TcCoe Idealize.SL.Sem
open Idealize.ShloMosaic.StableHlo
open Cert.Spec

variable (V : Valuation τ sig (Elt Ideal)) (x w : Arr)

/-- The fourth call's rows: the image's positions. -/
theorem rows3 (hx : ∀ (a : Fin 8) (b : Fin 28) (c : Fin 32) (d : Fin 64), c.val < 28 → V (Proc.devRef .tc main_v58) (ix4 a b c d) = nhwc x a b c d) :
    Is2 6272 64 (after hostOps3 V (Proc.devRef .tc main_v60)) (rows 28 28 x) := by
  intro a b
  after_reads_at
  rw [hx _ _ _ _ (by show _ % 28 < 28; omega)]
  unfold rows nhwc
  congr 1 <;> omega

/-- The fourth call's third array: the codes' table, transposed. -/
theorem table3 (k : Fin 64) (j : Fin 1024) :
    (after hostOps3 V (Proc.devRef .tc main_v61)) (ix2 k j) = V (Proc.devRef .tc main_arg7) (ix2 j k) := by
  after_reads_at

/-- The second result: the loss, of the sum the fourth call leaves. -/
theorem loss4 (s : EReal) (hs : V (Proc.devRef .tc main_v62_1) = ((fun _ => s) : FVec Ideal S1x1 .f32)) :
    after hostOps4 V (Proc.devRef .tc main_v65) = ((fun _ => loss s) : FVec Ideal S_ .f32) := by
  funext i
  after_reads_at
  rw [hs]
  exact loss_eq s

/-- The first result: the seventh call's columns, side by side. -/
theorem out7 (hx : Is4 8 112 112 12 (V (Proc.devRef .tc main_v267)) x) :
    Is4 8 3 224 224 (after hostOps7 V (Proc.devRef .tc main_v271))
      (fun n o y z => x n (y / 2) (z / 2) ((2 * (y % 2) + z % 2) * 3 + o)) := by
  intro a b c d
  after_reads_at
  simp only [hx]
  congr 1 <;> omega

/-- The second result: the codes' image, channels first. -/
theorem codes7 (hx : Is4 8 28 28 64 (V (Proc.devRef .tc main_v66)) (nhwc x)) :
    Is4 8 64 28 28 (after hostOps7 V (Proc.devRef .tc main_v272)) x := by
  intro a b c d
  after_reads_at
  simp only [hx]

end Cert.KernelIdeal.Host

end
-- ==== Proof.Val.Enc0.lean ====
/- The first pallas_call's result array, element by element, from the arrays it reads. -/
module

public import proofs.«01_k».proof.Proof.Run.Region0
public import proofs.«01_k».proof.Proof.TapSum
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Run
open Cert.Spec

/-- The block indices of the first call's windows at every grid point: the image's number on the leading axis. -/
theorem idx0 : ∀ t : Fin cfg0.N, win0_0.index t = ![t.val, 0, 0, 0] ∧ win0_1.index t = ![0, 0, 0]
    ∧ win0_2.index t = ![t.val, 0, 0, 0] :=
  (by decide +kernel : ∀ t : Fin grid0.N, _)

/-- What one grid point leaves: the four taps' sum over its image, clipped below at zero. -/
theorem core0 (x0 : Vec Ideal S1x113x113x12 .f32) (x1 : Vec Ideal S4x12x96 .f32) (y : S1x112x112x96.Idx) :
    out0_2 x0 x1 y = clip (encSum 1 113 113 12 112 112 96 (by decide) (by decide) x0 x1) y := by
  unfold out0_2
  frame_out
  pointwise [k0_pay1, k0_pay2, clip, encSum]
  blk_point []

/-- What one grid point leaves, by the whole arrays it reads blocks of. -/
theorem step0 (n : Fin 8) (x : FVec Ideal S8x113x113x12 .f32) (w : FVec Ideal S4x12x96 .f32) (x0 : Vec Ideal S1x113x113x12 .f32) (x1 : Vec Ideal S4x12x96 .f32)
    (hx : ∀ (b : Fin 113) (d : Fin 113) (e : Fin 12), x0 (ix4 0 b d e) = x (ix4 n b d e)) (hw : ∀ b, x1 b = w b)
    (y : S1x112x112x96.Idx) (j : S8x112x112x96.Idx) (h0 : (j 0).val = n.val) (h1 : (j 1).val = (y 1).val) (h2 : (j 2).val = (y 2).val) (h3 : (j 3).val = (y 3).val) :
    out0_2 x0 x1 y = clip (encSum 8 113 113 12 112 112 96 (by decide) (by decide) x w) j :=
  (core0 x0 x1 y).trans (clip_congr (encSum_block n hx hw y j h0 h1 h2 h3))

variable (V : (c : Dev nD) → (b : Ref sig .tc) → Buf (Elt Ideal) ((c : Thread nD τ).loc b))

/-- The image's block at a grid point. -/
theorem blk0_0 (c : Dev nD) (t : Fin cfg0.N) (b : Fin 113) (d : Fin 113) (e : Fin 12) :
    (iblk0 V c 0 t : Vec Ideal S1x113x113x12 .f32) (ix4 0 b d e) = (V c main_v4 : FVec Ideal S8x113x113x12 .f32) (ix4 (n0 := 8) t b d e) := by
  blk_point [iblk0, idx0 t]

/-- The weights' block is the whole bank. -/
theorem blk0_1 (c : Dev nD) (t : Fin cfg0.N) (b) :
    (iblk0 V c 1 t : Vec Ideal S4x12x96 .f32) b = (V c main_v18 : FVec Ideal S4x12x96 .f32) b := by
  blk_point [iblk0, idx0 t]

/-- The result array holds the four taps' sum, clipped below at zero. -/
theorem reg0 (c : Dev nD) : (dat0 V c).arrAt 2 cfg0.N
    = (clip (encSum 8 113 113 12 112 112 96 (by decide) (by decide) (V c main_v4) (V c main_v18)) : FVec Ideal S8x112x112x96 .f32) := by
  refine (dat0 V c).arrAt_eq_of_covers 2 _ (by decide +kernel) fun t _ y => ?_
  blk_simp
  rw [after0_2]
  refine step0 t (V c main_v4) (V c main_v18) _ _ (blk0_0 V c t) (blk0_1 V c t) y _ ?_ ?_ ?_ ?_ <;>
    blk_simp [idx0 t]

end Cert.KernelIdeal.Val

end
-- ==== Proof.Val.Enc1.lean ====
/- The second pallas_call's result array, element by element, from the arrays it reads. -/
module

public import proofs.«01_k».proof.Proof.Run.Region1
public import proofs.«01_k».proof.Proof.TapSum
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Run
open Cert.Spec

/-- The block indices of the second call's windows at every grid point: the image's number on the leading axis. -/
theorem idx1 : ∀ t : Fin cfg1.N, win1_0.index t = ![t.val, 0, 0, 0] ∧ win1_1.index t = ![0, 0, 0]
    ∧ win1_2.index t = ![t.val, 0, 0, 0] :=
  (by decide +kernel : ∀ t : Fin grid1.N, _)

/-- What one grid point leaves: the four taps' sum over its image, clipped below at zero. -/
theorem core1 (x0 : Vec Ideal S1x57x57x384 .f32) (x1 : Vec Ideal S4x384x192 .f32) (y : S1x56x56x192.Idx) :
    out1_2 x0 x1 y = clip (encSum 1 57 57 384 56 56 192 (by decide) (by decide) x0 x1) y := by
  unfold out1_2
  frame_out
  pointwise [k1_pay1, k1_pay2, clip, encSum]
  blk_point []

/-- What one grid point leaves, by the whole arrays it reads blocks of. -/
theorem step1 (n : Fin 8) (x : FVec Ideal S8x57x57x384 .f32) (w : FVec Ideal S4x384x192 .f32) (x0 : Vec Ideal S1x57x57x384 .f32) (x1 : Vec Ideal S4x384x192 .f32)
    (hx : ∀ (b : Fin 57) (d : Fin 57) (e : Fin 384), x0 (ix4 0 b d e) = x (ix4 n b d e)) (hw : ∀ b, x1 b = w b)
    (y : S1x56x56x192.Idx) (j : S8x56x56x192.Idx) (h0 : (j 0).val = n.val) (h1 : (j 1).val = (y 1).val) (h2 : (j 2).val = (y 2).val) (h3 : (j 3).val = (y 3).val) :
    out1_2 x0 x1 y = clip (encSum 8 57 57 384 56 56 192 (by decide) (by decide) x w) j :=
  (core1 x0 x1 y).trans (clip_congr (encSum_block n hx hw y j h0 h1 h2 h3))

variable (V : (c : Dev nD) → (b : Ref sig .tc) → Buf (Elt Ideal) ((c : Thread nD τ).loc b))

/-- The image's block at a grid point. -/
theorem blk1_0 (c : Dev nD) (t : Fin cfg1.N) (b : Fin 57) (d : Fin 57) (e : Fin 384) :
    (iblk1 V c 0 t : Vec Ideal S1x57x57x384 .f32) (ix4 0 b d e) = (V c main_v23 : FVec Ideal S8x57x57x384 .f32) (ix4 (n0 := 8) t b d e) := by
  blk_point [iblk1, idx1 t]

/-- The weights' block is the whole bank. -/
theorem blk1_1 (c : Dev nD) (t : Fin cfg1.N) (b) :
    (iblk1 V c 1 t : Vec Ideal S4x384x192 .f32) b = (V c main_v37 : FVec Ideal S4x384x192 .f32) b := by
  blk_point [iblk1, idx1 t]

/-- The result array holds the four taps' sum, clipped below at zero. -/
theorem reg1 (c : Dev nD) : (dat1 V c).arrAt 2 cfg1.N
    = (clip (encSum 8 57 57 384 56 56 192 (by decide) (by decide) (V c main_v23) (V c main_v37)) : FVec Ideal S8x56x56x192 .f32) := by
  refine (dat1 V c).arrAt_eq_of_covers 2 _ (by decide +kernel) fun t _ y => ?_
  blk_simp
  rw [after1_2]
  refine step1 t (V c main_v23) (V c main_v37) _ _ (blk1_0 V c t) (blk1_1 V c t) y _ ?_ ?_ ?_ ?_ <;>
    blk_simp [idx1 t]

end Cert.KernelIdeal.Val

end
-- ==== Proof.Val.Enc2.lean ====
/- The third pallas_call's result array, element by element, from the arrays it reads. -/
module

public import proofs.«01_k».proof.Proof.Run.Region2
public import proofs.«01_k».proof.Proof.TapSum
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Run
open Cert.Spec

/-- The block indices of the third call's windows at every grid point: the image's number on the leading axis. -/
theorem idx2 : ∀ t : Fin cfg2.N, win2_0.index t = ![t.val, 0, 0, 0] ∧ win2_1.index t = ![0, 0, 0]
    ∧ win2_2.index t = ![t.val, 0, 0, 0] :=
  (by decide +kernel : ∀ t : Fin grid2.N, _)

/-- What one grid point leaves: the four taps' sum over its image. -/
theorem core2 (x0 : Vec Ideal S1x29x40x768 .f32) (x1 : Vec Ideal S4x768x64 .f32) (y : S1x28x32x64.Idx) :
    out2_2 x0 x1 y = encSum 1 29 40 768 28 32 64 (by decide) (by decide) x0 x1 y := by
  unfold out2_2
  frame_out
  pointwise [k2_pay1, k2_pay2, clip, encSum]
  blk_point []

/-- What one grid point leaves, by the whole arrays it reads blocks of. -/
theorem step2 (n : Fin 8) (x : FVec Ideal S8x29x40x768 .f32) (w : FVec Ideal S4x768x64 .f32) (x0 : Vec Ideal S1x29x40x768 .f32) (x1 : Vec Ideal S4x768x64 .f32)
    (hx : ∀ (b : Fin 29) (d : Fin 40) (e : Fin 768), x0 (ix4 0 b d e) = x (ix4 n b d e)) (hw : ∀ b, x1 b = w b)
    (y : S1x28x32x64.Idx) (j : S8x28x32x64.Idx) (h0 : (j 0).val = n.val) (h1 : (j 1).val = (y 1).val) (h2 : (j 2).val = (y 2).val) (h3 : (j 3).val = (y 3).val) :
    out2_2 x0 x1 y = encSum 8 29 40 768 28 32 64 (by decide) (by decide) x w j :=
  (core2 x0 x1 y).trans ((encSum_block n hx hw y j h0 h1 h2 h3))

variable (V : (c : Dev nD) → (b : Ref sig .tc) → Buf (Elt Ideal) ((c : Thread nD τ).loc b))

/-- The image's block at a grid point. -/
theorem blk2_0 (c : Dev nD) (t : Fin cfg2.N) (b : Fin 29) (d : Fin 40) (e : Fin 768) :
    (iblk2 V c 0 t : Vec Ideal S1x29x40x768 .f32) (ix4 0 b d e) = (V c main_v43 : FVec Ideal S8x29x40x768 .f32) (ix4 (n0 := 8) t b d e) := by
  blk_point [iblk2, idx2 t]

/-- The weights' block is the whole bank. -/
theorem blk2_1 (c : Dev nD) (t : Fin cfg2.N) (b) :
    (iblk2 V c 1 t : Vec Ideal S4x768x64 .f32) b = (V c main_v57 : FVec Ideal S4x768x64 .f32) b := by
  blk_point [iblk2, idx2 t]

/-- The result array holds the four taps' sum. -/
theorem reg2 (c : Dev nD) : (dat2 V c).arrAt 2 cfg2.N
    = (encSum 8 29 40 768 28 32 64 (by decide) (by decide) (V c main_v43) (V c main_v57) : FVec Ideal S8x28x32x64 .f32) := by
  refine (dat2 V c).arrAt_eq_of_covers 2 _ (by decide +kernel) fun t _ y => ?_
  blk_simp
  rw [after2_2]
  refine step2 t (V c main_v43) (V c main_v57) _ _ (blk2_0 V c t) (blk2_1 V c t) y _ ?_ ?_ ?_ ?_ <;>
    blk_simp [idx2 t]

end Cert.KernelIdeal.Val

end
-- ==== Proof.Val.Vq.lean ====
/- The quantizing pallas_call's payloads at an element. -/
module

public import proofs.«01_k».proof.Proof.Run.Region3
public import proofs.«01_k».proof.Proof.Vq
public import proofs.«01_k».proof.Proof.DecTaps
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Run
open Cert.Spec

/-- The row a grid point stores is the nearest code. -/
theorem pick3 (x0 : Vec Ideal S784x64 .f32) (x1 : Vec Ideal S1024x64 .f32) (x2 : Vec Ideal S64x1024 .f32) (Z C : ℕ → ℕ → EReal)
    (h0 : ∀ (r : Fin 784) (k : Fin 64), x0 (ix2 r k) = Z r k) (h1 : ∀ (j : Fin 1024) (k : Fin 64), x1 (ix2 j k) = C j k)
    (h2 : ∀ (k : Fin 64) (j : Fin 1024), x2 (ix2 k j) = C j k) (r : Fin 784) (k : Fin 64) :
    k3_pay3 x0 x2 x1 (ix2 r k) = quant Z C r k := by
  pointwise [k3_pay3, k3_pay2]
  simp only [h0, h1, h2, two_f32, inf_f32]
  have hp := pick_spec (Z r) C
  have hm : Finset.fold min ⊤ (fun x : Fin 1024 => ∑ k : Fin 64, C x k * C x k - ((2 : ℝ) : EReal) * ∑ k : Fin 64, Z r k * C x k) Finset.univ
      = dist (Z r) C (pick (Z r) C) := hp.fold_min
  simp only [hm]
  have hs := hp.fold_minsi (fun x : Fin 1024 => if ∑ k : Fin 64, C x k * C x k - ((2 : ℝ) : EReal) * ∑ k : Fin 64, Z r k * C x k
    = dist (Z r) C (pick (Z r) C) then BitVec.ofNat 32 x.val else 1024#32) fun j => rfl
  simp only [hs]
  exact sum_indicator _ fun j => C j k

/-- What a grid point adds to the loss: its block's squared differences. -/
theorem loss3 (x0 : Vec Ideal S784x64 .f32) (x1 : Vec Ideal S1024x64 .f32) (x2 : Vec Ideal S64x1024 .f32) (Z C : ℕ → ℕ → EReal)
    (h0 : ∀ (r : Fin 784) (k : Fin 64), x0 (ix2 r k) = Z r k) (h1 : ∀ (j : Fin 1024) (k : Fin 64), x1 (ix2 j k) = C j k)
    (h2 : ∀ (k : Fin 64) (j : Fin 1024), x2 (ix2 k j) = C j k) (y : S1x1.Idx) :
    k3_pay4 x0 x2 x1 y = ∑ r : Fin 784, ∑ k : Fin 64, (quant Z C r k - Z r k) * (quant Z C r k - Z r k) := by
  pointwise [k3_pay4, k3_pay2]
  simp only [pick3 x0 x1 x2 Z C h0 h1 h2, h0]

variable (V : (c : Dev nD) → (b : Ref sig .tc) → Buf (Elt Ideal) ((c : Thread nD τ).loc b))

/-- The block indices of the call's windows at every grid point. -/
theorem idx3 : ∀ t : Fin cfg3.N, win3_0.index t = ![t.val, 0] ∧ win3_1.index t = ![0, 0] ∧ win3_2.index t = ![0, 0]
    ∧ win3_3.index t = ![t.val, 0] ∧ win3_4.index t = ![0, 0] :=
  (by decide +kernel : ∀ t : Fin grid3.N, _)

/-- The rows' block at a grid point. -/
theorem blk3_0 (c : Dev nD) (Z : ℕ → ℕ → EReal) (hZ : Is2 6272 64 (V c main_v60) Z) (t : Fin cfg3.N) (r : Fin 784) (k : Fin 64) :
    (iblk3 V c 0 t : Vec Ideal S784x64 .f32) (ix2 r k) = Z (784 * t.val + r) k := by
  have ht : t.val < 8 := lt_of_lt_of_eq t.isLt N_3
  rw [← hZ ⟨784 * t.val + r.val, by omega⟩ k]
  blk_point [iblk3, idx3 t]

/-- The table's block is the whole table. -/
theorem blk3_1 (c : Dev nD) (C : ℕ → ℕ → EReal) (hC : Is2 1024 64 (V c main_arg7) C) (t : Fin cfg3.N) (j : Fin 1024) (k : Fin 64) :
    (iblk3 V c 1 t : Vec Ideal S1024x64 .f32) (ix2 j k) = C j k := by
  rw [← hC j k]
  blk_point [iblk3, idx3 t]

/-- The transposed table's block is the whole transposed table. -/
theorem blk3_2 (c : Dev nD) (C : ℕ → ℕ → EReal) (hT : ∀ (k : Fin 64) (j : Fin 1024), V c main_v61 (ix2 k j) = C j k) (t : Fin cfg3.N) (k : Fin 64) (j : Fin 1024) :
    (iblk3 V c 2 t : Vec Ideal S64x1024 .f32) (ix2 k j) = C j k := by
  rw [← hT k j]
  blk_point [iblk3, idx3 t]

/-- What a grid point leaves of the codes' rows. -/
theorem codes3 (c : Dev nD) (t : Fin cfg3.N) (y : S784x64.Idx) :
    (outsAt3 V c t.val t.isLt).1 y = k3_pay3 (iblk3 V c 0 t) (iblk3 V c 2 t) (iblk3 V c 1 t) y := by
  by_cases h : t.val % 8 = 0
  · have ht : t.val < 8 := lt_of_lt_of_eq t.isLt N_3
    rw [outsAt3_A V c t h (by omega)]
    dsimp only
    frame_out
  · rw [outsAt3_B V c t h (by omega)]
    dsimp only
    frame_out

/-- The codes' rows. -/
theorem reg3 (c : Dev nD) (Z C : ℕ → ℕ → EReal) (hZ : Is2 6272 64 (V c main_v60) Z) (hC : Is2 1024 64 (V c main_arg7) C)
    (hT : ∀ (k : Fin 64) (j : Fin 1024), V c main_v61 (ix2 k j) = C j k) :
    (dat3 V c).arrAt 3 cfg3.N = (fun i => quant Z C (i 0) (i 1) : FVec Ideal S6272x64 .f32) := by
  refine (dat3 V c).arrAt_eq_of_covers 3 _ (by decide +kernel) fun t _ y => ?_
  blk_simp
  rw [after3_3]
  obtain ⟨r, k, rfl⟩ : ∃ (r : Fin 784) (k : Fin 64), y = ix2 r k := ⟨y 0, y 1, by funext a; fin_cases a <;> rfl⟩
  rw [codes3 V c t, pick3 _ _ _ (fun r k => Z (784 * t.val + r) k) C (blk3_0 V c Z hZ t) (blk3_1 V c C hC t) (blk3_2 V c C hT t)]
  unfold quant
  blk_simp [idx3 t]
  rw [mul_comm 784 t.val]

/-- What the first grid point leaves of the loss. -/
theorem sum3_A (c : Dev nD) (t : Fin cfg3.N) (h : t.val % 8 = 0) (y : S1x1.Idx) :
    (outsAt3 V c t.val t.isLt).2 y = 0 + k3_pay4 (iblk3 V c 0 t) (iblk3 V c 2 t) (iblk3 V c 1 t) y := by
  have ht : t.val < 8 := lt_of_lt_of_eq t.isLt N_3
  rw [outsAt3_A V c t h (by omega), zero_add]
  dsimp only
  frame_out

/-- What a later grid point leaves of the loss: its part, added. -/
theorem sum3_B (c : Dev nD) (t : Fin cfg3.N) (h : ¬t.val % 8 = 0) (y : S1x1.Idx) :
    (outsAt3 V c t.val t.isLt).2 y = (outsAt3 V c (t.val - 1) (Nat.lt_of_le_of_lt (Nat.sub_le _ _) t.isLt)).2 y
      + k3_pay4 (iblk3 V c 0 t) (iblk3 V c 2 t) (iblk3 V c 1 t) y := by
  rw [outsAt3_B V c t h (by omega)]
  dsimp only
  frame_out
  pointwise [k3_pay1]

/-- The last grid point. -/
def last3 : Fin cfg3.N := ⟨7, by rw [show cfg3.N = 8 from N_3]; omega⟩

/-- The loss's sum, over the grid points and their blocks. -/
theorem reg3_sum (c : Dev nD) (Z C : ℕ → ℕ → EReal) (hZ : Is2 6272 64 (V c main_v60) Z) (hC : Is2 1024 64 (V c main_arg7) C)
    (hT : ∀ (k : Fin 64) (j : Fin 1024), V c main_v61 (ix2 k j) = C j k) :
    (dat3 V c).arrAt 4 cfg3.N = (fun _ => ∑ t : Fin 8, ∑ r : Fin 784, ∑ k : Fin 64,
      (quant Z C (784 * t.val + r) k - Z (784 * t.val + r) k) * (quant Z C (784 * t.val + r) k - Z (784 * t.val + r) k) : FVec Ideal S1x1 .f32) := by
  refine (dat3 V c).arrAt_eq_of_after_last 4 last3 (by decide +kernel) _ fun j => ?_
  blk_simp
  rw [after3_4, Pipeline.eq_sum_fin_of_reset_step_apply_last (fun n h => (outsAt3 V c n h).2) 8 (fun _ => 0) _
    (sum3_A V c) (sum3_B V c) (le_of_eq N_3) last3 (show 7 + 1 = cfg3.N from N_3.symm) j, zero_add]
  refine Fin.sum_fin_congr fun t => ?_
  exact loss3 _ _ _ (fun r k => Z (784 * t.val + r) k) C (blk3_0 V c Z hZ t) (blk3_1 V c C hC t) (blk3_2 V c C hT t) _

end Cert.KernelIdeal.Val

end
-- ==== Proof.Run.NetEnc.lean ====
/- What the calls of the encoder and of the quantization leave. -/
module

public import proofs.«01_k».proof.Proof.Run.Fold0
public import proofs.«01_k».proof.Proof.Net
public import proofs.«01_k».proof.Proof.Host.Enc0
public import proofs.«01_k».proof.Proof.Host.Enc1
public import proofs.«01_k».proof.Proof.Host.Enc2
public import proofs.«01_k».proof.Proof.Host.Codes
public import proofs.«01_k».proof.Proof.Val.Enc0
public import proofs.«01_k».proof.Proof.Val.Enc1
public import proofs.«01_k».proof.Proof.Val.Enc2
public import proofs.«01_k».proof.Proof.Val.Vq

@[expose] public section

set_option maxRecDepth 8192

noncomputable section

namespace Cert.KernelIdeal.Run

open Cert.KernelIdeal Cert.KernelIdeal.Gen Cert.KernelIdeal.Val Cert.KernelIdeal.Host
open Idealize.ShloMosaic Idealize.ShloMosaic.TcCoe Idealize.SL.Sem
open Cert.Spec

variable (m : (ℓ : Loc nD τ sig) → Buf (Elt Ideal) ℓ) (ρ : Dev nD → PrngReg) (c : Dev nD)
variable {x w1 w2 w3 : Arr} {C : ℕ → ℕ → EReal}

/-- The first call leaves the first convolution, … -/
theorem enc0 (h0 : Is4 8 3 224 224 (m ((c : Thread nD τ).loc main_arg0)) x) (h1 : Is4 96 3 4 4 (m ((c : Thread nD τ).loc main_arg1)) w1) :
    Is4 8 112 112 96 (W4 m ρ c (Proc.devRef .tc main_v19)) (nhwc (relu (conv 3 224 224 x w1))) := fun n u v o => by
  have hx := img0 (W0 m ρ c) x (by rw [W0_args m ρ c main_arg0 (by decide)]; exact h0)
  have hw := wts0 (W0 m ρ c) w1 (by rw [W0_args m ρ c main_arg1 (by decide)]; exact h1)
  refine (congrFun ((W4_arr m ρ c 2).trans (reg0 (V3 m ρ) c)) (ix4 n u v o)).trans ?_
  refine congrArg (fun e : EReal => max e 0) ((encSum_at (x := V3 m ρ c main_v4) (w := V3 m ρ c main_v18) hx hw n u v o).trans ?_)
  exact taps4_patches 3 224 224 x w1 n u v o

/-- … the second the second, … -/
theorem enc1 {y : Arr} (hy : Is4 8 112 112 96 (W4 m ρ c (Proc.devRef .tc main_v19)) (nhwc y))
    (h2 : Is4 192 96 4 4 (m ((c : Thread nD τ).loc main_arg2)) w2) :
    Is4 8 56 56 192 (W8 m ρ c (Proc.devRef .tc main_v38)) (nhwc (relu (conv 96 112 112 y w2))) := fun n u v o => by
  have hx := img1 (W4 m ρ c) y hy
  have hw := wts1 (W4 m ρ c) w2 (by rw [W4_args m ρ c main_arg2 (by decide)]; exact h2)
  refine (congrFun ((W8_arr m ρ c 2).trans (reg1 (V7 m ρ) c)) (ix4 n u v o)).trans ?_
  refine congrArg (fun e : EReal => max e 0) ((encSum_at (x := V7 m ρ c main_v23) (w := V7 m ρ c main_v37) hx hw n u v o).trans ?_)
  exact taps4_patches 96 112 112 y w2 n u v o

/-- … and the third, in its first columns, the third. -/
theorem enc2 {y : Arr} (hy : Is4 8 56 56 192 (W8 m ρ c (Proc.devRef .tc main_v38)) (nhwc y))
    (h3 : Is4 64 192 4 4 (m ((c : Thread nD τ).loc main_arg3)) w3) (n : Fin 8) (u : Fin 28) (v : Fin 32) (o : Fin 64) (hv : v.val < 28) :
    W14 m ρ c (Proc.devRef .tc main_v58) (ix4 n u v o) = nhwc (conv 192 56 56 y w3) n u v o := by
  have hx := img2 (W8 m ρ c) y hy
  have hw := wts2 (W8 m ρ c) w3 (by rw [W8_args m ρ c main_arg3 (by decide)]; exact h3)
  refine (congrFun ((W14_arr m ρ c 2).trans (reg2 (V13 m ρ) c)) (ix4 n u v o)).trans ?_
  refine (encSum_at (x := V13 m ρ c main_v43) (w := V13 m ρ c main_v57) hx hw n u v o).trans ?_
  refine (taps4_congr 768 (fun a b k _ hb _ => if_pos (by omega)) fun _ _ _ _ => rfl).trans ?_
  exact taps4_patches 192 56 56 y w3 n u v o

/-- The rows of the encoder's result. -/
theorem encoded (h0 : Is4 8 3 224 224 (m ((c : Thread nD τ).loc main_arg0)) x) (h1 : Is4 96 3 4 4 (m ((c : Thread nD τ).loc main_arg1)) w1)
    (h2 : Is4 192 96 4 4 (m ((c : Thread nD τ).loc main_arg2)) w2) (h3 : Is4 64 192 4 4 (m ((c : Thread nD τ).loc main_arg3)) w3) :
    Is2 6272 64 (W15 m ρ c (Proc.devRef .tc main_v60)) (rows 28 28 (enc x w1 w2 w3)) :=
  rows3 (W14 m ρ c) (enc x w1 w2 w3) fun n u v o hv => enc2 m ρ c (enc1 m ρ c (enc0 m ρ c h0 h1) h2) h3 n u v o hv

/-- The table of codes, … -/
theorem table (h7 : Is2 1024 64 (m ((c : Thread nD τ).loc main_arg7)) C) : Is2 1024 64 (W15 m ρ c (Proc.devRef .tc main_arg7)) C := by
  rw [W15_args m ρ c main_arg7 (by decide)]
  exact h7

/-- … and transposed. -/
theorem tableT (h7 : Is2 1024 64 (m ((c : Thread nD τ).loc main_arg7)) C) (k : Fin 64) (j : Fin 1024) :
    W15 m ρ c (Proc.devRef .tc main_v61) (ix2 k j) = C j k := by
  refine (table3 (W14 m ρ c) k j).trans ?_
  rw [W14_args m ρ c main_arg7 (by decide)]
  exact h7 j k

/-- The fourth call leaves the nearest codes' rows … -/
theorem picked {z : Arr} (hz : Is2 6272 64 (W15 m ρ c (Proc.devRef .tc main_v60)) (rows 28 28 z))
    (h7 : Is2 1024 64 (m ((c : Thread nD τ).loc main_arg7)) C) :
    Is2 6272 64 (W16 m ρ c (Proc.devRef .tc main_v62_0)) (rows 28 28 (nearest z C)) := fun r k => by
  refine (congrFun ((W16_arr m ρ c 3).trans (reg3 (V15 m ρ) c (rows 28 28 z) C hz (table m ρ c h7) (tableT m ρ c h7))) (ix2 r k)).trans ?_
  rw [nearest, rows_codes]
  rfl

/-- … and the sum of the squared differences. -/
theorem summed {z : Arr} (hz : Is2 6272 64 (W15 m ρ c (Proc.devRef .tc main_v60)) (rows 28 28 z))
    (h7 : Is2 1024 64 (m ((c : Thread nD τ).loc main_arg7)) C) :
    W16 m ρ c (Proc.devRef .tc main_v62_1) = ((fun _ => sqErr z C) : FVec Ideal S1x1 .f32) := by
  refine ((W16_arr m ρ c 4).trans (reg3_sum (V15 m ρ) c (rows 28 28 z) C hz (table m ρ c h7) (tableT m ρ c h7))).trans ?_
  rw [sum_blocks]

end Cert.KernelIdeal.Run

end
-- ==== Proof.Host.Dec4.lean ====
/- The host's padded image and its layout of the fifth filter bank. -/
module

public import proofs.«01_k».proof.Proof.Gen.KernelIdeal.Launch
public import proofs.«01_k».proof.Proof.DecTaps
public import Idealize.ShloMosaic.Lib.StableHlo.ReadAt
public import Idealize.ShloMosaic.Lib.Pointwise

@[expose] public section

set_option maxRecDepth 8192

noncomputable section

namespace Cert.KernelIdeal.Host

open Cert.KernelIdeal Cert.KernelIdeal.Gen Idealize.ShloMosaic Idealize.ShloMosaic.TcCoe Idealize.SL.Sem
open Idealize.ShloMosaic.StableHlo
open Cert.Spec

variable (V : Valuation τ sig (Elt Ideal)) (x w : Arr)

/-- The rows of codes as an image. -/
theorem codes4 (hx : Is2 6272 64 (V (Proc.devRef .tc main_v62_0)) (rows 28 28 x)) :
    Is4 8 28 28 64 (after hostOps4 V (Proc.devRef .tc main_v66)) (nhwc x) := by
  intro a b c d
  after_reads_at
  simp only [hx]
  unfold rows nhwc
  congr 1 <;> omega

/-- The fifth call's image: the codes in a ring of zeros. -/
theorem img4 (hx : Is2 6272 64 (V (Proc.devRef .tc main_v62_0)) (rows 28 28 x)) :
    Is4 8 30 40 64 ((after hostOps4_2 (after hostOps4_1 (after hostOps4 V))) (Proc.devRef .tc main_v67)) (nhwc (pad1 28 28 x)) := by
  intro a b c d
  after_reads_at
  simp only [hx, dite_eq_ite, sitofp_zero]
  refine eq_pad1 (by omega) fun _ => ?_
  unfold rows
  congr 1 <;> omega

/-- The fifth call's weights. -/
theorem wts4 (hw : Is4 192 64 4 4 (V (Proc.devRef .tc main_arg4)) w) :
    Is4 4 4 64 192 ((after hostOps4_2 (after hostOps4_1 (after hostOps4 V))) (Proc.devRef .tc main_v125)) (decW w) := by
  intro p t k o
  after_reads_at
  after_reads_at
  after_reads_at
  unfold decW
  fin_cases p <;> fin_cases t <;> simp (config := { decide := true }) only [hw, dite_true, dite_false] <;> congr 1 <;> omega

end Cert.KernelIdeal.Host

end
-- ==== Proof.Host.Dec5.lean ====
/- The host's padded image and its layout of the sixth filter bank. -/
module

public import proofs.«01_k».proof.Proof.Gen.KernelIdeal.Launch
public import proofs.«01_k».proof.Proof.DecTaps
public import Idealize.ShloMosaic.Lib.StableHlo.ReadAt
public import Idealize.ShloMosaic.Lib.Pointwise

@[expose] public section

set_option maxRecDepth 8192

noncomputable section

namespace Cert.KernelIdeal.Host

open Cert.KernelIdeal Cert.KernelIdeal.Gen Idealize.ShloMosaic Idealize.ShloMosaic.TcCoe Idealize.SL.Sem
open Idealize.ShloMosaic.StableHlo
open Cert.Spec

variable (V : Valuation τ sig (Elt Ideal)) (X : ℕ → ℕ → ℕ → ℕ → ℕ → EReal) (w : Arr)

/-- The sixth image: the one before, its phases side by side, in a ring of zeros. -/
theorem img5 (hx : Is5 8 4 28 32 192 (V (Proc.devRef .tc main_v126)) X) :
    Is4 8 58 64 192 ((after hostOps5_2 (after hostOps5_1 (after hostOps5 V))) (Proc.devRef .tc main_v131)) (nhwc (pad1 56 56 (phases X))) := by
  intro a b c d
  after_reads_at
  simp only [hx, dite_eq_ite, sitofp_zero]
  refine eq_pad1 (by omega) fun _ => ?_
  unfold phases
  congr 1 <;> omega

/-- The sixth call's weights. -/
theorem wts5 (hw : Is4 96 192 4 4 (V (Proc.devRef .tc main_arg5)) w) :
    Is4 4 4 192 96 ((after hostOps5_2 (after hostOps5_1 (after hostOps5 V))) (Proc.devRef .tc main_v189)) (decW w) := by
  intro p t k o
  after_reads_at
  after_reads_at
  after_reads_at
  unfold decW
  fin_cases p <;> fin_cases t <;> simp (config := { decide := true }) only [hw, dite_true, dite_false] <;> congr 1 <;> omega

end Cert.KernelIdeal.Host

end
-- ==== Proof.Host.Dec6.lean ====
/- The host's padded image and its layout of the seventh filter bank. -/
module

public import proofs.«01_k».proof.Proof.Gen.KernelIdeal.Launch
public import proofs.«01_k».proof.Proof.DecTaps
public import Idealize.ShloMosaic.Lib.StableHlo.ReadAt
public import Idealize.ShloMosaic.Lib.Pointwise

@[expose] public section

set_option maxRecDepth 8192

noncomputable section

namespace Cert.KernelIdeal.Host

open Cert.KernelIdeal Cert.KernelIdeal.Gen Idealize.ShloMosaic Idealize.ShloMosaic.TcCoe Idealize.SL.Sem
open Idealize.ShloMosaic.StableHlo
open Cert.Spec

variable (V : Valuation τ sig (Elt Ideal)) (X : ℕ → ℕ → ℕ → ℕ → ℕ → EReal) (w : Arr)

/-- The seventh image: the one before, its phases side by side, in a ring of zeros. -/
theorem img6 (hx : Is5 8 4 56 56 96 (V (Proc.devRef .tc main_v190)) X) :
    Is4 8 114 120 96 ((after hostOps6_2 (after hostOps6_1 (after hostOps6 V))) (Proc.devRef .tc main_v194)) (nhwc (pad1 112 112 (phases X))) := by
  intro a b c d
  after_reads_at
  simp only [hx, dite_eq_ite, sitofp_zero]
  refine eq_pad1 (by omega) fun _ => ?_
  unfold phases
  congr 1 <;> omega

set_option maxHeartbeats 4000000 in
/-- The seventh call's weights. -/
theorem wts6 (hw : Is4 3 96 4 4 (V (Proc.devRef .tc main_arg6)) w) :
    Is3 9 96 12 ((after hostOps6_2 (after hostOps6_1 (after hostOps6 V))) (Proc.devRef .tc main_v266)) (decW9 3 w) := by
  intro s k q
  obtain ⟨s, hs⟩ := s
  interval_cases s
  all_goals
    after_reads_at
    after_reads_at
    split_ifs
    all_goals after_reads_at
  all_goals
    unfold decW9
    first
    | (refine (if_neg ?_).symm
       omega)
    | (refine Eq.trans ?_ (if_pos ?_).symm
       · rw [hw]; dsimp only; congr 1 <;> omega
       · omega)

end Cert.KernelIdeal.Host

end
-- ==== Proof.Val.Dec4.lean ====
/- The fifth pallas_call's result array, element by element, from the arrays it reads. -/
module

public import proofs.«01_k».proof.Proof.Run.Region4
public import proofs.«01_k».proof.Proof.TapSum
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Run
open Cert.Spec

/-- The block indices of the fifth call's windows at every grid point: the image's number on the leading axis. -/
theorem idx4 : ∀ t : Fin cfg4.N, win4_0.index t = ![t.val, 0, 0, 0] ∧ win4_1.index t = ![0, 0, 0, 0]
    ∧ win4_2.index t = ![t.val, 0, 0, 0, 0] :=
  (by decide +kernel : ∀ t : Fin grid4.N, _)

/-- What one grid point leaves: each phase's sum of four taps over its image, clipped below at zero. -/
theorem core4 (x0 : Vec Ideal S1x30x40x64 .f32) (x1 : Vec Ideal S4x4x64x192 .f32) (y : S1x4x28x32x192.Idx) :
    out4_2 x0 x1 y = clip (decSum 1 30 40 64 28 32 192 (by decide) (by decide) x0 x1) y := by
  unfold out4_2
  canon_tiles x h
  all_goals
    open_payloads
    pointwise [clip, decSum]
    blk_point []

/-- What one grid point leaves, by the whole arrays it reads blocks of. -/
theorem step4 (n : Fin 8) (x : FVec Ideal S8x30x40x64 .f32) (w : FVec Ideal S4x4x64x192 .f32) (x0 : Vec Ideal S1x30x40x64 .f32) (x1 : Vec Ideal S4x4x64x192 .f32)
    (hx : ∀ (b : Fin 30) (d : Fin 40) (e : Fin 64), x0 (ix4 0 b d e) = x (ix4 n b d e)) (hw : ∀ b, x1 b = w b)
    (y : S1x4x28x32x192.Idx) (j : S8x4x28x32x192.Idx) (h0 : (j 0).val = n.val) (h1 : (j 1).val = (y 1).val) (h2 : (j 2).val = (y 2).val) (h3 : (j 3).val = (y 3).val) (h4 : (j 4).val = (y 4).val) :
    out4_2 x0 x1 y = clip (decSum 8 30 40 64 28 32 192 (by decide) (by decide) x w) j :=
  (core4 x0 x1 y).trans (clip_congr (decSum_block n hx hw y j h0 h1 h2 h3 h4))

variable (V : (c : Dev nD) → (b : Ref sig .tc) → Buf (Elt Ideal) ((c : Thread nD τ).loc b))

/-- The image's block at a grid point. -/
theorem blk4_0 (c : Dev nD) (t : Fin cfg4.N) (b : Fin 30) (d : Fin 40) (e : Fin 64) :
    (iblk4 V c 0 t : Vec Ideal S1x30x40x64 .f32) (ix4 0 b d e) = (V c main_v67 : FVec Ideal S8x30x40x64 .f32) (ix4 (n0 := 8) t b d e) := by
  blk_point [iblk4, idx4 t]

/-- The weights' block is the whole bank. -/
theorem blk4_1 (c : Dev nD) (t : Fin cfg4.N) (b) :
    (iblk4 V c 1 t : Vec Ideal S4x4x64x192 .f32) b = (V c main_v125 : FVec Ideal S4x4x64x192 .f32) b := by
  blk_point [iblk4, idx4 t]

/-- The result array holds each phase's sum of four taps, clipped below at zero. -/
theorem reg4 (c : Dev nD) : (dat4 V c).arrAt 2 cfg4.N
    = (clip (decSum 8 30 40 64 28 32 192 (by decide) (by decide) (V c main_v67) (V c main_v125)) : FVec Ideal S8x4x28x32x192 .f32) := by
  refine (dat4 V c).arrAt_eq_of_covers 2 _ (by decide +kernel) fun t _ y => ?_
  blk_simp
  rw [after4_2]
  refine step4 t (V c main_v67) (V c main_v125) _ _ (blk4_0 V c t) (blk4_1 V c t) y _ ?_ ?_ ?_ ?_ ?_ <;>
    blk_simp [idx4 t]

end Cert.KernelIdeal.Val

end
-- ==== Proof.Val.Dec5.lean ====
/- The sixth pallas_call's result array, element by element, from the arrays it reads. -/
module

public import proofs.«01_k».proof.Proof.Run.Region5
public import proofs.«01_k».proof.Proof.TapSum
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Run
open Cert.Spec

/-- The block indices of the sixth call's windows at every grid point: the image's number on the leading axis. -/
theorem idx5 : ∀ t : Fin cfg5.N, win5_0.index t = ![t.val, 0, 0, 0] ∧ win5_1.index t = ![0, 0, 0, 0]
    ∧ win5_2.index t = ![t.val, 0, 0, 0, 0] :=
  (by decide +kernel : ∀ t : Fin grid5.N, _)

/-- What one grid point leaves: each phase's sum of four taps over its image, clipped below at zero. -/
theorem core5 (x0 : Vec Ideal S1x58x64x192 .f32) (x1 : Vec Ideal S4x4x192x96 .f32) (y : S1x4x56x56x96.Idx) :
    out5_2 x0 x1 y = clip (decSum 1 58 64 192 56 56 96 (by decide) (by decide) x0 x1) y := by
  unfold out5_2
  canon_tiles x h
  all_goals
    open_payloads
    pointwise [clip, decSum]
    blk_point []

/-- What one grid point leaves, by the whole arrays it reads blocks of. -/
theorem step5 (n : Fin 8) (x : FVec Ideal S8x58x64x192 .f32) (w : FVec Ideal S4x4x192x96 .f32) (x0 : Vec Ideal S1x58x64x192 .f32) (x1 : Vec Ideal S4x4x192x96 .f32)
    (hx : ∀ (b : Fin 58) (d : Fin 64) (e : Fin 192), x0 (ix4 0 b d e) = x (ix4 n b d e)) (hw : ∀ b, x1 b = w b)
    (y : S1x4x56x56x96.Idx) (j : S8x4x56x56x96.Idx) (h0 : (j 0).val = n.val) (h1 : (j 1).val = (y 1).val) (h2 : (j 2).val = (y 2).val) (h3 : (j 3).val = (y 3).val) (h4 : (j 4).val = (y 4).val) :
    out5_2 x0 x1 y = clip (decSum 8 58 64 192 56 56 96 (by decide) (by decide) x w) j :=
  (core5 x0 x1 y).trans (clip_congr (decSum_block n hx hw y j h0 h1 h2 h3 h4))

variable (V : (c : Dev nD) → (b : Ref sig .tc) → Buf (Elt Ideal) ((c : Thread nD τ).loc b))

/-- The image's block at a grid point. -/
theorem blk5_0 (c : Dev nD) (t : Fin cfg5.N) (b : Fin 58) (d : Fin 64) (e : Fin 192) :
    (iblk5 V c 0 t : Vec Ideal S1x58x64x192 .f32) (ix4 0 b d e) = (V c main_v131 : FVec Ideal S8x58x64x192 .f32) (ix4 (n0 := 8) t b d e) := by
  blk_point [iblk5, idx5 t]

/-- The weights' block is the whole bank. -/
theorem blk5_1 (c : Dev nD) (t : Fin cfg5.N) (b) :
    (iblk5 V c 1 t : Vec Ideal S4x4x192x96 .f32) b = (V c main_v189 : FVec Ideal S4x4x192x96 .f32) b := by
  blk_point [iblk5, idx5 t]

/-- The result array holds each phase's sum of four taps, clipped below at zero. -/
theorem reg5 (c : Dev nD) : (dat5 V c).arrAt 2 cfg5.N
    = (clip (decSum 8 58 64 192 56 56 96 (by decide) (by decide) (V c main_v131) (V c main_v189)) : FVec Ideal S8x4x56x56x96 .f32) := by
  refine (dat5 V c).arrAt_eq_of_covers 2 _ (by decide +kernel) fun t _ y => ?_
  blk_simp
  rw [after5_2]
  refine step5 t (V c main_v131) (V c main_v189) _ _ (blk5_0 V c t) (blk5_1 V c t) y _ ?_ ?_ ?_ ?_ ?_ <;>
    blk_simp [idx5 t]

end Cert.KernelIdeal.Val

end
-- ==== Proof.Val.Dec6.lean ====
/- The seventh pallas_call's result array, element by element, from the arrays it reads. -/
module

public import proofs.«01_k».proof.Proof.Run.Region6
public import proofs.«01_k».proof.Proof.TapSum
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Run
open Cert.Spec

/-- The block indices of the seventh call's windows at every grid point: the image's number on the leading axis. -/
theorem idx6 : ∀ t : Fin cfg6.N, win6_0.index t = ![t.val, 0, 0, 0] ∧ win6_1.index t = ![0, 0, 0]
    ∧ win6_2.index t = ![t.val, 0, 0, 0] :=
  (by decide +kernel : ∀ t : Fin grid6.N, _)

/-- What one grid point leaves: the nine taps' sum over its image. -/
theorem core6 (x0 : Vec Ideal S1x114x120x96 .f32) (x1 : Vec Ideal S9x96x12 .f32) (y : S1x112x112x12.Idx) :
    out6_2 x0 x1 y = dec9Sum 1 114 120 96 112 112 12 (by decide) (by decide) x0 x1 y := by
  unfold out6_2
  frame_out
  pointwise [k6_pay1, k6_pay2, k6_pay3, clip, dec9Sum]
  blk_point []

/-- What one grid point leaves, by the whole arrays it reads blocks of. -/
theorem step6 (n : Fin 8) (x : FVec Ideal S8x114x120x96 .f32) (w : FVec Ideal S9x96x12 .f32) (x0 : Vec Ideal S1x114x120x96 .f32) (x1 : Vec Ideal S9x96x12 .f32)
    (hx : ∀ (b : Fin 114) (d : Fin 120) (e : Fin 96), x0 (ix4 0 b d e) = x (ix4 n b d e)) (hw : ∀ b, x1 b = w b)
    (y : S1x112x112x12.Idx) (j : S8x112x112x12.Idx) (h0 : (j 0).val = n.val) (h1 : (j 1).val = (y 1).val) (h2 : (j 2).val = (y 2).val) (h3 : (j 3).val = (y 3).val) :
    out6_2 x0 x1 y = dec9Sum 8 114 120 96 112 112 12 (by decide) (by decide) x w j :=
  (core6 x0 x1 y).trans ((dec9Sum_block n hx hw y j h0 h1 h2 h3))

variable (V : (c : Dev nD) → (b : Ref sig .tc) → Buf (Elt Ideal) ((c : Thread nD τ).loc b))

/-- The image's block at a grid point. -/
theorem blk6_0 (c : Dev nD) (t : Fin cfg6.N) (b : Fin 114) (d : Fin 120) (e : Fin 96) :
    (iblk6 V c 0 t : Vec Ideal S1x114x120x96 .f32) (ix4 0 b d e) = (V c main_v194 : FVec Ideal S8x114x120x96 .f32) (ix4 (n0 := 8) t b d e) := by
  blk_point [iblk6, idx6 t]

/-- The weights' block is the whole bank. -/
theorem blk6_1 (c : Dev nD) (t : Fin cfg6.N) (b) :
    (iblk6 V c 1 t : Vec Ideal S9x96x12 .f32) b = (V c main_v266 : FVec Ideal S9x96x12 .f32) b := by
  blk_point [iblk6, idx6 t]

/-- The result array holds the nine taps' sum. -/
theorem reg6 (c : Dev nD) : (dat6 V c).arrAt 2 cfg6.N
    = (dec9Sum 8 114 120 96 112 112 12 (by decide) (by decide) (V c main_v194) (V c main_v266) : FVec Ideal S8x112x112x12 .f32) := by
  refine (dat6 V c).arrAt_eq_of_covers 2 _ (by decide +kernel) fun t _ y => ?_
  blk_simp
  rw [after6_2]
  refine step6 t (V c main_v194) (V c main_v266) _ _ (blk6_0 V c t) (blk6_1 V c t) y _ ?_ ?_ ?_ ?_ <;>
    blk_simp [idx6 t]

end Cert.KernelIdeal.Val

end
-- ==== Proof.Run.NetDec.lean ====
/- What the calls of the decoder leave, and the three results. -/
module

public import proofs.«01_k».proof.Proof.Run.NetEnc
public import proofs.«01_k».proof.Proof.Host.Dec4
public import proofs.«01_k».proof.Proof.Host.Dec5
public import proofs.«01_k».proof.Proof.Host.Dec6
public import proofs.«01_k».proof.Proof.Val.Dec4
public import proofs.«01_k».proof.Proof.Val.Dec5
public import proofs.«01_k».proof.Proof.Val.Dec6

@[expose] public section

set_option maxRecDepth 8192

noncomputable section

namespace Cert.KernelIdeal.Run

open Cert.KernelIdeal Cert.KernelIdeal.Gen Cert.KernelIdeal.Val Cert.KernelIdeal.Host
open Idealize.ShloMosaic Idealize.ShloMosaic.TcCoe Idealize.SL.Sem
open Cert.Spec

variable (m : (ℓ : Loc nD τ sig) → Buf (Elt Ideal) ℓ) (ρ : Dev nD → PrngReg) (c : Dev nD)
variable {x w1 w2 w3 w4 w5 w6 : Arr} {C : ℕ → ℕ → EReal}

/-- The fifth call leaves the first transposed convolution, phase by phase, … -/
theorem dec4 {q : Arr} (hq : Is2 6272 64 (W16 m ρ c (Proc.devRef .tc main_v62_0)) (rows 28 28 q))
    (h4 : Is4 192 64 4 4 (m ((c : Thread nD τ).loc main_arg4)) w4) :
    Is5 8 4 28 32 192 (W20 m ρ c (Proc.devRef .tc main_v126))
      (fun n p u v o => relu (convT 64 28 28 q w4) n o (2 * u + p / 2) (2 * v + p % 2)) := fun n p u v o => by
  have hx := img4 (W16 m ρ c) q hq
  have hw := wts4 (W16 m ρ c) w4 (by rw [W16_args m ρ c main_arg4 (by decide)]; exact h4)
  refine (congrFun ((W20_arr m ρ c 2).trans (reg4 (V19 m ρ) c)) (ix5 n p u v o)).trans ?_
  exact congrArg (fun e : EReal => max e 0) (decSum_at (x := V19 m ρ c main_v67) (w := V19 m ρ c main_v125) hx hw n p u v o)

/-- … the sixth the second, … -/
theorem dec5 {y : Arr} (hy : Is5 8 4 28 32 192 (W20 m ρ c (Proc.devRef .tc main_v126)) (fun n p u v o => y n o (2 * u + p / 2) (2 * v + p % 2)))
    (h5 : Is4 96 192 4 4 (m ((c : Thread nD τ).loc main_arg5)) w5) :
    Is5 8 4 56 56 96 (W24 m ρ c (Proc.devRef .tc main_v190))
      (fun n p u v o => relu (convT 192 56 56 y w5) n o (2 * u + p / 2) (2 * v + p % 2)) := fun n p u v o => by
  have hx := img5 (W20 m ρ c) _ hy
  rw [phases_eq] at hx
  have hw := wts5 (W20 m ρ c) w5 (by rw [W20_args m ρ c main_arg5 (by decide)]; exact h5)
  refine (congrFun ((W24_arr m ρ c 2).trans (reg5 (V23 m ρ) c)) (ix5 n p u v o)).trans ?_
  exact congrArg (fun e : EReal => max e 0) (decSum_at (x := V23 m ρ c main_v131) (w := V23 m ρ c main_v189) hx hw n p u v o)

/-- … and the seventh the third. -/
theorem dec6 {y : Arr} (hy : Is5 8 4 56 56 96 (W24 m ρ c (Proc.devRef .tc main_v190)) (fun n p u v o => y n o (2 * u + p / 2) (2 * v + p % 2)))
    (h6 : Is4 3 96 4 4 (m ((c : Thread nD τ).loc main_arg6)) w6) :
    Is4 8 112 112 12 (W28 m ρ c (Proc.devRef .tc main_v267))
      (fun n u v q => convT 96 112 112 y w6 n (q % 3) (2 * u + q / 3 / 2) (2 * v + q / 3 % 2)) := fun n u v q => by
  have hx := img6 (W24 m ρ c) _ hy
  rw [phases_eq] at hx
  have hw := wts6 (W24 m ρ c) w6 (by rw [W24_args m ρ c main_arg6 (by decide)]; exact h6)
  refine (congrFun ((W28_arr m ρ c 2).trans (reg6 (V27 m ρ) c)) (ix4 n u v q)).trans ?_
  exact dec9Sum_at (O := 3) (x := V27 m ρ c main_v194) (w := V27 m ρ c main_v266) hx hw n u v q

/-- The decoded image. -/
theorem decoded {q : Arr} (hq : Is2 6272 64 (W16 m ρ c (Proc.devRef .tc main_v62_0)) (rows 28 28 q))
    (h4 : Is4 192 64 4 4 (m ((c : Thread nD τ).loc main_arg4)) w4)
    (h5 : Is4 96 192 4 4 (m ((c : Thread nD τ).loc main_arg5)) w5) (h6 : Is4 3 96 4 4 (m ((c : Thread nD τ).loc main_arg6)) w6) :
    Is4 8 3 224 224 (W29 m ρ c (Proc.devRef .tc main_v271)) (dec q w4 w5 w6) := fun n o y z => by
  refine (out7 (W28 m ρ c) _ (dec6 m ρ c (dec5 m ρ c (dec4 m ρ c hq h4) h5) h6) n o y z).trans ?_
  show dec q w4 w5 w6 n (((2 * (y.val % 2) + z.val % 2) * 3 + o.val) % 3) (2 * (y.val / 2) + ((2 * (y.val % 2) + z.val % 2) * 3 + o.val) / 3 / 2)
    (2 * (z.val / 2) + ((2 * (y.val % 2) + z.val % 2) * 3 + o.val) / 3 % 2) = _
  have := o.isLt
  rw [show ((2 * (y.val % 2) + z.val % 2) * 3 + o.val) % 3 = o.val by omega,
    show 2 * (y.val / 2) + ((2 * (y.val % 2) + z.val % 2) * 3 + o.val) / 3 / 2 = y.val by omega,
    show 2 * (z.val / 2) + ((2 * (y.val % 2) + z.val % 2) * 3 + o.val) / 3 % 2 = z.val by omega]

/-- The codes' image. -/
theorem quantized {q : Arr} (hq : Is2 6272 64 (W16 m ρ c (Proc.devRef .tc main_v62_0)) (rows 28 28 q)) :
    Is4 8 64 28 28 (W29 m ρ c (Proc.devRef .tc main_v272)) q := by
  refine codes7 (W28 m ρ c) q ?_
  rw [W28_of m ρ c main_v66 (by decide), W27_of m ρ c main_v66 (by decide), W26_of m ρ c main_v66 (by decide), W25_of m ρ c main_v66 (by decide),
    W24_of m ρ c main_v66 (by decide), W23_of m ρ c main_v66 (by decide), W22_of m ρ c main_v66 (by decide), W21_of m ρ c main_v66 (by decide),
    W20_of m ρ c main_v66 (by decide), W19_of m ρ c main_v66 (by decide), W18_of m ρ c main_v66 (by decide)]
  exact codes4 (W16 m ρ c) q hq

/-- The loss. -/
theorem lost {s : EReal} (hs : W16 m ρ c (Proc.devRef .tc main_v62_1) = ((fun _ => s) : FVec Ideal S1x1 .f32)) :
    W29 m ρ c (Proc.devRef .tc main_v65) = ((fun _ => loss s) : FVec Ideal S_ .f32) := by
  rw [W29_of m ρ c main_v65 (by decide), W28_of m ρ c main_v65 (by decide), W27_of m ρ c main_v65 (by decide), W26_of m ρ c main_v65 (by decide),
    W25_of m ρ c main_v65 (by decide),
    W24_of m ρ c main_v65 (by decide), W23_of m ρ c main_v65 (by decide), W22_of m ρ c main_v65 (by decide), W21_of m ρ c main_v65 (by decide),
    W20_of m ρ c main_v65 (by decide), W19_of m ρ c main_v65 (by decide), W18_of m ρ c main_v65 (by decide)]
  exact loss4 (W16 m ρ c) s hs

/-- The three results. -/
theorem results (h0 : Is4 8 3 224 224 (m ((c : Thread nD τ).loc main_arg0)) x) (h1 : Is4 96 3 4 4 (m ((c : Thread nD τ).loc main_arg1)) w1)
    (h2 : Is4 192 96 4 4 (m ((c : Thread nD τ).loc main_arg2)) w2) (h3 : Is4 64 192 4 4 (m ((c : Thread nD τ).loc main_arg3)) w3)
    (h4 : Is4 192 64 4 4 (m ((c : Thread nD τ).loc main_arg4)) w4) (h5 : Is4 96 192 4 4 (m ((c : Thread nD τ).loc main_arg5)) w5)
    (h6 : Is4 3 96 4 4 (m ((c : Thread nD τ).loc main_arg6)) w6) (h7 : Is2 1024 64 (m ((c : Thread nD τ).loc main_arg7)) C) :
    Is4 8 3 224 224 (W29 m ρ c (Proc.devRef .tc main_v271)) (dec (nearest (enc x w1 w2 w3) C) w4 w5 w6)
      ∧ Is4 8 64 28 28 (W29 m ρ c (Proc.devRef .tc main_v272)) (nearest (enc x w1 w2 w3) C)
      ∧ W29 m ρ c (Proc.devRef .tc main_v65) = ((fun _ => loss (sqErr (enc x w1 w2 w3) C)) : FVec Ideal S_ .f32) := by
  have hz := encoded m ρ c h0 h1 h2 h3
  have hq := picked m ρ c hz h7
  exact ⟨decoded m ρ c hq h4 h5 h6, quantized m ρ c hq, lost m ρ c (summed m ρ c hz h7)⟩

end Cert.KernelIdeal.Run

end
-- ==== Proof.Ref.Ops.lean ====
/- The reference program's @main as lists of host operations, one list per stage of the network, and its run: every
   weakly fair execution ends with each buffer at what the operations leave of the launch contents, folded in order. -/
module

public import proofs.«01_k».proof.Proof.Gen.ReferenceIdeal
public import Idealize.ShloMosaic.Lib.StableHlo.Run
public import Idealize.ShloMosaic.Lib.Pipeline.Frame

@[expose] public section

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The first convolution and its relu. -/
abbrev opsE1 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x3x224x224, .f32⟩) main_arg0) (TRef.of (T := ⟨S_, .f32⟩) main_call0_v0) (TRef.of (T := ⟨S8x3x226x226, .f32⟩) main_v0) (fun x v => pad S8x3x226x226 ![0, 0, 1, 1] ![0, 0, 1, 1] ![0, 0, 0, 0] x v pads_S8x3x224x224_S8x3x226x226_000_000_110_110 h_S_),
    unary main_v0 main_v1 ((Host.slice S8x3x112x226 ![0, 0, 0, 0] ![1, 1, 2, 1] · slicesBy_S8x3x226x226_S8x3x112x226_0s1_0s1_0s2_0s1) : (⟨S8x3x226x226, .f32⟩ : BufTy).Contents (Elt F) → (⟨S8x3x112x226, .f32⟩ : BufTy).Contents (Elt F)),
    unary main_v0 main_v2 ((Host.slice S8x3x112x226 ![0, 0, 1, 0] ![1, 1, 2, 1] · slicesBy_S8x3x226x226_S8x3x112x226_0s1_0s1_1s2_0s1) : (⟨S8x3x226x226, .f32⟩ : BufTy).Contents (Elt F) → (⟨S8x3x112x226, .f32⟩ : BufTy).Contents (Elt F)),
    unary main_v0 main_v3 ((Host.slice S8x3x112x226 ![0, 0, 2, 0] ![1, 1, 2, 1] · slicesBy_S8x3x226x226_S8x3x112x226_0s1_0s1_2s2_0s1) : (⟨S8x3x226x226, .f32⟩ : BufTy).Contents (Elt F) → (⟨S8x3x112x226, .f32⟩ : BufTy).Contents (Elt F)),
    unary main_v0 main_v4 ((Host.slice S8x3x112x226 ![0, 0, 3, 0] ![1, 1, 2, 1] · slicesBy_S8x3x226x226_S8x3x112x226_0s1_0s1_3s2_0s1) : (⟨S8x3x226x226, .f32⟩ : BufTy).Contents (Elt F) → (⟨S8x3x112x226, .f32⟩ : BufTy).Contents (Elt F)),
    unary main_v1 main_v5 (broadcastInDim S8x3x1x112x226 ![0, 1, 3, 4] bcast_S8x3x112x226_S8x3x1x112x226_0_1_3_4 : (⟨S8x3x112x226, .f32⟩ : BufTy).Contents (Elt F) → (⟨S8x3x1x112x226, .f32⟩ : BufTy).Contents (Elt F)),
    unary main_v2 main_v6 (broadcastInDim S8x3x1x112x226 ![0, 1, 3, 4] bcast_S8x3x112x226_S8x3x1x112x226_0_1_3_4 : (⟨S8x3x112x226, .f32⟩ : BufTy).Contents (Elt F) → (⟨S8x3x1x112x226, .f32⟩ : BufTy).Contents (Elt F)),
    unary main_v3 main_v7 (broadcastInDim S8x3x1x112x226 ![0, 1, 3, 4] bcast_S8x3x112x226_S8x3x1x112x226_0_1_3_4 : (⟨S8x3x112x226, .f32⟩ : BufTy).Contents (Elt F) → (⟨S8x3x1x112x226, .f32⟩ : BufTy).Contents (Elt F)),
    unary main_v4 main_v8 (broadcastInDim S8x3x1x112x226 ![0, 1, 3, 4] bcast_S8x3x112x226_S8x3x1x112x226_0_1_3_4 : (⟨S8x3x112x226, .f32⟩ : BufTy).Contents (Elt F) → (⟨S8x3x1x112x226, .f32⟩ : BufTy).Contents (Elt F)),
    nary ![main_v5, main_v6, main_v7, main_v8] main_v9 (fun u => (concatenate S8x3x4x112x226 2 [⟨S8x3x1x112x226, (u 0 : (⟨S8x3x1x112x226, .f32⟩ : BufTy).Contents (Elt F))⟩, ⟨S8x3x1x112x226, (u 1 : (⟨S8x3x1x112x226, .f32⟩ : BufTy).Contents (Elt F))⟩, ⟨S8x3x1x112x226, (u 2 : (⟨S8x3x1x112x226, .f32⟩ : BufTy).Contents (Elt F))⟩, ⟨S8x3x1x112x226, (u 3 : (⟨S8x3x1x112x226, .f32⟩ : BufTy).Contents (Elt F))⟩] concatenates_S8x3x1x112x226_S8x3x1x112x226_S8x3x1x112x226_S8x3x1x112x226_S8x3x4x112x226_d2 : (⟨S8x3x4x112x226, .f32⟩ : BufTy).Contents (Elt F))),
    unary main_v9 main_v10 ((Host.slice S8x3x4x112x112 ![0, 0, 0, 0, 0] ![1, 1, 1, 1, 2] · slicesBy_S8x3x4x112x226_S8x3x4x112x112_0s1_0s1_0s1_0s1_0s2) : (⟨S8x3x4x112x226, .f32⟩ : BufTy).Contents (Elt F) → (⟨S8x3x4x112x112, .f32⟩ : BufTy).Contents (Elt F)),
    unary main_v9 main_v11 ((Host.slice S8x3x4x112x112 ![0, 0, 0, 0, 1] ![1, 1, 1, 1, 2] · slicesBy_S8x3x4x112x226_S8x3x4x112x112_0s1_0s1_0s1_0s1_1s2) : (⟨S8x3x4x112x226, .f32⟩ : BufTy).Contents (Elt F) → (⟨S8x3x4x112x112, .f32⟩ : BufTy).Contents (Elt F)),
    unary main_v9 main_v12 ((Host.slice S8x3x4x112x112 ![0, 0, 0, 0, 2] ![1, 1, 1, 1, 2] · slicesBy_S8x3x4x112x226_S8x3x4x112x112_0s1_0s1_0s1_0s1_2s2) : (⟨S8x3x4x112x226, .f32⟩ : BufTy).Contents (Elt F) → (⟨S8x3x4x112x112, .f32⟩ : BufTy).Contents (Elt F)),
    unary main_v9 main_v13 ((Host.slice S8x3x4x112x112 ![0, 0, 0, 0, 3] ![1, 1, 1, 1, 2] · slicesBy_S8x3x4x112x226_S8x3x4x112x112_0s1_0s1_0s1_0s1_3s2) : (⟨S8x3x4x112x226, .f32⟩ : BufTy).Contents (Elt F) → (⟨S8x3x4x112x112, .f32⟩ : BufTy).Contents (Elt F)),
    unary main_v10 main_v14 (broadcastInDim S8x3x4x1x112x112 ![0, 1, 2, 4, 5] bcast_S8x3x4x112x112_S8x3x4x1x112x112_0_1_2_4_5 : (⟨S8x3x4x112x112, .f32⟩ : BufTy).Contents (Elt F) → (⟨S8x3x4x1x112x112, .f32⟩ : BufTy).Contents (Elt F)),
    unary main_v11 main_v15 (broadcastInDim S8x3x4x1x112x112 ![0, 1, 2, 4, 5] bcast_S8x3x4x112x112_S8x3x4x1x112x112_0_1_2_4_5 : (⟨S8x3x4x112x112, .f32⟩ : BufTy).Contents (Elt F) → (⟨S8x3x4x1x112x112, .f32⟩ : BufTy).Contents (Elt F)),
    unary main_v12 main_v16 (broadcastInDim S8x3x4x1x112x112 ![0, 1, 2, 4, 5] bcast_S8x3x4x112x112_S8x3x4x1x112x112_0_1_2_4_5 : (⟨S8x3x4x112x112, .f32⟩ : BufTy).Contents (Elt F) → (⟨S8x3x4x1x112x112, .f32⟩ : BufTy).Contents (Elt F)),
    unary main_v13 main_v17 (broadcastInDim S8x3x4x1x112x112 ![0, 1, 2, 4, 5] bcast_S8x3x4x112x112_S8x3x4x1x112x112_0_1_2_4_5 : (⟨S8x3x4x112x112, .f32⟩ : BufTy).Contents (Elt F) → (⟨S8x3x4x1x112x112, .f32⟩ : BufTy).Contents (Elt F)),
    nary ![main_v14, main_v15, main_v16, main_v17] main_v18 (fun u => (concatenate S8x3x4x4x112x112 3 [⟨S8x3x4x1x112x112, (u 0 : (⟨S8x3x4x1x112x112, .f32⟩ : BufTy).Contents (Elt F))⟩, ⟨S8x3x4x1x112x112, (u 1 : (⟨S8x3x4x1x112x112, .f32⟩ : BufTy).Contents (Elt F))⟩, ⟨S8x3x4x1x112x112, (u 2 : (⟨S8x3x4x1x112x112, .f32⟩ : BufTy).Contents (Elt F))⟩, ⟨S8x3x4x1x112x112, (u 3 : (⟨S8x3x4x1x112x112, .f32⟩ : BufTy).Contents (Elt F))⟩] concatenates_S8x3x4x1x112x112_S8x3x4x1x112x112_S8x3x4x1x112x112_S8x3x4x1x112x112_S8x3x4x4x112x112_d3 : (⟨S8x3x4x4x112x112, .f32⟩ : BufTy).Contents (Elt F))),
    binary main_arg1 main_v18 main_v19 ((fun l r => Host.dotGeneral dot_S96x3x4x4_S8x3x4x4x112x112_S96x8x112x112_132_132_0_045_n_n none l r) : (⟨S96x3x4x4, .f32⟩ : BufTy).Contents (Elt F) → (⟨S8x3x4x4x112x112, .f32⟩ : BufTy).Contents (Elt F) → (⟨S96x8x112x112, .f32⟩ : BufTy).Contents (Elt F)),
    unary main_v19 main_v20 ((transpose S8x96x112x112 [1, 0, 2, 3] · transposes_S96x8x112x112_S8x96x112x112_1_0_2_3) : (⟨S96x8x112x112, .f32⟩ : BufTy).Contents (Elt F) → (⟨S8x96x112x112, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x96x112x112, .f32⟩) main_call1_v0) (broadcastInDim S8x96x112x112 ![] bcast_S_S8x96x112x112),
    TRef.binary (TRef.of (T := ⟨S8x96x112x112, .f32⟩) main_v20) (TRef.of (T := ⟨S8x96x112x112, .f32⟩) main_call1_v0) (TRef.of (T := ⟨S8x96x112x112, .f32⟩) main_v21) maximumf ]
/-- The buffers `opsE1` writes, in order. -/
abbrev opsE1_W : List (Ref sig .tc) := [main_c, main_call0_v0, main_v0, main_v1, main_v2, main_v3, main_v4, main_v5, main_v6, main_v7, main_v8, main_v9, main_v10, main_v11, main_v12, main_v13, main_v14, main_v15, main_v16, main_v17, main_v18, main_v19, main_v20, main_call1_cst, main_call1_v0, main_v21]
theorem opsE1_writes : (opsE1 : List (HloOp τ sig (Elt F))).Forall fun op => op.writes ⊆ (opsE1_W.map (Proc.devRef (τ := τ) .tc)).toFinset :=
  forall_writes_sub_of_map rfl
theorem opsE1_sub : (opsE1 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub .., binary_bufs_sub .., unary_bufs_sub .., nullary_bufs_sub .., unary_bufs_sub .., binary_bufs_sub ..⟩
theorem opsE1_fresh : (opsE1 : List (HloOp τ sig (Elt F))).Forall fun op => op.fresh = ∅ := by
  simp only [List.Forall]; repeat' constructor

/-- The second convolution and its relu. -/
abbrev opsE2 : List (HloOp τ sig (Elt F)) :=
  [ nullary main_c_0 (constantI S_ 32 0#32),
    TRef.unary (TRef.of (T := ⟨S_, .i32⟩) main_c_0) (TRef.of (T := ⟨S_, .f32⟩) main_call2_v0) (sitofp .f32),
    TRef.binary (TRef.of (T := ⟨S8x96x112x112, .f32⟩) main_v21) (TRef.of (T := ⟨S_, .f32⟩) main_call2_v0) (TRef.of (T := ⟨S8x96x114x114, .f32⟩) main_v22) (fun x v => pad S8x96x114x114 ![0, 0, 1, 1] ![0, 0, 1, 1] ![0, 0, 0, 0] x v pads_S8x96x112x112_S8x96x114x114_000_000_110_110 h_S_),
    unary main_v22 main_v23 ((Host.slice S8x96x56x114 ![0, 0, 0, 0] ![1, 1, 2, 1] · slicesBy_S8x96x114x114_S8x96x56x114_0s1_0s1_0s2_0s1) : (⟨S8x96x114x114, .f32⟩ : BufTy).Contents (Elt F) → (⟨S8x96x56x114, .f32⟩ : BufTy).Contents (Elt F)),
    unary main_v22 main_v24 ((Host.slice S8x96x56x114 ![0, 0, 1, 0] ![1, 1, 2, 1] · slicesBy_S8x96x114x114_S8x96x56x114_0s1_0s1_1s2_0s1) : (⟨S8x96x114x114, .f32⟩ : BufTy).Contents (Elt F) → (⟨S8x96x56x114, .f32⟩ : BufTy).Contents (Elt F)),
    unary main_v22 main_v25 ((Host.slice S8x96x56x114 ![0, 0, 2, 0] ![1, 1, 2, 1] · slicesBy_S8x96x114x114_S8x96x56x114_0s1_0s1_2s2_0s1) : (⟨S8x96x114x114, .f32⟩ : BufTy).Contents (Elt F) → (⟨S8x96x56x114, .f32⟩ : BufTy).Contents (Elt F)),
    unary main_v22 main_v26 ((Host.slice S8x96x56x114 ![0, 0, 3, 0] ![1, 1, 2, 1] · slicesBy_S8x96x114x114_S8x96x56x114_0s1_0s1_3s2_0s1) : (⟨S8x96x114x114, .f32⟩ : BufTy).Contents (Elt F) → (⟨S8x96x56x114, .f32⟩ : BufTy).Contents (Elt F)),
    unary main_v23 main_v27 (broadcastInDim S8x96x1x56x114 ![0, 1, 3, 4] bcast_S8x96x56x114_S8x96x1x56x114_0_1_3_4 : (⟨S8x96x56x114, .f32⟩ : BufTy).Contents (Elt F) → (⟨S8x96x1x56x114, .f32⟩ : BufTy).Contents (Elt F)),
    unary main_v24 main_v28 (broadcastInDim S8x96x1x56x114 ![0, 1, 3, 4] bcast_S8x96x56x114_S8x96x1x56x114_0_1_3_4 : (⟨S8x96x56x114, .f32⟩ : BufTy).Contents (Elt F) → (⟨S8x96x1x56x114, .f32⟩ : BufTy).Contents (Elt F)),
    unary main_v25 main_v29 (broadcastInDim S8x96x1x56x114 ![0, 1, 3, 4] bcast_S8x96x56x114_S8x96x1x56x114_0_1_3_4 : (⟨S8x96x56x114, .f32⟩ : BufTy).Contents (Elt F) → (⟨S8x96x1x56x114, .f32⟩ : BufTy).Contents (Elt F)),
    unary main_v26 main_v30 (broadcastInDim S8x96x1x56x114 ![0, 1, 3, 4] bcast_S8x96x56x114_S8x96x1x56x114_0_1_3_4 : (⟨S8x96x56x114, .f32⟩ : BufTy).Contents (Elt F) → (⟨S8x96x1x56x114, .f32⟩ : BufTy).Contents (Elt F)),
    nary ![main_v27, main_v28, main_v29, main_v30] main_v31 (fun u => (concatenate S8x96x4x56x114 2 [⟨S8x96x1x56x114, (u 0 : (⟨S8x96x1x56x114, .f32⟩ : BufTy).Contents (Elt F))⟩, ⟨S8x96x1x56x114, (u 1 : (⟨S8x96x1x56x114, .f32⟩ : BufTy).Contents (Elt F))⟩, ⟨S8x96x1x56x114, (u 2 : (⟨S8x96x1x56x114, .f32⟩ : BufTy).Contents (Elt F))⟩, ⟨S8x96x1x56x114, (u 3 : (⟨S8x96x1x56x114, .f32⟩ : BufTy).Contents (Elt F))⟩] concatenates_S8x96x1x56x114_S8x96x1x56x114_S8x96x1x56x114_S8x96x1x56x114_S8x96x4x56x114_d2 : (⟨S8x96x4x56x114, .f32⟩ : BufTy).Contents (Elt F))),
    unary main_v31 main_v32 ((Host.slice S8x96x4x56x56 ![0, 0, 0, 0, 0] ![1, 1, 1, 1, 2] · slicesBy_S8x96x4x56x114_S8x96x4x56x56_0s1_0s1_0s1_0s1_0s2) : (⟨S8x96x4x56x114, .f32⟩ : BufTy).Contents (Elt F) → (⟨S8x96x4x56x56, .f32⟩ : BufTy).Contents (Elt F)),
    unary main_v31 main_v33 ((Host.slice S8x96x4x56x56 ![0, 0, 0, 0, 1] ![1, 1, 1, 1, 2] · slicesBy_S8x96x4x56x114_S8x96x4x56x56_0s1_0s1_0s1_0s1_1s2) : (⟨S8x96x4x56x114, .f32⟩ : BufTy).Contents (Elt F) → (⟨S8x96x4x56x56, .f32⟩ : BufTy).Contents (Elt F)),
    unary main_v31 main_v34 ((Host.slice S8x96x4x56x56 ![0, 0, 0, 0, 2] ![1, 1, 1, 1, 2] · slicesBy_S8x96x4x56x114_S8x96x4x56x56_0s1_0s1_0s1_0s1_2s2) : (⟨S8x96x4x56x114, .f32⟩ : BufTy).Contents (Elt F) → (⟨S8x96x4x56x56, .f32⟩ : BufTy).Contents (Elt F)),
    unary main_v31 main_v35 ((Host.slice S8x96x4x56x56 ![0, 0, 0, 0, 3] ![1, 1, 1, 1, 2] · slicesBy_S8x96x4x56x114_S8x96x4x56x56_0s1_0s1_0s1_0s1_3s2) : (⟨S8x96x4x56x114, .f32⟩ : BufTy).Contents (Elt F) → (⟨S8x96x4x56x56, .f32⟩ : BufTy).Contents (Elt F)),
    unary main_v32 main_v36 (broadcastInDim S8x96x4x1x56x56 ![0, 1, 2, 4, 5] bcast_S8x96x4x56x56_S8x96x4x1x56x56_0_1_2_4_5 : (⟨S8x96x4x56x56, .f32⟩ : BufTy).Contents (Elt F) → (⟨S8x96x4x1x56x56, .f32⟩ : BufTy).Contents (Elt F)),
    unary main_v33 main_v37 (broadcastInDim S8x96x4x1x56x56 ![0, 1, 2, 4, 5] bcast_S8x96x4x56x56_S8x96x4x1x56x56_0_1_2_4_5 : (⟨S8x96x4x56x56, .f32⟩ : BufTy).Contents (Elt F) → (⟨S8x96x4x1x56x56, .f32⟩ : BufTy).Contents (Elt F)),
    unary main_v34 main_v38 (broadcastInDim S8x96x4x1x56x56 ![0, 1, 2, 4, 5] bcast_S8x96x4x56x56_S8x96x4x1x56x56_0_1_2_4_5 : (⟨S8x96x4x56x56, .f32⟩ : BufTy).Contents (Elt F) → (⟨S8x96x4x1x56x56, .f32⟩ : BufTy).Contents (Elt F)),
    unary main_v35 main_v39 (broadcastInDim S8x96x4x1x56x56 ![0, 1, 2, 4, 5] bcast_S8x96x4x56x56_S8x96x4x1x56x56_0_1_2_4_5 : (⟨S8x96x4x56x56, .f32⟩ : BufTy).Contents (Elt F) → (⟨S8x96x4x1x56x56, .f32⟩ : BufTy).Contents (Elt F)),
    nary ![main_v36, main_v37, main_v38, main_v39] main_v40 (fun u => (concatenate S8x96x4x4x56x56 3 [⟨S8x96x4x1x56x56, (u 0 : (⟨S8x96x4x1x56x56, .f32⟩ : BufTy).Contents (Elt F))⟩, ⟨S8x96x4x1x56x56, (u 1 : (⟨S8x96x4x1x56x56, .f32⟩ : BufTy).Contents (Elt F))⟩, ⟨S8x96x4x1x56x56, (u 2 : (⟨S8x96x4x1x56x56, .f32⟩ : BufTy).Contents (Elt F))⟩, ⟨S8x96x4x1x56x56, (u 3 : (⟨S8x96x4x1x56x56, .f32⟩ : BufTy).Contents (Elt F))⟩] concatenates_S8x96x4x1x56x56_S8x96x4x1x56x56_S8x96x4x1x56x56_S8x96x4x1x56x56_S8x96x4x4x56x56_d3 : (⟨S8x96x4x4x56x56, .f32⟩ : BufTy).Contents (Elt F))),
    binary main_arg2 main_v40 main_v41 ((fun l r => Host.dotGeneral dot_S192x96x4x4_S8x96x4x4x56x56_S192x8x56x56_132_132_0_045_n_n none l r) : (⟨S192x96x4x4, .f32⟩ : BufTy).Contents (Elt F) → (⟨S8x96x4x4x56x56, .f32⟩ : BufTy).Contents (Elt F) → (⟨S192x8x56x56, .f32⟩ : BufTy).Contents (Elt F)),
    unary main_v41 main_v42 ((transpose S8x192x56x56 [1, 0, 2, 3] · transposes_S192x8x56x56_S8x192x56x56_1_0_2_3) : (⟨S192x8x56x56, .f32⟩ : BufTy).Contents (Elt F) → (⟨S8x192x56x56, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8x192x56x56, .f32⟩) main_call3_v0) (broadcastInDim S8x192x56x56 ![] bcast_S_S8x192x56x56),
    TRef.binary (TRef.of (T := ⟨S8x192x56x56, .f32⟩) main_v42) (TRef.of (T := ⟨S8x192x56x56, .f32⟩) main_call3_v0) (TRef.of (T := ⟨S8x192x56x56, .f32⟩) main_v43) maximumf ]
/-- The buffers `opsE2` writes, in order. -/
abbrev opsE2_W : List (Ref sig .tc) := [main_c_0, main_call2_v0, main_v22, main_v23, main_v24, main_v25, main_v26, main_v27, main_v28, main_v29, main_v30, main_v31, main_v32, main_v33, main_v34, main_v35, main_v36, main_v37, main_v38, main_v39, main_v40, main_v41, main_v42, main_call3_cst, main_call3_v0, main_v43]
theorem opsE2_writes : (opsE2 : List (HloOp τ sig (Elt F))).Forall fun op => op.writes ⊆ (opsE2_W.map (Proc.devRef (τ := τ) .tc)).toFinset :=
  forall_writes_sub_of_map rfl
theorem opsE2_sub : (opsE2 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub .., binary_bufs_sub .., unary_bufs_sub .., nullary_bufs_sub .., unary_bufs_sub .., binary_bufs_sub ..⟩
theorem opsE2_fresh : (opsE2 : List (HloOp τ sig (Elt F))).Forall fun op => op.fresh = ∅ := by
  simp only [List.Forall]; repeat' constructor

/-- The third convolution, first part. -/
abbrev opsE3a : List (HloOp τ sig (Elt F)) :=
  [ nullary main_c_1 (constantI S_ 32 0#32),
    TRef.unary (TRef.of (T := ⟨S_, .i32⟩) main_c_1) (TRef.of (T := ⟨S_, .f32⟩) main_call4_v0) (sitofp .f32),
    TRef.binary (TRef.of (T := ⟨S8x192x56x56, .f32⟩) main_v43) (TRef.of (T := ⟨S_, .f32⟩) main_call4_v0) (TRef.of (T := ⟨S8x192x58x58, .f32⟩) main_v44) (fun x v => pad S8x192x58x58 ![0, 0, 1, 1] ![0, 0, 1, 1] ![0, 0, 0, 0] x v pads_S8x192x56x56_S8x192x58x58_000_000_110_110 h_S_),
    unary main_v44 main_v45 ((Host.slice S8x192x28x58 ![0, 0, 0, 0] ![1, 1, 2, 1] · slicesBy_S8x192x58x58_S8x192x28x58_0s1_0s1_0s2_0s1) : (⟨S8x192x58x58, .f32⟩ : BufTy).Contents (Elt F) → (⟨S8x192x28x58, .f32⟩ : BufTy).Contents (Elt F)),
    unary main_v44 main_v46 ((Host.slice S8x192x28x58 ![0, 0, 1, 0] ![1, 1, 2, 1] · slicesBy_S8x192x58x58_S8x192x28x58_0s1_0s1_1s2_0s1) : (⟨S8x192x58x58, .f32⟩ : BufTy).Contents (Elt F) → (⟨S8x192x28x58, .f32⟩ : BufTy).Contents (Elt F)),
    unary main_v44 main_v47 ((Host.slice S8x192x28x58 ![0, 0, 2, 0] ![1, 1, 2, 1] · slicesBy_S8x192x58x58_S8x192x28x58_0s1_0s1_2s2_0s1) : (⟨S8x192x58x58, .f32⟩ : BufTy).Contents (Elt F) → (⟨S8x192x28x58, .f32⟩ : BufTy).Contents (Elt F)),
    unary main_v44 main_v48 ((Host.slice S8x192x28x58 ![0, 0, 3, 0] ![1, 1, 2, 1] · slicesBy_S8x192x58x58_S8x192x28x58_0s1_0s1_3s2_0s1) : (⟨S8x192x58x58, .f32⟩ : BufTy).Contents (Elt F) → (⟨S8x192x28x58, .f32⟩ : BufTy).Contents (Elt F)),
    unary main_v45 main_v49 (broadcastInDim S8x192x1x28x58 ![0, 1, 3, 4] bcast_S8x192x28x58_S8x192x1x28x58_0_1_3_4 : (⟨S8x192x28x58, .f32⟩ : BufTy).Contents (Elt F) → (⟨S8x192x1x28x58, .f32⟩ : BufTy).Contents (Elt F)),
    unary main_v46 main_v50 (broadcastInDim S8x192x1x28x58 ![0, 1, 3, 4] bcast_S8x192x28x58_S8x192x1x28x58_0_1_3_4 : (⟨S8x192x28x58, .f32⟩ : BufTy).Contents (Elt F) → (⟨S8x192x1x28x58, .f32⟩ : BufTy).Contents (Elt F)),
    unary main_v47 main_v51 (broadcastInDim S8x192x1x28x58 ![0, 1, 3, 4] bcast_S8x192x28x58_S8x192x1x28x58_0_1_3_4 : (⟨S8x192x28x58, .f32⟩ : BufTy).Contents (Elt F) → (⟨S8x192x1x28x58, .f32⟩ : BufTy).Contents (Elt F)),
    unary main_v48 main_v52 (broadcastInDim S8x192x1x28x58 ![0, 1, 3, 4] bcast_S8x192x28x58_S8x192x1x28x58_0_1_3_4 : (⟨S8x192x28x58, .f32⟩ : BufTy).Contents (Elt F) → (⟨S8x192x1x28x58, .f32⟩ : BufTy).Contents (Elt F)),
    nary ![main_v49, main_v50, main_v51, main_v52] main_v53 (fun u => (concatenate S8x192x4x28x58 2 [⟨S8x192x1x28x58, (u 0 : (⟨S8x192x1x28x58, .f32⟩ : BufTy).Contents (Elt F))⟩, ⟨S8x192x1x28x58, (u 1 : (⟨S8x192x1x28x58, .f32⟩ : BufTy).Contents (Elt F))⟩, ⟨S8x192x1x28x58, (u 2 : (⟨S8x192x1x28x58, .f32⟩ : BufTy).Contents (Elt F))⟩, ⟨S8x192x1x28x58, (u 3 : (⟨S8x192x1x28x58, .f32⟩ : BufTy).Contents (Elt F))⟩] concatenates_S8x192x1x28x58_S8x192x1x28x58_S8x192x1x28x58_S8x192x1x28x58_S8x192x4x28x58_d2 : (⟨S8x192x4x28x58, .f32⟩ : BufTy).Contents (Elt F))),
    unary main_v53 main_v54 ((Host.slice S8x192x4x28x28 ![0, 0, 0, 0, 0] ![1, 1, 1, 1, 2] · slicesBy_S8x192x4x28x58_S8x192x4x28x28_0s1_0s1_0s1_0s1_0s2) : (⟨S8x192x4x28x58, .f32⟩ : BufTy).Contents (Elt F) → (⟨S8x192x4x28x28, .f32⟩ : BufTy).Contents (Elt F)),
    unary main_v53 main_v55 ((Host.slice S8x192x4x28x28 ![0, 0, 0, 0, 1] ![1, 1, 1, 1, 2] · slicesBy_S8x192x4x28x58_S8x192x4x28x28_0s1_0s1_0s1_0s1_1s2) : (⟨S8x192x4x28x58, .f32⟩ : BufTy).Contents (Elt F) → (⟨S8x192x4x28x28, .f32⟩ : BufTy).Contents (Elt F)),
    unary main_v53 main_v56 ((Host.slice S8x192x4x28x28 ![0, 0, 0, 0, 2] ![1, 1, 1, 1, 2] · slicesBy_S8x192x4x28x58_S8x192x4x28x28_0s1_0s1_0s1_0s1_2s2) : (⟨S8x192x4x28x58, .f32⟩ : BufTy).Contents (Elt F) → (⟨S8x192x4x28x28, .f32⟩ : BufTy).Contents (Elt F)) ]
/-- The buffers `opsE3a` writes, in order. -/
abbrev opsE3a_W : List (Ref sig .tc) := [main_c_1, main_call4_v0, main_v44, main_v45, main_v46, main_v47, main_v48, main_v49, main_v50, main_v51, main_v52, main_v53, main_v54, main_v55, main_v56]
theorem opsE3a_writes : (opsE3a : List (HloOp τ sig (Elt F))).Forall fun op => op.writes ⊆ (opsE3a_W.map (Proc.devRef (τ := τ) .tc)).toFinset :=
  forall_writes_sub_of_map rfl
theorem opsE3a_sub : (opsE3a : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub ..⟩
theorem opsE3a_fresh : (opsE3a : List (HloOp τ sig (Elt F))).Forall fun op => op.fresh = ∅ := by
  simp only [List.Forall]; repeat' constructor

/-- The third convolution, second part. -/
abbrev opsE3b : List (HloOp τ sig (Elt F)) :=
  [ unary main_v53 main_v57 ((Host.slice S8x192x4x28x28 ![0, 0, 0, 0, 3] ![1, 1, 1, 1, 2] · slicesBy_S8x192x4x28x58_S8x192x4x28x28_0s1_0s1_0s1_0s1_3s2) : (⟨S8x192x4x28x58, .f32⟩ : BufTy).Contents (Elt F) → (⟨S8x192x4x28x28, .f32⟩ : BufTy).Contents (Elt F)),
    unary main_v54 main_v58 (broadcastInDim S8x192x4x1x28x28 ![0, 1, 2, 4, 5] bcast_S8x192x4x28x28_S8x192x4x1x28x28_0_1_2_4_5 : (⟨S8x192x4x28x28, .f32⟩ : BufTy).Contents (Elt F) → (⟨S8x192x4x1x28x28, .f32⟩ : BufTy).Contents (Elt F)),
    unary main_v55 main_v59 (broadcastInDim S8x192x4x1x28x28 ![0, 1, 2, 4, 5] bcast_S8x192x4x28x28_S8x192x4x1x28x28_0_1_2_4_5 : (⟨S8x192x4x28x28, .f32⟩ : BufTy).Contents (Elt F) → (⟨S8x192x4x1x28x28, .f32⟩ : BufTy).Contents (Elt F)),
    unary main_v56 main_v60 (broadcastInDim S8x192x4x1x28x28 ![0, 1, 2, 4, 5] bcast_S8x192x4x28x28_S8x192x4x1x28x28_0_1_2_4_5 : (⟨S8x192x4x28x28, .f32⟩ : BufTy).Contents (Elt F) → (⟨S8x192x4x1x28x28, .f32⟩ : BufTy).Contents (Elt F)),
    unary main_v57 main_v61 (broadcastInDim S8x192x4x1x28x28 ![0, 1, 2, 4, 5] bcast_S8x192x4x28x28_S8x192x4x1x28x28_0_1_2_4_5 : (⟨S8x192x4x28x28, .f32⟩ : BufTy).Contents (Elt F) → (⟨S8x192x4x1x28x28, .f32⟩ : BufTy).Contents (Elt F)),
    nary ![main_v58, main_v59, main_v60, main_v61] main_v62 (fun u => (concatenate S8x192x4x4x28x28 3 [⟨S8x192x4x1x28x28, (u 0 : (⟨S8x192x4x1x28x28, .f32⟩ : BufTy).Contents (Elt F))⟩, ⟨S8x192x4x1x28x28, (u 1 : (⟨S8x192x4x1x28x28, .f32⟩ : BufTy).Contents (Elt F))⟩, ⟨S8x192x4x1x28x28, (u 2 : (⟨S8x192x4x1x28x28, .f32⟩ : BufTy).Contents (Elt F))⟩, ⟨S8x192x4x1x28x28, (u 3 : (⟨S8x192x4x1x28x28, .f32⟩ : BufTy).Contents (Elt F))⟩] concatenates_S8x192x4x1x28x28_S8x192x4x1x28x28_S8x192x4x1x28x28_S8x192x4x1x28x28_S8x192x4x4x28x28_d3 : (⟨S8x192x4x4x28x28, .f32⟩ : BufTy).Contents (Elt F))),
    binary main_arg3 main_v62 main_v63 ((fun l r => Host.dotGeneral dot_S64x192x4x4_S8x192x4x4x28x28_S64x8x28x28_132_132_0_045_n_n none l r) : (⟨S64x192x4x4, .f32⟩ : BufTy).Contents (Elt F) → (⟨S8x192x4x4x28x28, .f32⟩ : BufTy).Contents (Elt F) → (⟨S64x8x28x28, .f32⟩ : BufTy).Contents (Elt F)),
    unary main_v63 main_v64 ((transpose S8x64x28x28 [1, 0, 2, 3] · transposes_S64x8x28x28_S8x64x28x28_1_0_2_3) : (⟨S64x8x28x28, .f32⟩ : BufTy).Contents (Elt F) → (⟨S8x64x28x28, .f32⟩ : BufTy).Contents (Elt F)) ]
/-- The buffers `opsE3b` writes, in order. -/
abbrev opsE3b_W : List (Ref sig .tc) := [main_v57, main_v58, main_v59, main_v60, main_v61, main_v62, main_v63, main_v64]
theorem opsE3b_writes : (opsE3b : List (HloOp τ sig (Elt F))).Forall fun op => op.writes ⊆ (opsE3b_W.map (Proc.devRef (τ := τ) .tc)).toFinset :=
  forall_writes_sub_of_map rfl
theorem opsE3b_sub : (opsE3b : List (HloOp τ sig (Elt F))).Forall fun op => op.bufs ⊆ tcRefs τ sig :=
  ⟨unary_bufs_sub .., unary_bufs_sub .., unary_bufs_sub .., unary_bufs_sub .., unary_bufs_sub .., nary_bufs_sub .., binary_bufs_sub .., unary_bufs_sub ..⟩
theorem opsE3b_fresh : (opsE3b : List (HloOp τ sig (Elt F))).Forall fun op => op.fresh = ∅ := by
  simp only [List.Forall]; repeat' constructor

/-- The vector quantization, the losses and the straight-through sum. -/
abbrev opsQ : List (HloOp τ sig (Elt F)) :=
  [ unary main_v64 main_v65 ((transpose S8x28x28x64 [0, 2, 3, 1] · transposes_S8x64x28x28_S8x28x28x64_0_2_3_1) : (⟨S8x64x28x28, .f32⟩ : BufTy).Contents (Elt F) → (⟨S8x28x28x64, .f32⟩ : BufTy).Contents (Elt F)),
    reshape main_v65 main_v66 (rfl : (.f32 : EltTy) = .f32) shapeCasts_S8x28x28x64_S6272x64,
    binary main_v66 main_v66 main_v67 (mulf : (⟨S6272x64, .f32⟩ : BufTy).Contents (Elt F) → (⟨S6272x64, .f32⟩ : BufTy).Contents (Elt F) → (⟨S6272x64, .f32⟩ : BufTy).Contents (Elt F)),
    nullary main_cst (constant S_ .f32 0x00000000#32),
    binary main_v67 main_cst main_v68 ((fun x v => Host.reduceAdd x v reducesTo_S6272x64_S6272_d1 h_S_) : (⟨S6272x64, .f32⟩ : BufTy).Contents (Elt F) → (⟨S_, .f32⟩ : BufTy).Contents (Elt F) → (⟨S6272, .f32⟩ : BufTy).Contents (Elt F)),
    unary main_v68 main_v69 (broadcastInDim S6272x1 ![0] bcast_S6272_S6272x1_0 : (⟨S6272, .f32⟩ : BufTy).Contents (Elt F) → (⟨S6272x1, .f32⟩ : BufTy).Contents (Elt F)),
    nullary main_cst_2 (constant S_ .f32 0x40000000#32),
    unary main_cst_2 main_v70 (broadcastInDim S6272x64 ![] bcast_S_S6272x64 : (⟨S_, .f32⟩ : BufTy).Contents (Elt F) → (⟨S6272x64, .f32⟩ : BufTy).Contents (Elt F)),
    binary main_v70 main_v66 main_v71 (mulf : (⟨S6272x64, .f32⟩ : BufTy).Contents (Elt F) → (⟨S6272x64, .f32⟩ : BufTy).Contents (Elt F) → (⟨S6272x64, .f32⟩ : BufTy).Contents (Elt F)),
    unary main_arg7 main_v72 ((transpose S64x1024 [1, 0] · transposes_S1024x64_S64x1024_1_0) : (⟨S1024x64, .f32⟩ : BufTy).Contents (Elt F) → (⟨S64x1024, .f32⟩ : BufTy).Contents (Elt F)),
    binary main_v71 main_v72 main_v73 ((fun l r => Host.dotGeneral dot_S6272x64_S64x1024_S6272x1024_1_0_0_1_n_n none l r) : (⟨S6272x64, .f32⟩ : BufTy).Contents (Elt F) → (⟨S64x1024, .f32⟩ : BufTy).Contents (Elt F) → (⟨S6272x1024, .f32⟩ : BufTy).Contents (Elt F)),
    unary main_v69 main_v74 (broadcastInDim S6272x1024 ![0, 1] bcast_S6272x1_S6272x1024_0_1 : (⟨S6272x1, .f32⟩ : BufTy).Contents (Elt F) → (⟨S6272x1024, .f32⟩ : BufTy).Contents (Elt F)),
    binary main_v74 main_v73 main_v75 (subf : (⟨S6272x1024, .f32⟩ : BufTy).Contents (Elt F) → (⟨S6272x1024, .f32⟩ : BufTy).Contents (Elt F) → (⟨S6272x1024, .f32⟩ : BufTy).Contents (Elt F)),
    binary main_arg7 main_arg7 main_v76 (mulf : (⟨S1024x64, .f32⟩ : BufTy).Contents (Elt F) → (⟨S1024x64, .f32⟩ : BufTy).Contents (Elt F) → (⟨S1024x64, .f32⟩ : BufTy).Contents (Elt F)),
    nullary main_cst_3 (constant S_ .f32 0x00000000#32),
    binary main_v76 main_cst_3 main_v77 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v77 main_v78 (broadcastInDim S1x1024 ![1] bcast_S1024_S1x1024_1 : (⟨S1024, .f32⟩ : BufTy).Contents (Elt F) → (⟨S1x1024, .f32⟩ : BufTy).Contents (Elt F)),
    unary main_v78 main_v79 (broadcastInDim S6272x1024 ![0, 1] bcast_S1x1024_S6272x1024_0_1 : (⟨S1x1024, .f32⟩ : BufTy).Contents (Elt F) → (⟨S6272x1024, .f32⟩ : BufTy).Contents (Elt F)),
    binary main_v75 main_v79 main_v80 (addf : (⟨S6272x1024, .f32⟩ : BufTy).Contents (Elt F) → (⟨S6272x1024, .f32⟩ : BufTy).Contents (Elt F) → (⟨S6272x1024, .f32⟩ : BufTy).Contents (Elt F)),
    TRef.nullary (TRef.of (T := ⟨S6272x1024, .i32⟩) main_call5_v0) (iotaInDim S6272x1024 32 1),
    TRef.nullary (TRef.of (T := ⟨S_, .f32⟩) main_call5_cst) (constant S_ .f32 0x7F800000#32),
    TRef.nullary (TRef.of (T := ⟨S_, .i32⟩) main_call5_c) (constantI S_ 32 0#32),
    TRef.quaternary (TRef.of (T := ⟨S6272x1024, .f32⟩) main_v80) (TRef.of (T := ⟨S6272x1024, .i32⟩) main_call5_v0) (TRef.of (T := ⟨S_, .f32⟩) main_call5_cst) (TRef.of (T := ⟨S_, .i32⟩) main_call5_c) (TRef.of (T := ⟨S6272, .f32⟩) main_call5_v1_0) (fun x y u v => fun j => (Host.argReduce reducer_argmin_f32_i32 x y u v reducesTo_S6272x1024_S6272_d1 h_S_ j).1),
    TRef.quaternary (TRef.of (T := ⟨S6272x1024, .f32⟩) main_v80) (TRef.of (T := ⟨S6272x1024, .i32⟩) main_call5_v0) (TRef.of (T := ⟨S_, .f32⟩) main_call5_cst) (TRef.of (T := ⟨S_, .i32⟩) main_call5_c) (TRef.of (T := ⟨S6272, .i32⟩) main_v81) (fun x y u v => fun j => (Host.argReduce reducer_argmin_f32_i32 x y u v reducesTo_S6272x1024_S6272_d1 h_S_ j).2),
    TRef.nullary (TRef.of (T := ⟨S_, .i32⟩) main_call6_c) (constantI S_ 32 0#32),
    TRef.unary (TRef.of (T := ⟨S_, .i32⟩) main_call6_c) (TRef.of (T := ⟨S6272, .i32⟩) main_call6_v0) (broadcastInDim S6272 ![] bcast_S_S6272),
    TRef.binary (TRef.of (T := ⟨S6272, .i32⟩) main_v81) (TRef.of (T := ⟨S6272, .i32⟩) main_call6_v0) (TRef.of (T := ⟨S6272, .i1⟩) main_call6_v1) (cmpi .slt),
    TRef.nullary (TRef.of (T := ⟨S_, .i32⟩) main_call6_c_0) (constantI S_ 32 1024#32),
    TRef.unary (TRef.of (T := ⟨S_, .i32⟩) main_call6_c_0) (TRef.of (T := ⟨S6272, .i32⟩) main_call6_v2) (broadcastInDim S6272 ![] bcast_S_S6272),
    TRef.binary (TRef.of (T := ⟨S6272, .i32⟩) main_v81) (TRef.of (T := ⟨S6272, .i32⟩) main_call6_v2) (TRef.of (T := ⟨S6272, .i32⟩) main_call6_v3) addi,
    TRef.ternary (TRef.of (T := ⟨S6272, .i1⟩) main_call6_v1) (TRef.of (T := ⟨S6272, .i32⟩) main_call6_v3) (TRef.of (T := ⟨S6272, .i32⟩) main_v81) (TRef.of (T := ⟨S6272, .i32⟩) main_call6_v4) select,
    TRef.unary (TRef.of (T := ⟨S6272, .i32⟩) main_call6_v4) (TRef.of (T := ⟨S6272x1, .i32⟩) main_call6_v5) (broadcastInDim S6272x1 ![0] bcast_S6272_S6272x1_0),
    TRef.nullary (TRef.of (T := ⟨S1, .i32⟩) main_call6_c_1) (constantI S1 32 1023#32),
    TRef.nullary (TRef.of (T := ⟨S_, .i32⟩) main_call6_c_2) (constantI S_ 32 0#32),
    TRef.unary (TRef.of (T := ⟨S_, .i32⟩) main_call6_c_2) (TRef.of (T := ⟨S6272x1, .i32⟩) main_call6_v6) (broadcastInDim S6272x1 ![] bcast_S_S6272x1),
    TRef.binary (TRef.of (T := ⟨S6272x1, .i32⟩) main_call6_v5) (TRef.of (T := ⟨S6272x1, .i32⟩) main_call6_v6) (TRef.of (T := ⟨S6272x1, .i1⟩) main_call6_v7) (cmpi .sge),
    TRef.unary (TRef.of (T := ⟨S1, .i32⟩) main_call6_c_1) (TRef.of (T := ⟨S1x1, .i32⟩) main_call6_v8) (broadcastInDim S1x1 ![1] bcast_S1_S1x1_1),
    TRef.unary (TRef.of (T := ⟨S1x1, .i32⟩) main_call6_v8) (TRef.of (T := ⟨S6272x1, .i32⟩) main_call6_v9) (broadcastInDim S6272x1 ![0, 1] bcast_S1x1_S6272x1_0_1),
    TRef.binary (TRef.of (T := ⟨S6272x1, .i32⟩) main_call6_v5) (TRef.of (T := ⟨S6272x1, .i32⟩) main_call6_v9) (TRef.of (T := ⟨S6272x1, .i1⟩) main_call6_v10) (cmpi .sle),
    TRef.binary (TRef.of (T := ⟨S6272x1, .i1⟩) main_call6_v7) (TRef.of (T := ⟨S6272x1, .i1⟩) main_call6_v10) (TRef.of (T := ⟨S6272x1, .i1⟩) main_call6_v11) andi,
    TRef.nullary (TRef.of (T := ⟨S_, .i1⟩) main_call6_c_3) (constantI S_ 1 1#1),
    TRef.binary (TRef.of (T := ⟨S6272x1, .i1⟩) main_call6_v11) (TRef.of (T := ⟨S_, .i1⟩) main_call6_c_3) (TRef.of (T := ⟨S6272, .i1⟩) main_call6_v12) (fun x v => Host.reduce IntOp.andi x v reducesTo_S6272x1_S6272_d1 h_S_),
    TRef.binary (TRef.of (T := ⟨S1024x64, .f32⟩) main_arg7) (TRef.of (T := ⟨S6272x1, .i32⟩) main_call6_v5) (TRef.of (T := ⟨S6272x64, .f32⟩) main_call6_v13) (fun x i => Host.gather gather_S1024x64_S6272x1_S6272x64_1_0_n_n_0_1_164 x i),
    TRef.unary (TRef.of (T := ⟨S6272, .i1⟩) main_call6_v12) (TRef.of (T := ⟨S6272x64, .i1⟩) main_call6_v14) (broadcastInDim S6272x64 ![0] bcast_S6272_S6272x64_0),
    TRef.nullary (TRef.of (T := ⟨S_, .f32⟩) main_call6_cst) (constant S_ .f32 0x7FC00000#32),
    TRef.unary (TRef.of (T := ⟨S_, .f32⟩) main_call6_cst) (TRef.of (T := ⟨S6272x64, .f32⟩) main_call6_v15) (broadcastInDim S6272x64 ![] bcast_S_S6272x64),
    TRef.ternary (TRef.of (T := ⟨S6272x64, .i1⟩) main_call6_v14) (TRef.of (T := ⟨S6272x64, .f32⟩) main_call6_v13) (TRef.of (T := ⟨S6272x64, .f32⟩) main_call6_v15) (TRef.of (T := ⟨S6272x64, .f32⟩) main_v82) select,
    reshape main_v82 main_v83 (rfl : (.f32 : EltTy) = .f32) shapeCasts_S6272x64_S8x28x28x64,
    unary main_v83 main_v84 ((transpose S8x64x28x28 [0, 3, 1, 2] · transposes_S8x28x28x64_S8x64x28x28_0_3_1_2) : (⟨S8x28x28x64, .f32⟩ : BufTy).Contents (Elt F) → (⟨S8x64x28x28, .f32⟩ : BufTy).Contents (Elt F)),
    binary main_v84 main_v64 main_v85 (subf : (⟨S8x64x28x28, .f32⟩ : BufTy).Contents (Elt F) → (⟨S8x64x28x28, .f32⟩ : BufTy).Contents (Elt F) → (⟨S8x64x28x28, .f32⟩ : BufTy).Contents (Elt F)),
    binary main_v85 main_v85 main_v86 (mulf : (⟨S8x64x28x28, .f32⟩ : BufTy).Contents (Elt F) → (⟨S8x64x28x28, .f32⟩ : BufTy).Contents (Elt F) → (⟨S8x64x28x28, .f32⟩ : BufTy).Contents (Elt F)),
    nullary main_cst_4 (constant S_ .f32 0x00000000#32),
    binary main_v86 main_cst_4 main_v87 ((fun x v => Host.reduceAdd x v reducesTo_S8x64x28x28_S_d0_1_2_3 h_S_) : (⟨S8x64x28x28, .f32⟩ : BufTy).Contents (Elt F) → (⟨S_, .f32⟩ : BufTy).Contents (Elt F) → (⟨S_, .f32⟩ : BufTy).Contents (Elt F)),
    nullary main_cst_5 (constant S_ .f32 0x48C40000#32),
    binary main_v87 main_cst_5 main_v88 (Host.divf : (⟨S_, .f32⟩ : BufTy).Contents (Elt F) → (⟨S_, .f32⟩ : BufTy).Contents (Elt F) → (⟨S_, .f32⟩ : BufTy).Contents (Elt F)),
    binary main_v84 main_v64 main_v89 (subf : (⟨S8x64x28x28, .f32⟩ : BufTy).Contents (Elt F) → (⟨S8x64x28x28, .f32⟩ : BufTy).Contents (Elt F) → (⟨S8x64x28x28, .f32⟩ : BufTy).Contents (Elt F)),
    binary main_v89 main_v89 main_v90 (mulf : (⟨S8x64x28x28, .f32⟩ : BufTy).Contents (Elt F) → (⟨S8x64x28x28, .f32⟩ : BufTy).Contents (Elt F) → (⟨S8x64x28x28, .f32⟩ : BufTy).Contents (Elt F)),
    nullary main_cst_6 (constant S_ .f32 0x00000000#32),
    binary main_v90 main_cst_6 main_v91 ((fun x v => Host.reduceAdd x v reducesTo_S8x64x28x28_S_d0_1_2_3 h_S_) : (⟨S8x64x28x28, .f32⟩ : BufTy).Contents (Elt F) → (⟨S_, .f32⟩ : BufTy).Contents (Elt F) → (⟨S_, .f32⟩ : BufTy).Contents (Elt F)),
    nullary main_cst_7 (constant S_ .f32 0x48C40000#32),
    binary main_v91 main_cst_7 main_v92 (Host.divf : (⟨S_, .f32⟩ : BufTy).Contents (Elt F) → (⟨S_, .f32⟩ : BufTy).Contents (Elt F) → (⟨S_, .f32⟩ : BufTy).Contents (Elt F)),
    nullary main_cst_8 (constant S_ .f32 0x3E800000#32),
    binary main_cst_8 main_v92 main_v93 (mulf : (⟨S_, .f32⟩ : BufTy).Contents (Elt F) → (⟨S_, .f32⟩ : BufTy).Contents (Elt F) → (⟨S_, .f32⟩ : BufTy).Contents (Elt F)),
    binary main_v88 main_v93 main_v94 (addf : (⟨S_, .f32⟩ : BufTy).Contents (Elt F) → (⟨S_, .f32⟩ : BufTy).Contents (Elt F) → (⟨S_, .f32⟩ : BufTy).Contents (Elt F)),
    binary main_v84 main_v64 main_v95 (subf : (⟨S8x64x28x28, .f32⟩ : BufTy).Contents (Elt F) → (⟨S8x64x28x28, .f32⟩ : BufTy).Contents (Elt F) → (⟨S8x64x28x28, .f32⟩ : BufTy).Contents (Elt F)),
    binary main_v64 main_v95 main_v96 (addf : (⟨S8x64x28x28, .f32⟩ : BufTy).Contents (Elt F) → (⟨S8x64x28x28, .f32⟩ : BufTy).Contents (Elt F) → (⟨S8x64x28x28, .f32⟩ : BufTy).Contents (Elt F)) ]
/-- The buffers `opsQ` writes, in order. -/
abbrev opsQ_W : List (Ref sig .tc) := [main_v65, main_v66, main_v67, main_cst, main_v68, main_v69, main_cst_2, main_v70, main_v71, main_v72, main_v73, main_v74, main_v75, main_v76, main_cst_3, main_v77, main_v78, main_v79, main_v80, main_call5_v0, main_call5_cst, main_call5_c, main_call5_v1_0, main_v81, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v82, main_v83, main_v84, main_v85, main_v86, main_cst_4, main_v87, main_cst_5, main_v88, main_v89, main_v90, main_cst_6, main_v91, main_cst_7, main_v92, main_cst_8, main_v93, main_v94, main_v95, main_v96]
theorem opsQ_writes : (opsQ : List (HloOp τ sig (Elt F))).Forall fun op => op.writes ⊆ (opsQ_W.map (Proc.devRef (τ := τ) .tc)).toFinset :=
  forall_writes_sub_of_map rfl
theorem opsQ_sub : (opsQ : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩
theorem opsQ_fresh : (opsQ : List (HloOp τ sig (Elt F))).Forall fun op => op.fresh = ∅ := by
  simp only [List.Forall]; repeat' constructor

/-- The first transposed convolution, first part. -/
abbrev opsD1a : List (HloOp τ sig (Elt F)) :=
  [ nullary main_cst_9 (constant S_ .f32 0x00000000#32),
    binary main_v96 main_cst_9 main_v97 ((fun x v => pad S8x64x59x59 ![0, 0, 2, 2] ![0, 0, 2, 2] ![0, 0, 1, 1] x v pads_S8x64x28x28_S8x64x59x59_000_000_221_221 h_S_) : (⟨S8x64x28x28, .f32⟩ : BufTy).Contents (Elt F) → (⟨S_, .f32⟩ : BufTy).Contents (Elt F) → (⟨S8x64x59x59, .f32⟩ : BufTy).Contents (Elt F)),
    unary main_v97 main_v98 ((extractStridedSlice S8x64x56x59 ![0, 0, 0, 0] · slices_S8x64x59x59_S8x64x56x59_0_0_0_0) : (⟨S8x64x59x59, .f32⟩ : BufTy).Contents (Elt F) → (⟨S8x64x56x59, .f32⟩ : BufTy).Contents (Elt F)),
    unary main_v97 main_v99 ((extractStridedSlice S8x64x56x59 ![0, 0, 1, 0] · slices_S8x64x59x59_S8x64x56x59_0_0_1_0) : (⟨S8x64x59x59, .f32⟩ : BufTy).Contents (Elt F) → (⟨S8x64x56x59, .f32⟩ : BufTy).Contents (Elt F)),
    unary main_v97 main_v100 ((extractStridedSlice S8x64x56x59 ![0, 0, 2, 0] · slices_S8x64x59x59_S8x64x56x59_0_0_2_0) : (⟨S8x64x59x59, .f32⟩ : BufTy).Contents (Elt F) → (⟨S8x64x56x59, .f32⟩ : BufTy).Contents (Elt F)),
    unary main_v97 main_v101 ((extractStridedSlice S8x64x56x59 ![0, 0, 3, 0] · slices_S8x64x59x59_S8x64x56x59_0_0_3_0) : (⟨S8x64x59x59, .f32⟩ : BufTy).Contents (Elt F) → (⟨S8x64x56x59, .f32⟩ : BufTy).Contents (Elt F)),
    unary main_v98 main_v102 (broadcastInDim S8x64x1x56x59 ![0, 1, 3, 4] bcast_S8x64x56x59_S8x64x1x56x59_0_1_3_4 : (⟨S8x64x56x59, .f32⟩ : BufTy).Contents (Elt F) → (⟨S8x64x1x56x59, .f32⟩ : BufTy).Contents (Elt F)),
    unary main_v99 main_v103 (broadcastInDim S8x64x1x56x59 ![0, 1, 3, 4] bcast_S8x64x56x59_S8x64x1x56x59_0_1_3_4 : (⟨S8x64x56x59, .f32⟩ : BufTy).Contents (Elt F) → (⟨S8x64x1x56x59, .f32⟩ : BufTy).Contents (Elt F)),
    unary main_v100 main_v104 (broadcastInDim S8x64x1x56x59 ![0, 1, 3, 4] bcast_S8x64x56x59_S8x64x1x56x59_0_1_3_4 : (⟨S8x64x56x59, .f32⟩ : BufTy).Contents (Elt F) → (⟨S8x64x1x56x59, .f32⟩ : BufTy).Contents (Elt F)),
    unary main_v101 main_v105 (broadcastInDim S8x64x1x56x59 ![0, 1, 3, 4] bcast_S8x64x56x59_S8x64x1x56x59_0_1_3_4 : (⟨S8x64x56x59, .f32⟩ : BufTy).Contents (Elt F) → (⟨S8x64x1x56x59, .f32⟩ : BufTy).Contents (Elt F)),
    nary ![main_v102, main_v103, main_v104, main_v105] main_v106 (fun u => (concatenate S8x64x4x56x59 2 [⟨S8x64x1x56x59, (u 0 : (⟨S8x64x1x56x59, .f32⟩ : BufTy).Contents (Elt F))⟩, ⟨S8x64x1x56x59, (u 1 : (⟨S8x64x1x56x59, .f32⟩ : BufTy).Contents (Elt F))⟩, ⟨S8x64x1x56x59, (u 2 : (⟨S8x64x1x56x59, .f32⟩ : BufTy).Contents (Elt F))⟩, ⟨S8x64x1x56x59, (u 3 : (⟨S8x64x1x56x59, .f32⟩ : BufTy).Contents (Elt F))⟩] concatenates_S8x64x1x56x59_S8x64x1x56x59_S8x64x1x56x59_S8x64x1x56x59_S8x64x4x56x59_d2 : (⟨S8x64x4x56x59, .f32⟩ : BufTy).Contents (Elt F))),
    unary main_v106 main_v107 ((extractStridedSlice S8x64x4x56x56 ![0, 0, 0, 0, 0] · slices_S8x64x4x56x59_S8x64x4x56x56_0_0_0_0_0) : (⟨S8x64x4x56x59, .f32⟩ : BufTy).Contents (Elt F) → (⟨S8x64x4x56x56, .f32⟩ : BufTy).Contents (Elt F)) ]
/-- The buffers `opsD1a` writes, in order. -/
abbrev opsD1a_W : List (Ref sig .tc) := [main_cst_9, main_v97, main_v98, main_v99, main_v100, main_v101, main_v102, main_v103, main_v104, main_v105, main_v106, main_v107]
theorem opsD1a_writes : (opsD1a : List (HloOp τ sig (Elt F))).Forall fun op => op.writes ⊆ (opsD1a_W.map (Proc.devRef (τ := τ) .tc)).toFinset :=
  forall_writes_sub_of_map rfl
theorem opsD1a_sub : (opsD1a : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub ..⟩
theorem opsD1a_fresh : (opsD1a : List (HloOp τ sig (Elt F))).Forall fun op => op.fresh = ∅ := by
  simp only [List.Forall]; repeat' constructor

/-- The first transposed convolution, second part, and its relu. -/
abbrev opsD1b : List (HloOp τ sig (Elt F)) :=
  [ unary main_v106 main_v108 ((extractStridedSlice S8x64x4x56x56 ![0, 0, 0, 0, 1] · slices_S8x64x4x56x59_S8x64x4x56x56_0_0_0_0_1) : (⟨S8x64x4x56x59, .f32⟩ : BufTy).Contents (Elt F) → (⟨S8x64x4x56x56, .f32⟩ : BufTy).Contents (Elt F)),
    unary main_v106 main_v109 ((extractStridedSlice S8x64x4x56x56 ![0, 0, 0, 0, 2] · slices_S8x64x4x56x59_S8x64x4x56x56_0_0_0_0_2) : (⟨S8x64x4x56x59, .f32⟩ : BufTy).Contents (Elt F) → (⟨S8x64x4x56x56, .f32⟩ : BufTy).Contents (Elt F)),
    unary main_v106 main_v110 ((extractStridedSlice S8x64x4x56x56 ![0, 0, 0, 0, 3] · slices_S8x64x4x56x59_S8x64x4x56x56_0_0_0_0_3) : (⟨S8x64x4x56x59, .f32⟩ : BufTy).Contents (Elt F) → (⟨S8x64x4x56x56, .f32⟩ : BufTy).Contents (Elt F)),
    unary main_v107 main_v111 (broadcastInDim S8x64x4x1x56x56 ![0, 1, 2, 4, 5] bcast_S8x64x4x56x56_S8x64x4x1x56x56_0_1_2_4_5 : (⟨S8x64x4x56x56, .f32⟩ : BufTy).Contents (Elt F) → (⟨S8x64x4x1x56x56, .f32⟩ : BufTy).Contents (Elt F)),
    unary main_v108 main_v112 (broadcastInDim S8x64x4x1x56x56 ![0, 1, 2, 4, 5] bcast_S8x64x4x56x56_S8x64x4x1x56x56_0_1_2_4_5 : (⟨S8x64x4x56x56, .f32⟩ : BufTy).Contents (Elt F) → (⟨S8x64x4x1x56x56, .f32⟩ : BufTy).Contents (Elt F)),
    unary main_v109 main_v113 (broadcastInDim S8x64x4x1x56x56 ![0, 1, 2, 4, 5] bcast_S8x64x4x56x56_S8x64x4x1x56x56_0_1_2_4_5 : (⟨S8x64x4x56x56, .f32⟩ : BufTy).Contents (Elt F) → (⟨S8x64x4x1x56x56, .f32⟩ : BufTy).Contents (Elt F)),
    unary main_v110 main_v114 (broadcastInDim S8x64x4x1x56x56 ![0, 1, 2, 4, 5] bcast_S8x64x4x56x56_S8x64x4x1x56x56_0_1_2_4_5 : (⟨S8x64x4x56x56, .f32⟩ : BufTy).Contents (Elt F) → (⟨S8x64x4x1x56x56, .f32⟩ : BufTy).Contents (Elt F)),
    nary ![main_v111, main_v112, main_v113, main_v114] main_v115 (fun u => (concatenate S8x64x4x4x56x56 3 [⟨S8x64x4x1x56x56, (u 0 : (⟨S8x64x4x1x56x56, .f32⟩ : BufTy).Contents (Elt F))⟩, ⟨S8x64x4x1x56x56, (u 1 : (⟨S8x64x4x1x56x56, .f32⟩ : BufTy).Contents (Elt F))⟩, ⟨S8x64x4x1x56x56, (u 2 : (⟨S8x64x4x1x56x56, .f32⟩ : BufTy).Contents (Elt F))⟩, ⟨S8x64x4x1x56x56, (u 3 : (⟨S8x64x4x1x56x56, .f32⟩ : BufTy).Contents (Elt F))⟩] concatenates_S8x64x4x1x56x56_S8x64x4x1x56x56_S8x64x4x1x56x56_S8x64x4x1x56x56_S8x64x4x4x56x56_d3 : (⟨S8x64x4x4x56x56, .f32⟩ : BufTy).Contents (Elt F))),
    binary main_arg4 main_v115 main_v116 ((fun l r => Host.dotGeneral dot_S192x64x4x4_S8x64x4x4x56x56_S192x8x56x56_132_132_0_045_n_n none l r) : (⟨S192x64x4x4, .f32⟩ : BufTy).Contents (Elt F) → (⟨S8x64x4x4x56x56, .f32⟩ : BufTy).Contents (Elt F) → (⟨S192x8x56x56, .f32⟩ : BufTy).Contents (Elt F)),
    unary main_v116 main_v117 ((transpose S8x192x56x56 [1, 0, 2, 3] · transposes_S192x8x56x56_S8x192x56x56_1_0_2_3) : (⟨S192x8x56x56, .f32⟩ : BufTy).Contents (Elt F) → (⟨S8x192x56x56, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8x192x56x56, .f32⟩) main_call7_v0) (broadcastInDim S8x192x56x56 ![] bcast_S_S8x192x56x56),
    TRef.binary (TRef.of (T := ⟨S8x192x56x56, .f32⟩) main_v117) (TRef.of (T := ⟨S8x192x56x56, .f32⟩) main_call7_v0) (TRef.of (T := ⟨S8x192x56x56, .f32⟩) main_v118) maximumf ]
/-- The buffers `opsD1b` writes, in order. -/
abbrev opsD1b_W : List (Ref sig .tc) := [main_v108, main_v109, main_v110, main_v111, main_v112, main_v113, main_v114, main_v115, main_v116, main_v117, main_call7_cst, main_call7_v0, main_v118]
theorem opsD1b_writes : (opsD1b : List (HloOp τ sig (Elt F))).Forall fun op => op.writes ⊆ (opsD1b_W.map (Proc.devRef (τ := τ) .tc)).toFinset :=
  forall_writes_sub_of_map rfl
theorem opsD1b_sub : (opsD1b : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., nary_bufs_sub .., binary_bufs_sub .., unary_bufs_sub .., nullary_bufs_sub .., unary_bufs_sub .., binary_bufs_sub ..⟩
theorem opsD1b_fresh : (opsD1b : List (HloOp τ sig (Elt F))).Forall fun op => op.fresh = ∅ := by
  simp only [List.Forall]; repeat' constructor

/-- The second transposed convolution and its relu. -/
abbrev opsD2 : List (HloOp τ sig (Elt F)) :=
  [ nullary main_cst_10 (constant S_ .f32 0x00000000#32),
    binary main_v118 main_cst_10 main_v119 ((fun x v => pad S8x192x115x115 ![0, 0, 2, 2] ![0, 0, 2, 2] ![0, 0, 1, 1] x v pads_S8x192x56x56_S8x192x115x115_000_000_221_221 h_S_) : (⟨S8x192x56x56, .f32⟩ : BufTy).Contents (Elt F) → (⟨S_, .f32⟩ : BufTy).Contents (Elt F) → (⟨S8x192x115x115, .f32⟩ : BufTy).Contents (Elt F)),
    unary main_v119 main_v120 ((extractStridedSlice S8x192x112x115 ![0, 0, 0, 0] · slices_S8x192x115x115_S8x192x112x115_0_0_0_0) : (⟨S8x192x115x115, .f32⟩ : BufTy).Contents (Elt F) → (⟨S8x192x112x115, .f32⟩ : BufTy).Contents (Elt F)),
    unary main_v119 main_v121 ((extractStridedSlice S8x192x112x115 ![0, 0, 1, 0] · slices_S8x192x115x115_S8x192x112x115_0_0_1_0) : (⟨S8x192x115x115, .f32⟩ : BufTy).Contents (Elt F) → (⟨S8x192x112x115, .f32⟩ : BufTy).Contents (Elt F)),
    unary main_v119 main_v122 ((extractStridedSlice S8x192x112x115 ![0, 0, 2, 0] · slices_S8x192x115x115_S8x192x112x115_0_0_2_0) : (⟨S8x192x115x115, .f32⟩ : BufTy).Contents (Elt F) → (⟨S8x192x112x115, .f32⟩ : BufTy).Contents (Elt F)),
    unary main_v119 main_v123 ((extractStridedSlice S8x192x112x115 ![0, 0, 3, 0] · slices_S8x192x115x115_S8x192x112x115_0_0_3_0) : (⟨S8x192x115x115, .f32⟩ : BufTy).Contents (Elt F) → (⟨S8x192x112x115, .f32⟩ : BufTy).Contents (Elt F)),
    unary main_v120 main_v124 (broadcastInDim S8x192x1x112x115 ![0, 1, 3, 4] bcast_S8x192x112x115_S8x192x1x112x115_0_1_3_4 : (⟨S8x192x112x115, .f32⟩ : BufTy).Contents (Elt F) → (⟨S8x192x1x112x115, .f32⟩ : BufTy).Contents (Elt F)),
    unary main_v121 main_v125 (broadcastInDim S8x192x1x112x115 ![0, 1, 3, 4] bcast_S8x192x112x115_S8x192x1x112x115_0_1_3_4 : (⟨S8x192x112x115, .f32⟩ : BufTy).Contents (Elt F) → (⟨S8x192x1x112x115, .f32⟩ : BufTy).Contents (Elt F)),
    unary main_v122 main_v126 (broadcastInDim S8x192x1x112x115 ![0, 1, 3, 4] bcast_S8x192x112x115_S8x192x1x112x115_0_1_3_4 : (⟨S8x192x112x115, .f32⟩ : BufTy).Contents (Elt F) → (⟨S8x192x1x112x115, .f32⟩ : BufTy).Contents (Elt F)),
    unary main_v123 main_v127 (broadcastInDim S8x192x1x112x115 ![0, 1, 3, 4] bcast_S8x192x112x115_S8x192x1x112x115_0_1_3_4 : (⟨S8x192x112x115, .f32⟩ : BufTy).Contents (Elt F) → (⟨S8x192x1x112x115, .f32⟩ : BufTy).Contents (Elt F)),
    nary ![main_v124, main_v125, main_v126, main_v127] main_v128 (fun u => (concatenate S8x192x4x112x115 2 [⟨S8x192x1x112x115, (u 0 : (⟨S8x192x1x112x115, .f32⟩ : BufTy).Contents (Elt F))⟩, ⟨S8x192x1x112x115, (u 1 : (⟨S8x192x1x112x115, .f32⟩ : BufTy).Contents (Elt F))⟩, ⟨S8x192x1x112x115, (u 2 : (⟨S8x192x1x112x115, .f32⟩ : BufTy).Contents (Elt F))⟩, ⟨S8x192x1x112x115, (u 3 : (⟨S8x192x1x112x115, .f32⟩ : BufTy).Contents (Elt F))⟩] concatenates_S8x192x1x112x115_S8x192x1x112x115_S8x192x1x112x115_S8x192x1x112x115_S8x192x4x112x115_d2 : (⟨S8x192x4x112x115, .f32⟩ : BufTy).Contents (Elt F))),
    unary main_v128 main_v129 ((extractStridedSlice S8x192x4x112x112 ![0, 0, 0, 0, 0] · slices_S8x192x4x112x115_S8x192x4x112x112_0_0_0_0_0) : (⟨S8x192x4x112x115, .f32⟩ : BufTy).Contents (Elt F) → (⟨S8x192x4x112x112, .f32⟩ : BufTy).Contents (Elt F)),
    unary main_v128 main_v130 ((extractStridedSlice S8x192x4x112x112 ![0, 0, 0, 0, 1] · slices_S8x192x4x112x115_S8x192x4x112x112_0_0_0_0_1) : (⟨S8x192x4x112x115, .f32⟩ : BufTy).Contents (Elt F) → (⟨S8x192x4x112x112, .f32⟩ : BufTy).Contents (Elt F)),
    unary main_v128 main_v131 ((extractStridedSlice S8x192x4x112x112 ![0, 0, 0, 0, 2] · slices_S8x192x4x112x115_S8x192x4x112x112_0_0_0_0_2) : (⟨S8x192x4x112x115, .f32⟩ : BufTy).Contents (Elt F) → (⟨S8x192x4x112x112, .f32⟩ : BufTy).Contents (Elt F)),
    unary main_v128 main_v132 ((extractStridedSlice S8x192x4x112x112 ![0, 0, 0, 0, 3] · slices_S8x192x4x112x115_S8x192x4x112x112_0_0_0_0_3) : (⟨S8x192x4x112x115, .f32⟩ : BufTy).Contents (Elt F) → (⟨S8x192x4x112x112, .f32⟩ : BufTy).Contents (Elt F)),
    unary main_v129 main_v133 (broadcastInDim S8x192x4x1x112x112 ![0, 1, 2, 4, 5] bcast_S8x192x4x112x112_S8x192x4x1x112x112_0_1_2_4_5 : (⟨S8x192x4x112x112, .f32⟩ : BufTy).Contents (Elt F) → (⟨S8x192x4x1x112x112, .f32⟩ : BufTy).Contents (Elt F)),
    unary main_v130 main_v134 (broadcastInDim S8x192x4x1x112x112 ![0, 1, 2, 4, 5] bcast_S8x192x4x112x112_S8x192x4x1x112x112_0_1_2_4_5 : (⟨S8x192x4x112x112, .f32⟩ : BufTy).Contents (Elt F) → (⟨S8x192x4x1x112x112, .f32⟩ : BufTy).Contents (Elt F)),
    unary main_v131 main_v135 (broadcastInDim S8x192x4x1x112x112 ![0, 1, 2, 4, 5] bcast_S8x192x4x112x112_S8x192x4x1x112x112_0_1_2_4_5 : (⟨S8x192x4x112x112, .f32⟩ : BufTy).Contents (Elt F) → (⟨S8x192x4x1x112x112, .f32⟩ : BufTy).Contents (Elt F)),
    unary main_v132 main_v136 (broadcastInDim S8x192x4x1x112x112 ![0, 1, 2, 4, 5] bcast_S8x192x4x112x112_S8x192x4x1x112x112_0_1_2_4_5 : (⟨S8x192x4x112x112, .f32⟩ : BufTy).Contents (Elt F) → (⟨S8x192x4x1x112x112, .f32⟩ : BufTy).Contents (Elt F)),
    nary ![main_v133, main_v134, main_v135, main_v136] main_v137 (fun u => (concatenate S8x192x4x4x112x112 3 [⟨S8x192x4x1x112x112, (u 0 : (⟨S8x192x4x1x112x112, .f32⟩ : BufTy).Contents (Elt F))⟩, ⟨S8x192x4x1x112x112, (u 1 : (⟨S8x192x4x1x112x112, .f32⟩ : BufTy).Contents (Elt F))⟩, ⟨S8x192x4x1x112x112, (u 2 : (⟨S8x192x4x1x112x112, .f32⟩ : BufTy).Contents (Elt F))⟩, ⟨S8x192x4x1x112x112, (u 3 : (⟨S8x192x4x1x112x112, .f32⟩ : BufTy).Contents (Elt F))⟩] concatenates_S8x192x4x1x112x112_S8x192x4x1x112x112_S8x192x4x1x112x112_S8x192x4x1x112x112_S8x192x4x4x112x112_d3 : (⟨S8x192x4x4x112x112, .f32⟩ : BufTy).Contents (Elt F))),
    binary main_arg5 main_v137 main_v138 ((fun l r => Host.dotGeneral dot_S96x192x4x4_S8x192x4x4x112x112_S96x8x112x112_132_132_0_045_n_n none l r) : (⟨S96x192x4x4, .f32⟩ : BufTy).Contents (Elt F) → (⟨S8x192x4x4x112x112, .f32⟩ : BufTy).Contents (Elt F) → (⟨S96x8x112x112, .f32⟩ : BufTy).Contents (Elt F)),
    unary main_v138 main_v139 ((transpose S8x96x112x112 [1, 0, 2, 3] · transposes_S96x8x112x112_S8x96x112x112_1_0_2_3) : (⟨S96x8x112x112, .f32⟩ : BufTy).Contents (Elt F) → (⟨S8x96x112x112, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S8x96x112x112, .f32⟩) main_call8_v0) (broadcastInDim S8x96x112x112 ![] bcast_S_S8x96x112x112),
    TRef.binary (TRef.of (T := ⟨S8x96x112x112, .f32⟩) main_v139) (TRef.of (T := ⟨S8x96x112x112, .f32⟩) main_call8_v0) (TRef.of (T := ⟨S8x96x112x112, .f32⟩) main_v140) maximumf ]
/-- The buffers `opsD2` writes, in order. -/
abbrev opsD2_W : List (Ref sig .tc) := [main_cst_10, main_v119, main_v120, main_v121, main_v122, main_v123, main_v124, main_v125, main_v126, main_v127, main_v128, main_v129, main_v130, main_v131, main_v132, main_v133, main_v134, main_v135, main_v136, main_v137, main_v138, main_v139, main_call8_cst, main_call8_v0, main_v140]
theorem opsD2_writes : (opsD2 : List (HloOp τ sig (Elt F))).Forall fun op => op.writes ⊆ (opsD2_W.map (Proc.devRef (τ := τ) .tc)).toFinset :=
  forall_writes_sub_of_map rfl
theorem opsD2_sub : (opsD2 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub .., binary_bufs_sub .., unary_bufs_sub .., nullary_bufs_sub .., unary_bufs_sub .., binary_bufs_sub ..⟩
theorem opsD2_fresh : (opsD2 : List (HloOp τ sig (Elt F))).Forall fun op => op.fresh = ∅ := by
  simp only [List.Forall]; repeat' constructor

/-- The third transposed convolution. -/
abbrev opsD3 : List (HloOp τ sig (Elt F)) :=
  [ nullary main_cst_11 (constant S_ .f32 0x00000000#32),
    binary main_v140 main_cst_11 main_v141 ((fun x v => pad S8x96x227x227 ![0, 0, 2, 2] ![0, 0, 2, 2] ![0, 0, 1, 1] x v pads_S8x96x112x112_S8x96x227x227_000_000_221_221 h_S_) : (⟨S8x96x112x112, .f32⟩ : BufTy).Contents (Elt F) → (⟨S_, .f32⟩ : BufTy).Contents (Elt F) → (⟨S8x96x227x227, .f32⟩ : BufTy).Contents (Elt F)),
    unary main_v141 main_v142 ((extractStridedSlice S8x96x224x227 ![0, 0, 0, 0] · slices_S8x96x227x227_S8x96x224x227_0_0_0_0) : (⟨S8x96x227x227, .f32⟩ : BufTy).Contents (Elt F) → (⟨S8x96x224x227, .f32⟩ : BufTy).Contents (Elt F)),
    unary main_v141 main_v143 ((extractStridedSlice S8x96x224x227 ![0, 0, 1, 0] · slices_S8x96x227x227_S8x96x224x227_0_0_1_0) : (⟨S8x96x227x227, .f32⟩ : BufTy).Contents (Elt F) → (⟨S8x96x224x227, .f32⟩ : BufTy).Contents (Elt F)),
    unary main_v141 main_v144 ((extractStridedSlice S8x96x224x227 ![0, 0, 2, 0] · slices_S8x96x227x227_S8x96x224x227_0_0_2_0) : (⟨S8x96x227x227, .f32⟩ : BufTy).Contents (Elt F) → (⟨S8x96x224x227, .f32⟩ : BufTy).Contents (Elt F)),
    unary main_v141 main_v145 ((extractStridedSlice S8x96x224x227 ![0, 0, 3, 0] · slices_S8x96x227x227_S8x96x224x227_0_0_3_0) : (⟨S8x96x227x227, .f32⟩ : BufTy).Contents (Elt F) → (⟨S8x96x224x227, .f32⟩ : BufTy).Contents (Elt F)),
    unary main_v142 main_v146 (broadcastInDim S8x96x1x224x227 ![0, 1, 3, 4] bcast_S8x96x224x227_S8x96x1x224x227_0_1_3_4 : (⟨S8x96x224x227, .f32⟩ : BufTy).Contents (Elt F) → (⟨S8x96x1x224x227, .f32⟩ : BufTy).Contents (Elt F)),
    unary main_v143 main_v147 (broadcastInDim S8x96x1x224x227 ![0, 1, 3, 4] bcast_S8x96x224x227_S8x96x1x224x227_0_1_3_4 : (⟨S8x96x224x227, .f32⟩ : BufTy).Contents (Elt F) → (⟨S8x96x1x224x227, .f32⟩ : BufTy).Contents (Elt F)),
    unary main_v144 main_v148 (broadcastInDim S8x96x1x224x227 ![0, 1, 3, 4] bcast_S8x96x224x227_S8x96x1x224x227_0_1_3_4 : (⟨S8x96x224x227, .f32⟩ : BufTy).Contents (Elt F) → (⟨S8x96x1x224x227, .f32⟩ : BufTy).Contents (Elt F)),
    unary main_v145 main_v149 (broadcastInDim S8x96x1x224x227 ![0, 1, 3, 4] bcast_S8x96x224x227_S8x96x1x224x227_0_1_3_4 : (⟨S8x96x224x227, .f32⟩ : BufTy).Contents (Elt F) → (⟨S8x96x1x224x227, .f32⟩ : BufTy).Contents (Elt F)),
    nary ![main_v146, main_v147, main_v148, main_v149] main_v150 (fun u => (concatenate S8x96x4x224x227 2 [⟨S8x96x1x224x227, (u 0 : (⟨S8x96x1x224x227, .f32⟩ : BufTy).Contents (Elt F))⟩, ⟨S8x96x1x224x227, (u 1 : (⟨S8x96x1x224x227, .f32⟩ : BufTy).Contents (Elt F))⟩, ⟨S8x96x1x224x227, (u 2 : (⟨S8x96x1x224x227, .f32⟩ : BufTy).Contents (Elt F))⟩, ⟨S8x96x1x224x227, (u 3 : (⟨S8x96x1x224x227, .f32⟩ : BufTy).Contents (Elt F))⟩] concatenates_S8x96x1x224x227_S8x96x1x224x227_S8x96x1x224x227_S8x96x1x224x227_S8x96x4x224x227_d2 : (⟨S8x96x4x224x227, .f32⟩ : BufTy).Contents (Elt F))),
    unary main_v150 main_v151 ((extractStridedSlice S8x96x4x224x224 ![0, 0, 0, 0, 0] · slices_S8x96x4x224x227_S8x96x4x224x224_0_0_0_0_0) : (⟨S8x96x4x224x227, .f32⟩ : BufTy).Contents (Elt F) → (⟨S8x96x4x224x224, .f32⟩ : BufTy).Contents (Elt F)),
    unary main_v150 main_v152 ((extractStridedSlice S8x96x4x224x224 ![0, 0, 0, 0, 1] · slices_S8x96x4x224x227_S8x96x4x224x224_0_0_0_0_1) : (⟨S8x96x4x224x227, .f32⟩ : BufTy).Contents (Elt F) → (⟨S8x96x4x224x224, .f32⟩ : BufTy).Contents (Elt F)),
    unary main_v150 main_v153 ((extractStridedSlice S8x96x4x224x224 ![0, 0, 0, 0, 2] · slices_S8x96x4x224x227_S8x96x4x224x224_0_0_0_0_2) : (⟨S8x96x4x224x227, .f32⟩ : BufTy).Contents (Elt F) → (⟨S8x96x4x224x224, .f32⟩ : BufTy).Contents (Elt F)),
    unary main_v150 main_v154 ((extractStridedSlice S8x96x4x224x224 ![0, 0, 0, 0, 3] · slices_S8x96x4x224x227_S8x96x4x224x224_0_0_0_0_3) : (⟨S8x96x4x224x227, .f32⟩ : BufTy).Contents (Elt F) → (⟨S8x96x4x224x224, .f32⟩ : BufTy).Contents (Elt F)),
    unary main_v151 main_v155 (broadcastInDim S8x96x4x1x224x224 ![0, 1, 2, 4, 5] bcast_S8x96x4x224x224_S8x96x4x1x224x224_0_1_2_4_5 : (⟨S8x96x4x224x224, .f32⟩ : BufTy).Contents (Elt F) → (⟨S8x96x4x1x224x224, .f32⟩ : BufTy).Contents (Elt F)),
    unary main_v152 main_v156 (broadcastInDim S8x96x4x1x224x224 ![0, 1, 2, 4, 5] bcast_S8x96x4x224x224_S8x96x4x1x224x224_0_1_2_4_5 : (⟨S8x96x4x224x224, .f32⟩ : BufTy).Contents (Elt F) → (⟨S8x96x4x1x224x224, .f32⟩ : BufTy).Contents (Elt F)),
    unary main_v153 main_v157 (broadcastInDim S8x96x4x1x224x224 ![0, 1, 2, 4, 5] bcast_S8x96x4x224x224_S8x96x4x1x224x224_0_1_2_4_5 : (⟨S8x96x4x224x224, .f32⟩ : BufTy).Contents (Elt F) → (⟨S8x96x4x1x224x224, .f32⟩ : BufTy).Contents (Elt F)),
    unary main_v154 main_v158 (broadcastInDim S8x96x4x1x224x224 ![0, 1, 2, 4, 5] bcast_S8x96x4x224x224_S8x96x4x1x224x224_0_1_2_4_5 : (⟨S8x96x4x224x224, .f32⟩ : BufTy).Contents (Elt F) → (⟨S8x96x4x1x224x224, .f32⟩ : BufTy).Contents (Elt F)),
    nary ![main_v155, main_v156, main_v157, main_v158] main_v159 (fun u => (concatenate S8x96x4x4x224x224 3 [⟨S8x96x4x1x224x224, (u 0 : (⟨S8x96x4x1x224x224, .f32⟩ : BufTy).Contents (Elt F))⟩, ⟨S8x96x4x1x224x224, (u 1 : (⟨S8x96x4x1x224x224, .f32⟩ : BufTy).Contents (Elt F))⟩, ⟨S8x96x4x1x224x224, (u 2 : (⟨S8x96x4x1x224x224, .f32⟩ : BufTy).Contents (Elt F))⟩, ⟨S8x96x4x1x224x224, (u 3 : (⟨S8x96x4x1x224x224, .f32⟩ : BufTy).Contents (Elt F))⟩] concatenates_S8x96x4x1x224x224_S8x96x4x1x224x224_S8x96x4x1x224x224_S8x96x4x1x224x224_S8x96x4x4x224x224_d3 : (⟨S8x96x4x4x224x224, .f32⟩ : BufTy).Contents (Elt F))),
    binary main_arg6 main_v159 main_v160 ((fun l r => Host.dotGeneral dot_S3x96x4x4_S8x96x4x4x224x224_S3x8x224x224_132_132_0_045_n_n none l r) : (⟨S3x96x4x4, .f32⟩ : BufTy).Contents (Elt F) → (⟨S8x96x4x4x224x224, .f32⟩ : BufTy).Contents (Elt F) → (⟨S3x8x224x224, .f32⟩ : BufTy).Contents (Elt F)),
    unary main_v160 main_v161 ((transpose S8x3x224x224 [1, 0, 2, 3] · transposes_S3x8x224x224_S8x3x224x224_1_0_2_3) : (⟨S3x8x224x224, .f32⟩ : BufTy).Contents (Elt F) → (⟨S8x3x224x224, .f32⟩ : BufTy).Contents (Elt F)) ]
/-- The buffers `opsD3` writes, in order. -/
abbrev opsD3_W : List (Ref sig .tc) := [main_cst_11, main_v141, main_v142, main_v143, main_v144, main_v145, main_v146, main_v147, main_v148, main_v149, main_v150, main_v151, main_v152, main_v153, main_v154, main_v155, main_v156, main_v157, main_v158, main_v159, main_v160, main_v161]
theorem opsD3_writes : (opsD3 : List (HloOp τ sig (Elt F))).Forall fun op => op.writes ⊆ (opsD3_W.map (Proc.devRef (τ := τ) .tc)).toFinset :=
  forall_writes_sub_of_map rfl
theorem opsD3_sub : (opsD3 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub .., binary_bufs_sub .., unary_bufs_sub ..⟩
theorem opsD3_fresh : (opsD3 : List (HloOp τ sig (Elt F))).Forall fun op => op.fresh = ∅ := by
  simp only [List.Forall]; repeat' constructor

/-- The first window of @main. -/
def ops0 : List (HloOp τ sig (Elt F)) := opsE1 ++ (opsE2 ++ opsE3a)
/-- The second window of @main. -/
def ops1 : List (HloOp τ sig (Elt F)) := opsE3b ++ (opsQ ++ opsD1a)
/-- The third window of @main. -/
def ops2 : List (HloOp τ sig (Elt F)) := opsD1b ++ (opsD2 ++ opsD3)
/-- All of @main's operations, in order. -/
abbrev ops : List (HloOp τ sig (Elt F)) := ops0 ++ (ops1 ++ ops2)

set_option maxHeartbeats 4000000 in
theorem main_part0_eq (c : Dev nD) : main_part0 (F := F) c = seq ops0 := rfl
set_option maxHeartbeats 4000000 in
theorem main_part1_eq (c : Dev nD) : main_part1 (F := F) c = seq ops1 := rfl
set_option maxHeartbeats 4000000 in
theorem main_part2_eq (c : Dev nD) : main_part2 (F := F) c = seq ops2 := rfl
/-- @main runs the operations one after another. -/
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, ops0, ops1, ops2, List.mem_append, or_assoc] at h
    rcases h with h | h | h | h | h | h | h | h | h
    exacts [List.forall_iff_forall_mem.mp opsE1_sub op h, List.forall_iff_forall_mem.mp opsE2_sub op h, List.forall_iff_forall_mem.mp opsE3a_sub op h, List.forall_iff_forall_mem.mp opsE3b_sub op h, List.forall_iff_forall_mem.mp opsQ_sub op h, List.forall_iff_forall_mem.mp opsD1a_sub op h, List.forall_iff_forall_mem.mp opsD1b_sub op h, List.forall_iff_forall_mem.mp opsD2_sub op h, List.forall_iff_forall_mem.mp opsD3_sub op h]
theorem ops_fresh : ∀ op ∈ (ops : List (HloOp τ sig (Elt F))), op.fresh = ∅ := fun op h => by
    simp only [ops, ops0, ops1, ops2, List.mem_append, or_assoc] at h
    rcases h with h | h | h | h | h | h | h | h | h
    exacts [List.forall_iff_forall_mem.mp opsE1_fresh op h, List.forall_iff_forall_mem.mp opsE2_fresh op h, List.forall_iff_forall_mem.mp opsE3a_fresh op h, List.forall_iff_forall_mem.mp opsE3b_fresh op h, List.forall_iff_forall_mem.mp opsQ_fresh op h, List.forall_iff_forall_mem.mp opsD1a_fresh op h, List.forall_iff_forall_mem.mp opsD1b_fresh op h, List.forall_iff_forall_mem.mp opsD2_fresh op h, List.forall_iff_forall_mem.mp opsD3_fresh op h]

variable (m : (ℓ : Loc nD τ sig) → Buf (Elt F) ℓ) (ρ : Dev nD → PrngReg)

end Cert.ReferenceIdeal.Run

end
-- ==== Proof.Ref.Run.lean ====
/- The reference program's run: the contents of its buffers after each stage of the network, and that every weakly
   fair execution ends with them, with the arguments as they were and the counters at zero. -/
module

public import proofs.«01_k».proof.Proof.Ref.Ops
public import Idealize.ShloMosaic.Lib.Quiescent

@[expose] public section

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- What device `c` holds after the first convolution, … -/
def Z1 (c : Dev nD) : Valuation τ sig (Elt F) := after opsE1 (launchContents m c)
/-- … after the second, … -/
def Z2 (c : Dev nD) : Valuation τ sig (Elt F) := after opsE2 (Z1 m c)
/-- … after the third, … -/
def Z3 (c : Dev nD) : Valuation τ sig (Elt F) := after opsE3b (after opsE3a (Z2 m c))
/-- … after the quantization, … -/
def Z4 (c : Dev nD) : Valuation τ sig (Elt F) := after opsQ (Z3 m c)
/-- … after the first transposed convolution, … -/
def Z5 (c : Dev nD) : Valuation τ sig (Elt F) := after opsD1b (after opsD1a (Z4 m c))
/-- … after the second, … -/
def Z6 (c : Dev nD) : Valuation τ sig (Elt F) := after opsD2 (Z5 m c)
/-- … and at the end. -/
def Z7 (c : Dev nD) : Valuation τ sig (Elt F) := after opsD3 (Z6 m c)

/-- A buffer the first stage does not write keeps its contents through it. -/
theorem Z1_of (c : Dev nD) (r : Ref sig .tc) (h : r ∉ opsE1_W) :
    Z1 m c (Proc.devRef .tc r) = m ((c : Thread nD τ).loc r) :=
  after_of_writes_sub _ _ opsE1_writes fun hm => h (by simpa using hm)
/-- So with the second stage, … -/
theorem Z2_of (c : Dev nD) (r : Ref sig .tc) (h : r ∉ opsE2_W) :
    Z2 m c (Proc.devRef .tc r) = Z1 m c (Proc.devRef .tc r) :=
  after_of_writes_sub _ _ opsE2_writes fun hm => h (by simpa using hm)
/-- … the third, … -/
theorem Z3_of (c : Dev nD) (r : Ref sig .tc) (h : r ∉ opsE3a_W ++ opsE3b_W) :
    Z3 m c (Proc.devRef .tc r) = Z2 m c (Proc.devRef .tc r) :=
  (after_of_writes_sub _ _ opsE3b_writes fun hm => h (List.mem_append_right _ (by simpa using hm))).trans
    (after_of_writes_sub _ _ opsE3a_writes fun hm => h (List.mem_append_left _ (by simpa using hm)))
/-- … the quantization, … -/
theorem Z4_of (c : Dev nD) (r : Ref sig .tc) (h : r ∉ opsQ_W) :
    Z4 m c (Proc.devRef .tc r) = Z3 m c (Proc.devRef .tc r) :=
  after_of_writes_sub _ _ opsQ_writes fun hm => h (by simpa using hm)
/-- … and the transposed convolutions. -/
theorem Z5_of (c : Dev nD) (r : Ref sig .tc) (h : r ∉ opsD1a_W ++ opsD1b_W) :
    Z5 m c (Proc.devRef .tc r) = Z4 m c (Proc.devRef .tc r) :=
  (after_of_writes_sub _ _ opsD1b_writes fun hm => h (List.mem_append_right _ (by simpa using hm))).trans
    (after_of_writes_sub _ _ opsD1a_writes fun hm => h (List.mem_append_left _ (by simpa using hm)))
theorem Z6_of (c : Dev nD) (r : Ref sig .tc) (h : r ∉ opsD2_W) :
    Z6 m c (Proc.devRef .tc r) = Z5 m c (Proc.devRef .tc r) :=
  after_of_writes_sub _ _ opsD2_writes fun hm => h (by simpa using hm)
theorem Z7_of (c : Dev nD) (r : Ref sig .tc) (h : r ∉ opsD3_W) :
    Z7 m c (Proc.devRef .tc r) = Z6 m c (Proc.devRef .tc r) :=
  after_of_writes_sub _ _ opsD3_writes fun hm => h (by simpa using hm)

/-- The argument buffers. -/
abbrev args : List (Ref sig .tc) :=
  [main_arg0, main_arg1, main_arg2, main_arg3, main_arg4, main_arg5, main_arg6, main_arg7]

/-- No stage writes an argument. -/
theorem args_fresh : ∀ r ∈ args, r ∉ opsE1_W ∧ r ∉ opsE2_W ∧ r ∉ opsE3a_W ++ opsE3b_W ∧ r ∉ opsQ_W
    ∧ r ∉ opsD1a_W ++ opsD1b_W ∧ r ∉ opsD2_W ∧ r ∉ opsD3_W := by
  decide

/-- At the end the arguments are what they were. -/
theorem Z7_arg (c : Dev nD) (r : Ref sig .tc) (h : r ∈ args) :
    Z7 m c (Proc.devRef .tc r) = m ((c : Thread nD τ).loc r) := by
  obtain ⟨h1, h2, h3, h4, h5, h6, h7⟩ := args_fresh r h
  rw [Z7_of m c r h7, Z6_of m c r h6, Z5_of m c r h5, Z4_of m c r h4, Z3_of m c r h3, Z2_of m c r h2, Z1_of m c r h1]

/-- The whole list of operations leaves the last stage's contents. -/
theorem after_ops (c : Dev nD) : after ops (launchContents m c) = Z7 m c := by
  simp only [ops, ops0, ops1, ops2, after_append, Z7, Z6, Z5, Z4, Z3, Z2, Z1]

/-- Every weakly fair execution of the reference ends with each buffer at the last stage's contents and the counters at
    zero. -/
theorem run : θ_run defs (Idealize.ShloMosaic.onTc main) ⟨m, fun _ => 0, ρ⟩ (fun r =>
    (∀ (c : Dev nD) (b : Ref sig .tc), r.2.mem ((c : Thread nD τ).loc b) = Z7 m c (Proc.devRef .tc b))
      ∧ r.2.sem = fun _ => 0) :=
  (θ_run defs _ _).mono (fun r h => ⟨fun c b => (h c b).trans (by rw [after_ops]),
      sem_eq_zero_of_no_sems (by decide) r.2⟩)
    (run_seq scopedRefs_eq scopedSems_eq defs main (fun _ => ops) main_eq (fun _ => ops_sub) m ρ fun _ => ops_fresh)

end Cert.ReferenceIdeal.Run

end
-- ==== Proof.Ref.Enc.lean ====
/- The reference's convolutions: each stage's result, from what it reads. -/
module

public import proofs.«01_k».proof.Proof.Ref.Ops
public import proofs.«01_k».proof.Proof.Spec
public import proofs.«01_k».proof.Proof.Dot3
public import Idealize.ShloMosaic.Lib.StableHlo.ReadAt
public import Idealize.ShloMosaic.Lib.Pointwise

@[expose] public section

set_option maxRecDepth 8192

noncomputable section

namespace Cert.ReferenceIdeal.Run

open Cert.ReferenceIdeal Cert.ReferenceIdeal.Gen Idealize.ShloMosaic Idealize.ShloMosaic.TcCoe Idealize.SL.Sem
open Idealize.ShloMosaic.StableHlo
open Cert.Spec

variable (V : Valuation τ sig (Elt Ideal)) (x w : Arr)

/-- The first convolution, clipped below at zero. -/
theorem e1 (hx : Is4 8 3 224 224 (V (Proc.devRef .tc main_arg0)) x)
    (hw : Is4 96 3 4 4 (V (Proc.devRef .tc main_arg1)) w) :
    Is4 8 96 112 112 (after opsE1 V (Proc.devRef .tc main_v21)) (relu (conv 3 224 224 x w)) := by
  intro a b c d
  after_reads_at
  refine congrArg (max · 0) ((matmul3 96 3 8 112 112 _ _ _ b a c d).trans ?_)
  refine Finset.sum_congr rfl fun k _ => Finset.sum_congr rfl fun ky _ => Finset.sum_congr rfl fun kx _ => ?_
  rw [hw]
  refine congrArg _ ?_
  pointwise
  after_reads_at
  after_reads_at
  simp only [hx, dite_eq_ite, sitofp_zero]
  fin_cases ky <;> fin_cases kx <;> simp (config := { decide := true }) only [if_true, if_false] <;>
    refine eq_pad1 (by omega) fun _ => ?_ <;> congr 1 <;> omega

/-- The second convolution, clipped below at zero. -/
theorem e2 (hx : Is4 8 96 112 112 (V (Proc.devRef .tc main_v21)) x)
    (hw : Is4 192 96 4 4 (V (Proc.devRef .tc main_arg2)) w) :
    Is4 8 192 56 56 (after opsE2 V (Proc.devRef .tc main_v43)) (relu (conv 96 112 112 x w)) := by
  intro a b c d
  after_reads_at
  refine congrArg (max · 0) ((matmul3 192 96 8 56 56 _ _ _ b a c d).trans ?_)
  refine Finset.sum_congr rfl fun k _ => Finset.sum_congr rfl fun ky _ => Finset.sum_congr rfl fun kx _ => ?_
  rw [hw]
  refine congrArg _ ?_
  pointwise
  after_reads_at
  after_reads_at
  simp only [hx, dite_eq_ite, sitofp_zero]
  fin_cases ky <;> fin_cases kx <;> simp (config := { decide := true }) only [if_true, if_false] <;>
    refine eq_pad1 (by omega) fun _ => ?_ <;> congr 1 <;> omega

/-- The third convolution. -/
theorem e3 (hx : Is4 8 192 56 56 (V (Proc.devRef .tc main_v43)) x)
    (hw : Is4 64 192 4 4 (V (Proc.devRef .tc main_arg3)) w) :
    Is4 8 64 28 28 (after opsE3b (after opsE3a V) (Proc.devRef .tc main_v64)) (conv 192 56 56 x w) := by
  intro a b c d
  after_reads_at
  refine (matmul3 64 192 8 28 28 _ _ _ b a c d).trans ?_
  refine Finset.sum_congr rfl fun k _ => Finset.sum_congr rfl fun ky _ => Finset.sum_congr rfl fun kx _ => ?_
  rw [hw]
  refine congrArg _ ?_
  pointwise
  after_reads_at
  after_reads_at
  simp only [hx, dite_eq_ite, sitofp_zero]
  fin_cases ky <;> fin_cases kx <;> simp (config := { decide := true }) only [if_true, if_false] <;>
    refine eq_pad1 (by omega) fun _ => ?_ <;> congr 1 <;> omega

end Cert.ReferenceIdeal.Run

end
-- ==== Proof.Ref.Dec.lean ====
/- The reference's transposed convolutions: each stage's result, from what it reads. -/
module

public import proofs.«01_k».proof.Proof.Ref.Ops
public import proofs.«01_k».proof.Proof.Spec
public import proofs.«01_k».proof.Proof.Dot3
public import Idealize.ShloMosaic.Lib.StableHlo.ReadAt
public import Idealize.ShloMosaic.Lib.Pointwise

@[expose] public section

set_option maxRecDepth 8192

noncomputable section

namespace Cert.ReferenceIdeal.Run

open Cert.ReferenceIdeal Cert.ReferenceIdeal.Gen Idealize.ShloMosaic Idealize.ShloMosaic.TcCoe Idealize.SL.Sem
open Idealize.ShloMosaic.StableHlo
open Cert.Spec

variable (V : Valuation τ sig (Elt Ideal)) (x w : Arr)

/-- The first transposed convolution, clipped below at zero. -/
theorem d1 (hx : Is4 8 64 28 28 (V (Proc.devRef .tc main_v96)) x)
    (hw : Is4 192 64 4 4 (V (Proc.devRef .tc main_arg4)) w) :
    Is4 8 192 56 56 (after opsD1b (after opsD1a V) (Proc.devRef .tc main_v118)) (relu (convT 64 28 28 x w)) := by
  intro a b c d
  after_reads_at
  refine congrArg (max · 0) ((matmul3 192 64 8 56 56 _ _ _ b a c d).trans ?_)
  refine Finset.sum_congr rfl fun k _ => Finset.sum_congr rfl fun ky _ => Finset.sum_congr rfl fun kx _ => ?_
  rw [hw]
  refine congrArg _ ?_
  pointwise
  after_reads_at
  after_reads_at
  simp only [hx, dite_eq_ite, sitofp_zero]
  fin_cases ky <;> fin_cases kx <;> simp (config := { decide := true }) only [if_true, if_false] <;>
    refine eq_up (by omega) fun _ => ?_ <;> congr 1 <;> omega

/-- The second transposed convolution, clipped below at zero. -/
theorem d2 (hx : Is4 8 192 56 56 (V (Proc.devRef .tc main_v118)) x)
    (hw : Is4 96 192 4 4 (V (Proc.devRef .tc main_arg5)) w) :
    Is4 8 96 112 112 (after opsD2 V (Proc.devRef .tc main_v140)) (relu (convT 192 56 56 x w)) := by
  intro a b c d
  after_reads_at
  refine congrArg (max · 0) ((matmul3 96 192 8 112 112 _ _ _ b a c d).trans ?_)
  refine Finset.sum_congr rfl fun k _ => Finset.sum_congr rfl fun ky _ => Finset.sum_congr rfl fun kx _ => ?_
  rw [hw]
  refine congrArg _ ?_
  pointwise
  after_reads_at
  after_reads_at
  simp only [hx, dite_eq_ite, sitofp_zero]
  fin_cases ky <;> fin_cases kx <;> simp (config := { decide := true }) only [if_true, if_false] <;>
    refine eq_up (by omega) fun _ => ?_ <;> congr 1 <;> omega

/-- The third transposed convolution. -/
theorem d3 (hx : Is4 8 96 112 112 (V (Proc.devRef .tc main_v140)) x)
    (hw : Is4 3 96 4 4 (V (Proc.devRef .tc main_arg6)) w) :
    Is4 8 3 224 224 (after opsD3 V (Proc.devRef .tc main_v161)) (convT 96 112 112 x w) := by
  intro a b c d
  after_reads_at
  refine (matmul3 3 96 8 224 224 _ _ _ b a c d).trans ?_
  refine Finset.sum_congr rfl fun k _ => Finset.sum_congr rfl fun ky _ => Finset.sum_congr rfl fun kx _ => ?_
  rw [hw]
  refine congrArg _ ?_
  pointwise
  after_reads_at
  after_reads_at
  simp only [hx, dite_eq_ite, sitofp_zero]
  fin_cases ky <;> fin_cases kx <;> simp (config := { decide := true }) only [if_true, if_false] <;>
    refine eq_up (by omega) fun _ => ?_ <;> congr 1 <;> omega

end Cert.ReferenceIdeal.Run

end
-- ==== Proof.Ref.Vq.lean ====
/- The reference's quantization stage, in four parts, and what each leaves. -/
module

public import proofs.«01_k».proof.Proof.Ref.Ops
public import proofs.«01_k».proof.Proof.Net
public import proofs.«01_k».proof.Proof.DecTaps
public import Idealize.ShloMosaic.Lib.StableHlo.ReadAt
public import Idealize.ShloMosaic.Lib.Pointwise
public import Idealize.ShloMosaic.Lib.Routing.Ops

@[expose] public section

set_option maxRecDepth 8192

noncomputable section

namespace Cert.ReferenceIdeal.Run

open Cert.ReferenceIdeal Cert.ReferenceIdeal.Gen Idealize.ShloMosaic Idealize.ShloMosaic.TcCoe Idealize.SL.Sem
open Idealize.ShloMosaic.StableHlo
open Cert.Spec

variable {F : FTy → Type} [FloatOps F]

/-- The rows' distances from the codes. -/
abbrev opsQ1 : List (HloOp τ sig (Elt F)) :=
  [ unary main_v64 main_v65 ((transpose S8x28x28x64 [0, 2, 3, 1] · transposes_S8x64x28x28_S8x28x28x64_0_2_3_1) : (⟨S8x64x28x28, .f32⟩ : BufTy).Contents (Elt F) → (⟨S8x28x28x64, .f32⟩ : BufTy).Contents (Elt F)),
    reshape main_v65 main_v66 (rfl : (.f32 : EltTy) = .f32) shapeCasts_S8x28x28x64_S6272x64,
    binary main_v66 main_v66 main_v67 (mulf : (⟨S6272x64, .f32⟩ : BufTy).Contents (Elt F) → (⟨S6272x64, .f32⟩ : BufTy).Contents (Elt F) → (⟨S6272x64, .f32⟩ : BufTy).Contents (Elt F)),
    nullary main_cst (constant S_ .f32 0x00000000#32),
    binary main_v67 main_cst main_v68 ((fun x v => Host.reduceAdd x v reducesTo_S6272x64_S6272_d1 h_S_) : (⟨S6272x64, .f32⟩ : BufTy).Contents (Elt F) → (⟨S_, .f32⟩ : BufTy).Contents (Elt F) → (⟨S6272, .f32⟩ : BufTy).Contents (Elt F)),
    unary main_v68 main_v69 (broadcastInDim S6272x1 ![0] bcast_S6272_S6272x1_0 : (⟨S6272, .f32⟩ : BufTy).Contents (Elt F) → (⟨S6272x1, .f32⟩ : BufTy).Contents (Elt F)),
    nullary main_cst_2 (constant S_ .f32 0x40000000#32),
    unary main_cst_2 main_v70 (broadcastInDim S6272x64 ![] bcast_S_S6272x64 : (⟨S_, .f32⟩ : BufTy).Contents (Elt F) → (⟨S6272x64, .f32⟩ : BufTy).Contents (Elt F)),
    binary main_v70 main_v66 main_v71 (mulf : (⟨S6272x64, .f32⟩ : BufTy).Contents (Elt F) → (⟨S6272x64, .f32⟩ : BufTy).Contents (Elt F) → (⟨S6272x64, .f32⟩ : BufTy).Contents (Elt F)),
    unary main_arg7 main_v72 ((transpose S64x1024 [1, 0] · transposes_S1024x64_S64x1024_1_0) : (⟨S1024x64, .f32⟩ : BufTy).Contents (Elt F) → (⟨S64x1024, .f32⟩ : BufTy).Contents (Elt F)),
    binary main_v71 main_v72 main_v73 ((fun l r => Host.dotGeneral dot_S6272x64_S64x1024_S6272x1024_1_0_0_1_n_n none l r) : (⟨S6272x64, .f32⟩ : BufTy).Contents (Elt F) → (⟨S64x1024, .f32⟩ : BufTy).Contents (Elt F) → (⟨S6272x1024, .f32⟩ : BufTy).Contents (Elt F)),
    unary main_v69 main_v74 (broadcastInDim S6272x1024 ![0, 1] bcast_S6272x1_S6272x1024_0_1 : (⟨S6272x1, .f32⟩ : BufTy).Contents (Elt F) → (⟨S6272x1024, .f32⟩ : BufTy).Contents (Elt F)),
    binary main_v74 main_v73 main_v75 (subf : (⟨S6272x1024, .f32⟩ : BufTy).Contents (Elt F) → (⟨S6272x1024, .f32⟩ : BufTy).Contents (Elt F) → (⟨S6272x1024, .f32⟩ : BufTy).Contents (Elt F)),
    binary main_arg7 main_arg7 main_v76 (mulf : (⟨S1024x64, .f32⟩ : BufTy).Contents (Elt F) → (⟨S1024x64, .f32⟩ : BufTy).Contents (Elt F) → (⟨S1024x64, .f32⟩ : BufTy).Contents (Elt F)),
    nullary main_cst_3 (constant S_ .f32 0x00000000#32),
    binary main_v76 main_cst_3 main_v77 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v77 main_v78 (broadcastInDim S1x1024 ![1] bcast_S1024_S1x1024_1 : (⟨S1024, .f32⟩ : BufTy).Contents (Elt F) → (⟨S1x1024, .f32⟩ : BufTy).Contents (Elt F)),
    unary main_v78 main_v79 (broadcastInDim S6272x1024 ![0, 1] bcast_S1x1024_S6272x1024_0_1 : (⟨S1x1024, .f32⟩ : BufTy).Contents (Elt F) → (⟨S6272x1024, .f32⟩ : BufTy).Contents (Elt F)),
    binary main_v75 main_v79 main_v80 (addf : (⟨S6272x1024, .f32⟩ : BufTy).Contents (Elt F) → (⟨S6272x1024, .f32⟩ : BufTy).Contents (Elt F) → (⟨S6272x1024, .f32⟩ : BufTy).Contents (Elt F)) ]

/-- The nearest codes' numbers. -/
abbrev opsQ2 : List (HloOp τ sig (Elt F)) :=
  [ TRef.nullary (TRef.of (T := ⟨S6272x1024, .i32⟩) main_call5_v0) (iotaInDim S6272x1024 32 1),
    TRef.nullary (TRef.of (T := ⟨S_, .f32⟩) main_call5_cst) (constant S_ .f32 0x7F800000#32),
    TRef.nullary (TRef.of (T := ⟨S_, .i32⟩) main_call5_c) (constantI S_ 32 0#32),
    TRef.quaternary (TRef.of (T := ⟨S6272x1024, .f32⟩) main_v80) (TRef.of (T := ⟨S6272x1024, .i32⟩) main_call5_v0) (TRef.of (T := ⟨S_, .f32⟩) main_call5_cst) (TRef.of (T := ⟨S_, .i32⟩) main_call5_c) (TRef.of (T := ⟨S6272, .f32⟩) main_call5_v1_0) (fun x y u v => fun j => (Host.argReduce reducer_argmin_f32_i32 x y u v reducesTo_S6272x1024_S6272_d1 h_S_ j).1),
    TRef.quaternary (TRef.of (T := ⟨S6272x1024, .f32⟩) main_v80) (TRef.of (T := ⟨S6272x1024, .i32⟩) main_call5_v0) (TRef.of (T := ⟨S_, .f32⟩) main_call5_cst) (TRef.of (T := ⟨S_, .i32⟩) main_call5_c) (TRef.of (T := ⟨S6272, .i32⟩) main_v81) (fun x y u v => fun j => (Host.argReduce reducer_argmin_f32_i32 x y u v reducesTo_S6272x1024_S6272_d1 h_S_ j).2) ]

/-- The nearest codes. -/
abbrev opsQ3 : List (HloOp τ sig (Elt F)) :=
  [ TRef.nullary (TRef.of (T := ⟨S_, .i32⟩) main_call6_c) (constantI S_ 32 0#32),
    TRef.unary (TRef.of (T := ⟨S_, .i32⟩) main_call6_c) (TRef.of (T := ⟨S6272, .i32⟩) main_call6_v0) (broadcastInDim S6272 ![] bcast_S_S6272),
    TRef.binary (TRef.of (T := ⟨S6272, .i32⟩) main_v81) (TRef.of (T := ⟨S6272, .i32⟩) main_call6_v0) (TRef.of (T := ⟨S6272, .i1⟩) main_call6_v1) (cmpi .slt),
    TRef.nullary (TRef.of (T := ⟨S_, .i32⟩) main_call6_c_0) (constantI S_ 32 1024#32),
    TRef.unary (TRef.of (T := ⟨S_, .i32⟩) main_call6_c_0) (TRef.of (T := ⟨S6272, .i32⟩) main_call6_v2) (broadcastInDim S6272 ![] bcast_S_S6272),
    TRef.binary (TRef.of (T := ⟨S6272, .i32⟩) main_v81) (TRef.of (T := ⟨S6272, .i32⟩) main_call6_v2) (TRef.of (T := ⟨S6272, .i32⟩) main_call6_v3) addi,
    TRef.ternary (TRef.of (T := ⟨S6272, .i1⟩) main_call6_v1) (TRef.of (T := ⟨S6272, .i32⟩) main_call6_v3) (TRef.of (T := ⟨S6272, .i32⟩) main_v81) (TRef.of (T := ⟨S6272, .i32⟩) main_call6_v4) select,
    TRef.unary (TRef.of (T := ⟨S6272, .i32⟩) main_call6_v4) (TRef.of (T := ⟨S6272x1, .i32⟩) main_call6_v5) (broadcastInDim S6272x1 ![0] bcast_S6272_S6272x1_0),
    TRef.nullary (TRef.of (T := ⟨S1, .i32⟩) main_call6_c_1) (constantI S1 32 1023#32),
    TRef.nullary (TRef.of (T := ⟨S_, .i32⟩) main_call6_c_2) (constantI S_ 32 0#32),
    TRef.unary (TRef.of (T := ⟨S_, .i32⟩) main_call6_c_2) (TRef.of (T := ⟨S6272x1, .i32⟩) main_call6_v6) (broadcastInDim S6272x1 ![] bcast_S_S6272x1),
    TRef.binary (TRef.of (T := ⟨S6272x1, .i32⟩) main_call6_v5) (TRef.of (T := ⟨S6272x1, .i32⟩) main_call6_v6) (TRef.of (T := ⟨S6272x1, .i1⟩) main_call6_v7) (cmpi .sge),
    TRef.unary (TRef.of (T := ⟨S1, .i32⟩) main_call6_c_1) (TRef.of (T := ⟨S1x1, .i32⟩) main_call6_v8) (broadcastInDim S1x1 ![1] bcast_S1_S1x1_1),
    TRef.unary (TRef.of (T := ⟨S1x1, .i32⟩) main_call6_v8) (TRef.of (T := ⟨S6272x1, .i32⟩) main_call6_v9) (broadcastInDim S6272x1 ![0, 1] bcast_S1x1_S6272x1_0_1),
    TRef.binary (TRef.of (T := ⟨S6272x1, .i32⟩) main_call6_v5) (TRef.of (T := ⟨S6272x1, .i32⟩) main_call6_v9) (TRef.of (T := ⟨S6272x1, .i1⟩) main_call6_v10) (cmpi .sle),
    TRef.binary (TRef.of (T := ⟨S6272x1, .i1⟩) main_call6_v7) (TRef.of (T := ⟨S6272x1, .i1⟩) main_call6_v10) (TRef.of (T := ⟨S6272x1, .i1⟩) main_call6_v11) andi,
    TRef.nullary (TRef.of (T := ⟨S_, .i1⟩) main_call6_c_3) (constantI S_ 1 1#1),
    TRef.binary (TRef.of (T := ⟨S6272x1, .i1⟩) main_call6_v11) (TRef.of (T := ⟨S_, .i1⟩) main_call6_c_3) (TRef.of (T := ⟨S6272, .i1⟩) main_call6_v12) (fun x v => Host.reduce IntOp.andi x v reducesTo_S6272x1_S6272_d1 h_S_),
    TRef.binary (TRef.of (T := ⟨S1024x64, .f32⟩) main_arg7) (TRef.of (T := ⟨S6272x1, .i32⟩) main_call6_v5) (TRef.of (T := ⟨S6272x64, .f32⟩) main_call6_v13) (fun x i => Host.gather gather_S1024x64_S6272x1_S6272x64_1_0_n_n_0_1_164 x i),
    TRef.unary (TRef.of (T := ⟨S6272, .i1⟩) main_call6_v12) (TRef.of (T := ⟨S6272x64, .i1⟩) main_call6_v14) (broadcastInDim S6272x64 ![0] bcast_S6272_S6272x64_0),
    TRef.nullary (TRef.of (T := ⟨S_, .f32⟩) main_call6_cst) (constant S_ .f32 0x7FC00000#32),
    TRef.unary (TRef.of (T := ⟨S_, .f32⟩) main_call6_cst) (TRef.of (T := ⟨S6272x64, .f32⟩) main_call6_v15) (broadcastInDim S6272x64 ![] bcast_S_S6272x64),
    TRef.ternary (TRef.of (T := ⟨S6272x64, .i1⟩) main_call6_v14) (TRef.of (T := ⟨S6272x64, .f32⟩) main_call6_v13) (TRef.of (T := ⟨S6272x64, .f32⟩) main_call6_v15) (TRef.of (T := ⟨S6272x64, .f32⟩) main_v82) select ]

/-- The losses and the straight-through sum. -/
abbrev opsQ4 : List (HloOp τ sig (Elt F)) :=
  [ reshape main_v82 main_v83 (rfl : (.f32 : EltTy) = .f32) shapeCasts_S6272x64_S8x28x28x64,
    unary main_v83 main_v84 ((transpose S8x64x28x28 [0, 3, 1, 2] · transposes_S8x28x28x64_S8x64x28x28_0_3_1_2) : (⟨S8x28x28x64, .f32⟩ : BufTy).Contents (Elt F) → (⟨S8x64x28x28, .f32⟩ : BufTy).Contents (Elt F)),
    binary main_v84 main_v64 main_v85 (subf : (⟨S8x64x28x28, .f32⟩ : BufTy).Contents (Elt F) → (⟨S8x64x28x28, .f32⟩ : BufTy).Contents (Elt F) → (⟨S8x64x28x28, .f32⟩ : BufTy).Contents (Elt F)),
    binary main_v85 main_v85 main_v86 (mulf : (⟨S8x64x28x28, .f32⟩ : BufTy).Contents (Elt F) → (⟨S8x64x28x28, .f32⟩ : BufTy).Contents (Elt F) → (⟨S8x64x28x28, .f32⟩ : BufTy).Contents (Elt F)),
    nullary main_cst_4 (constant S_ .f32 0x00000000#32),
    binary main_v86 main_cst_4 main_v87 ((fun x v => Host.reduceAdd x v reducesTo_S8x64x28x28_S_d0_1_2_3 h_S_) : (⟨S8x64x28x28, .f32⟩ : BufTy).Contents (Elt F) → (⟨S_, .f32⟩ : BufTy).Contents (Elt F) → (⟨S_, .f32⟩ : BufTy).Contents (Elt F)),
    nullary main_cst_5 (constant S_ .f32 0x48C40000#32),
    binary main_v87 main_cst_5 main_v88 (Host.divf : (⟨S_, .f32⟩ : BufTy).Contents (Elt F) → (⟨S_, .f32⟩ : BufTy).Contents (Elt F) → (⟨S_, .f32⟩ : BufTy).Contents (Elt F)),
    binary main_v84 main_v64 main_v89 (subf : (⟨S8x64x28x28, .f32⟩ : BufTy).Contents (Elt F) → (⟨S8x64x28x28, .f32⟩ : BufTy).Contents (Elt F) → (⟨S8x64x28x28, .f32⟩ : BufTy).Contents (Elt F)),
    binary main_v89 main_v89 main_v90 (mulf : (⟨S8x64x28x28, .f32⟩ : BufTy).Contents (Elt F) → (⟨S8x64x28x28, .f32⟩ : BufTy).Contents (Elt F) → (⟨S8x64x28x28, .f32⟩ : BufTy).Contents (Elt F)),
    nullary main_cst_6 (constant S_ .f32 0x00000000#32),
    binary main_v90 main_cst_6 main_v91 ((fun x v => Host.reduceAdd x v reducesTo_S8x64x28x28_S_d0_1_2_3 h_S_) : (⟨S8x64x28x28, .f32⟩ : BufTy).Contents (Elt F) → (⟨S_, .f32⟩ : BufTy).Contents (Elt F) → (⟨S_, .f32⟩ : BufTy).Contents (Elt F)),
    nullary main_cst_7 (constant S_ .f32 0x48C40000#32),
    binary main_v91 main_cst_7 main_v92 (Host.divf : (⟨S_, .f32⟩ : BufTy).Contents (Elt F) → (⟨S_, .f32⟩ : BufTy).Contents (Elt F) → (⟨S_, .f32⟩ : BufTy).Contents (Elt F)),
    nullary main_cst_8 (constant S_ .f32 0x3E800000#32),
    binary main_cst_8 main_v92 main_v93 (mulf : (⟨S_, .f32⟩ : BufTy).Contents (Elt F) → (⟨S_, .f32⟩ : BufTy).Contents (Elt F) → (⟨S_, .f32⟩ : BufTy).Contents (Elt F)),
    binary main_v88 main_v93 main_v94 (addf : (⟨S_, .f32⟩ : BufTy).Contents (Elt F) → (⟨S_, .f32⟩ : BufTy).Contents (Elt F) → (⟨S_, .f32⟩ : BufTy).Contents (Elt F)),
    binary main_v84 main_v64 main_v95 (subf : (⟨S8x64x28x28, .f32⟩ : BufTy).Contents (Elt F) → (⟨S8x64x28x28, .f32⟩ : BufTy).Contents (Elt F) → (⟨S8x64x28x28, .f32⟩ : BufTy).Contents (Elt F)),
    binary main_v64 main_v95 main_v96 (addf : (⟨S8x64x28x28, .f32⟩ : BufTy).Contents (Elt F) → (⟨S8x64x28x28, .f32⟩ : BufTy).Contents (Elt F) → (⟨S8x64x28x28, .f32⟩ : BufTy).Contents (Elt F)) ]

variable (V : Valuation τ sig (Elt Ideal))

/-- The stage's result, part by part. -/
theorem after_opsQ : after opsQ V = after opsQ4 (after opsQ3 (after opsQ2 (after opsQ1 V))) := rfl

/-- The distances. -/
theorem q1 (z : Arr) (C : ℕ → ℕ → EReal) (hz : Is4 8 64 28 28 (V (Proc.devRef .tc main_v64)) z)
    (hC : Is2 1024 64 (V (Proc.devRef .tc main_arg7)) C) (r : Fin 6272) (j : Fin 1024) :
    after opsQ1 V (Proc.devRef .tc main_v80) (ix2 r j) = fullDist (rows 28 28 z r) C j := by
  after_reads_at
  simp only [hz, hC, two_f32]
  rfl

/-- One step of the least pair's search, by cases. -/
theorem reducer_eq (a b : EReal × BitVec 32) : reducer_argmin_f32_i32 (F := Ideal) a b
    = (if a.1 < b.1 then a.1 else b.1, if a.1 < b.1 ∨ a.1 = b.1 ∧ a.2.toInt < b.2.toInt then a.2 else b.2) := by
  have e1 : FloatOps.cmpf (F := Ideal) (φ := .f32) .olt a.1 b.1 = BitVec.ofBool (decide (a.1 < b.1)) := rfl
  have e2 : FloatOps.cmpf (F := Ideal) (φ := .f32) .oeq a.1 b.1 = BitVec.ofBool (decide (a.1 = b.1)) := rfl
  have e3 : FloatOps.cmpf (F := Ideal) (φ := .f32) .une a.1 a.1 = 0#1 := by simp [Ideal.cmpf_def, Ideal.cmp]
  have e4 : IntOp.cmpi .slt a.2 b.2 = BitVec.ofBool (decide (a.2.toInt < b.2.toInt)) := rfl
  show (Scalar.select (IntOp.ori (FloatOps.cmpf (F := Ideal) (φ := .f32) .olt a.1 b.1) (FloatOps.cmpf (F := Ideal) (φ := .f32) .une a.1 a.1)) a.1 b.1,
    Scalar.select (IntOp.ori (IntOp.ori (FloatOps.cmpf (F := Ideal) (φ := .f32) .olt a.1 b.1) (FloatOps.cmpf (F := Ideal) (φ := .f32) .une a.1 a.1))
      (IntOp.andi (FloatOps.cmpf (F := Ideal) (φ := .f32) .oeq a.1 b.1) (IntOp.cmpi .slt a.2 b.2))) a.2 b.2) = _
  rw [e1, e2, e3, e4]
  by_cases h1 : a.1 < b.1 <;> by_cases h2 : a.1 = b.1 <;> by_cases h3 : a.2.toInt < b.2.toInt <;>
    simp [IntOp.ori, IntOp.andi, Scalar.select, h1, h2, h3]

/-- The integer a position's number stands for. -/
theorem toInt_ofNat (n : ℕ) (hn : n < 1024) : (BitVec.ofNat 32 n).toInt = n := by
  rw [BitVec.toInt_ofNat', Int.bmod_def]; omega

/-- The search over a list that holds the first least pair, and only pairs of values and their positions, ends at it. -/
theorem foldl_reducer {d : Fin 1024 → EReal} {i : Fin 1024} (h : FirstMin d i) (l : List (EReal × BitVec 32)) :
    ∀ acc : EReal × BitVec 32, (acc = (⊤, 0#32) ∨ ∃ j, acc = (d j, BitVec.ofNat 32 j.val)) →
      (∀ p ∈ l, ∃ j : Fin 1024, p = (d j, BitVec.ofNat 32 j.val)) →
      (acc = (d i, BitVec.ofNat 32 i.val) ∨ (d i, BitVec.ofNat 32 i.val) ∈ l) →
      l.foldl (reducer_argmin_f32_i32 (F := Ideal)) acc = (d i, BitVec.ofNat 32 i.val) := by
  induction l with
  | nil =>
    intro acc _ _ hm
    rcases hm with hm | hm
    · exact hm
    · exact absurd hm List.not_mem_nil
  | cons p l ih =>
    intro acc ha hp hm
    rw [List.foldl_cons]
    obtain ⟨j, hj⟩ := hp p List.mem_cons_self
    have hp' : ∀ q ∈ l, ∃ j : Fin 1024, q = (d j, BitVec.ofNat 32 j.val) := fun q hq => hp q (List.mem_cons_of_mem _ hq)
    -- the step keeps one of its two arguments
    have hstep : reducer_argmin_f32_i32 (F := Ideal) acc p = acc ∨ reducer_argmin_f32_i32 (F := Ideal) acc p = p := by
      rw [reducer_eq]
      by_cases h1 : acc.1 < p.1
      · left; simp [h1]
      · by_cases h2 : acc.1 = p.1 ∧ acc.2.toInt < p.2.toInt
        · left; rw [if_neg h1, if_pos (Or.inr h2), ← h2.1]
        · right; rw [if_neg h1, if_neg (by tauto)]
    refine ih _ ?_ hp' ?_
    · rcases hstep with e | e
      · rw [e]; exact ha
      · rw [e]; exact Or.inr ⟨j, hj⟩
    · rcases hm with hm | hm
      · left
        subst hm hj
        rw [reducer_eq]
        rcases lt_trichotomy i j with hij | hij | hij
        · rcases lt_or_eq_of_le (h.1 j) with hl | hl
          · simp [hl]
          · have h3 : (i.val : ℤ) < j.val := by exact_mod_cast hij
            simp [hl, toInt_ofNat _ i.isLt, toInt_ofNat _ j.isLt, h3]
        · subst hij; simp
        · simp [h.2 j hij]
      · rcases List.mem_cons.mp hm with hm | hm
        · left
          rw [← hm, reducer_eq]
          rcases ha with ha | ⟨j', ha⟩
          · subst ha
            have h1 : ¬ (⊤ : EReal) < d i := not_top_lt
            by_cases h2 : (⊤ : EReal) = d i
            · have hi0 : i = ⟨0, by omega⟩ := by
                by_contra hne
                have h0 : (⟨0, by omega⟩ : Fin 1024) < i := by
                  rw [Fin.lt_def]; show 0 < i.val
                  exact Nat.pos_of_ne_zero fun e => hne (Fin.ext e)
                exact absurd (h.2 _ h0) (by rw [← h2]; exact not_top_lt)
              simp [h1, hi0]
            · simp [h1, h2]
          · subst ha
            have h1 : ¬ d j' < d i := not_lt.mpr (h.1 j')
            by_cases h2 : d j' = d i ∧ (j'.val : ℤ) < i.val
            · exact absurd (h.2 j' (by rw [Fin.lt_def]; exact_mod_cast h2.2)) (by rw [h2.1]; exact lt_irrefl _)
            · simp only [h1, if_false, toInt_ofNat _ i.isLt, toInt_ofNat _ j'.isLt, h2, or_self]
        · exact Or.inr hm

/-- The numbers of the nearest codes. -/
theorem q2 (d : Fin 6272 → Fin 1024 → EReal) (i : Fin 6272 → Fin 1024) (hd : ∀ r j, V (Proc.devRef .tc main_v80) (ix2 r j) = d r j)
    (hi : ∀ r, FirstMin (d r) (i r)) (r : Fin 6272) :
    after opsQ2 V (Proc.devRef .tc main_v81) (ix1 r) = BitVec.ofNat 32 (i r).val := by
  after_reads_at
  have hm : ∀ j : Fin 1024, (V (Proc.devRef .tc main_v80) (ix2 r j), (iotaInDim S6272x1024 32 1) (ix2 r j)) = (d r j, BitVec.ofNat 32 j.val) := by
    intro j
    rw [hd]
    rfl
  rw [Ideal.argReduce_eq_reduce2, Host.reduce2_eq_foldl_fiber, foldl_reducer (hi r)]
  · left
    refine Prod.ext ?_ rfl
    exact inf_f32
  · intro p hp
    unfold Host.argReduceFiber at hp
    obtain ⟨n, hn, rfl⟩ := List.mem_map.mp hp
    obtain ⟨k, hk⟩ := (Shape.ReducesTo.fiber_r2_a1 _ _ _).mp (of_decide_eq_true (List.mem_filter.mp hn).2)
    refine ⟨k, ?_⟩
    rw [← hk]
    exact hm k
  · right
    unfold Host.argReduceFiber
    refine List.mem_map.mpr ⟨S6272x1024.rowMajor (ix2 r (i r)), List.mem_filter.mpr ⟨List.mem_finRange _, decide_eq_true ?_⟩, ?_⟩
    · rw [Equiv.symm_apply_apply]
      exact (Shape.ReducesTo.fiber_r2_a1 _ _ _).mpr ⟨i r, rfl⟩
    · rw [Equiv.symm_apply_apply]
      exact hm (i r)

/-- A position's number, wrapped as an index is, is itself. -/
theorem wrap_ofNat (n : ℕ) (hn : n < 1024) : Scalar.select (IntOp.cmpi .slt (BitVec.ofNat 32 n) 0#32)
    (IntOp.addi (BitVec.ofNat 32 n) 1024#32) (BitVec.ofNat 32 n) = BitVec.ofNat 32 n := by
  have : IntOp.cmpi .slt (BitVec.ofNat 32 n) 0#32 = 0#1 := by
    show BitVec.ofBool (decide ((BitVec.ofNat 32 n).toInt < (0#32 : BitVec 32).toInt)) = 0#1
    rw [toInt_ofNat n hn, show (0#32 : BitVec 32).toInt = 0 from rfl, decide_eq_false (by omega)]
    rfl
  rw [this]
  rfl

/-- A position's number is within the table. -/
theorem bounds_ofNat (n : ℕ) (hn : n < 1024) : IntOp.andi (IntOp.cmpi .sge (BitVec.ofNat 32 n) 0#32) (IntOp.cmpi .sle (BitVec.ofNat 32 n) 1023#32) = 1#1 := by
  have h1 : IntOp.cmpi .sge (BitVec.ofNat 32 n) 0#32 = 1#1 := by
    show BitVec.ofBool (decide ((0#32 : BitVec 32).toInt ≤ (BitVec.ofNat 32 n).toInt)) = 1#1
    rw [toInt_ofNat n hn, show (0#32 : BitVec 32).toInt = 0 from rfl, decide_eq_true (by omega)]
    rfl
  have h2 : IntOp.cmpi .sle (BitVec.ofNat 32 n) 1023#32 = 1#1 := by
    show BitVec.ofBool (decide ((BitVec.ofNat 32 n).toInt ≤ (1023#32 : BitVec 32).toInt)) = 1#1
    rw [toInt_ofNat n hn, show (1023#32 : BitVec 32).toInt = 1023 from rfl, decide_eq_true (by omega)]
    rfl
  rw [h1, h2]
  rfl

/-- The nearest codes. -/
theorem q3 (C : ℕ → ℕ → EReal) (i : Fin 6272 → Fin 1024) (hi : ∀ r, V (Proc.devRef .tc main_v81) (ix1 r) = BitVec.ofNat 32 (i r).val)
    (hC : Is2 1024 64 (V (Proc.devRef .tc main_arg7)) C) (r : Fin 6272) (k : Fin 64) :
    after opsQ3 V (Proc.devRef .tc main_v82) (ix2 r k) = C (i r) k := by
  after_reads_at
  simp only [hi, wrap_ofNat _ (i r).isLt, bounds_ofNat _ (i r).isLt]
  have hf : Finset.fold IntOp.andi (1#1) (fun _ : Fin 1 => (1#1 : BitVec 1)) Finset.univ = 1#1 := by decide
  rw [hf]
  show Host.gather _ _ _ _ = _
  rw [← hC]
  refine Routing.gather_row _ rfl rfl rfl rfl rfl _ _ r k (i r) ?_ (by decide)
  pointwise
  rw [hi, wrap_ofNat _ (i r).isLt]

/-- The codes' image. -/
theorem q4_codes (w : ℕ → ℕ → EReal) (hw : Is2 6272 64 (V (Proc.devRef .tc main_v82)) w) :
    Is4 8 64 28 28 (after opsQ4 V (Proc.devRef .tc main_v84)) (codes w) := by
  intro a b c d
  after_reads_at
  exact hw _ _

/-- The straight-through sum. -/
theorem q4_through (w : ℕ → ℕ → EReal) (z : Arr) (hw : Is2 6272 64 (V (Proc.devRef .tc main_v82)) w)
    (hz : Is4 8 64 28 28 (V (Proc.devRef .tc main_v64)) z) :
    Is4 8 64 28 28 (after opsQ4 V (Proc.devRef .tc main_v96)) (fun n c y x => z n c y x + (codes w n c y x - z n c y x)) := by
  intro a b c d
  after_reads_at
  simp only [hw, hz]
  rfl

/-- A sum over all positions of an array of four axes, axis by axis. -/
theorem sum_all (X : S8x64x28x28.Idx → EReal) (i : S_.Idx) :
    Ideal.hostReduceAdd reducesTo_S8x64x28x28_S_d0_1_2_3 X 0 i = ∑ n : Fin 8, ∑ c : Fin 64, ∑ y : Fin 28, ∑ x : Fin 28, X (ix4 n c y x) := by
  unfold Ideal.hostReduceAdd
  rw [zero_add, Finset.filter_true_of_mem (fun _ _ => funext fun a => a.elim0)]
  exact sum_idx4 X

/-- The loss. -/
theorem q4_loss (w : ℕ → ℕ → EReal) (z : Arr) (hw : Is2 6272 64 (V (Proc.devRef .tc main_v82)) w)
    (hz : Is4 8 64 28 28 (V (Proc.devRef .tc main_v64)) z) :
    after opsQ4 V (Proc.devRef .tc main_v94) = ((fun _ => loss (∑ n : Fin 8, ∑ c : Fin 64, ∑ y : Fin 28, ∑ x : Fin 28,
      (codes w n c y x - z n c y x) * (codes w n c y x - z n c y x))) : FVec Ideal S_ .f32) := by
  funext i
  after_reads_at
  rw [sum_all]
  pointwise
  simp only [hw, hz]
  rfl

end Cert.ReferenceIdeal.Run

end
-- ==== Proof.Ref.Net.lean ====
/- What the reference program leaves: the decoded image, the codes' image, the loss. -/
module

public import proofs.«01_k».proof.Proof.Ref.Run
public import proofs.«01_k».proof.Proof.Ref.Enc
public import proofs.«01_k».proof.Proof.Ref.Dec
public import proofs.«01_k».proof.Proof.Ref.Vq
public import proofs.«01_k».proof.Proof.Net

@[expose] public section

set_option maxRecDepth 8192

noncomputable section

namespace Cert.ReferenceIdeal.Run

open Cert.ReferenceIdeal Cert.ReferenceIdeal.Gen Idealize.ShloMosaic Idealize.ShloMosaic.TcCoe Idealize.SL.Sem
open Idealize.ShloMosaic.StableHlo
open Cert.Spec

section Quantization

variable (V : Valuation τ sig (Elt Ideal))

/-- The first three parts leave the encoder's result … -/
theorem keep_z : after opsQ3 (after opsQ2 (after opsQ1 V)) (Proc.devRef .tc main_v64) = V (Proc.devRef .tc main_v64) := by
  after_reads_simp

/-- … and the first two the table. -/
theorem keep_table : after opsQ2 (after opsQ1 V) (Proc.devRef .tc main_arg7) = V (Proc.devRef .tc main_arg7) := by
  after_reads_simp

variable {z : Arr} {C : ℕ → ℕ → EReal} (hz : Is4 8 64 28 28 (V (Proc.devRef .tc main_v64)) z)
  (hC : Is2 1024 64 (V (Proc.devRef .tc main_arg7)) C) (rz : Reals z) (rC : ∀ j k, IsReal (C j k))
include hz hC rz rC

/-- The nearest codes' rows. -/
theorem picked : Is2 6272 64 (after opsQ3 (after opsQ2 (after opsQ1 V)) (Proc.devRef .tc main_v82)) (quant (rows 28 28 z) C) := by
  have h2 := q2 (after opsQ1 V) (fun r => fullDist (rows 28 28 z r) C) (fun r => pick (rows 28 28 z r) C)
    (fun r j => q1 V z C hz hC r j) fun r => fullDist_firstMin (fun k => rz _ _ _ _) rC
  exact q3 (after opsQ2 (after opsQ1 V)) C _ h2 (by rw [keep_table]; exact hC)

/-- The straight-through sum is the codes' image. -/
theorem through : Is4 8 64 28 28 (after opsQ V (Proc.devRef .tc main_v96)) (nearest z C) := fun a b c d => by
  rw [after_opsQ]
  refine (q4_through (after opsQ3 (after opsQ2 (after opsQ1 V))) _ z (picked V hz hC rz rC) (by rw [keep_z]; exact hz) a b c d).trans ?_
  exact add_sub_self (rz _ _ _ _) (rC _ _)

/-- The loss is that of the squared differences' sum. -/
theorem lost : after opsQ V (Proc.devRef .tc main_v94) = ((fun _ => loss (sqErr z C)) : FVec Ideal S_ .f32) := by
  rw [after_opsQ]
  exact q4_loss (after opsQ3 (after opsQ2 (after opsQ1 V))) _ z (picked V hz hC rz rC) (by rw [keep_z]; exact hz)

end Quantization

variable (m : (ℓ : Loc nD τ sig) → Buf (Elt Ideal) ℓ) (c : Dev nD)
variable {x w1 w2 w3 w4 w5 w6 : Arr} {C : ℕ → ℕ → EReal}

/-- The encoder's result. -/
theorem encoded (h0 : Is4 8 3 224 224 (m ((c : Thread nD τ).loc main_arg0)) x) (h1 : Is4 96 3 4 4 (m ((c : Thread nD τ).loc main_arg1)) w1)
    (h2 : Is4 192 96 4 4 (m ((c : Thread nD τ).loc main_arg2)) w2) (h3 : Is4 64 192 4 4 (m ((c : Thread nD τ).loc main_arg3)) w3) :
    Is4 8 64 28 28 (Z3 m c (Proc.devRef .tc main_v64)) (enc x w1 w2 w3) := by
  have e1 := e1 (launchContents m c) x w1 h0 h1
  have e2 := e2 (Z1 m c) _ w2 e1 (by rw [Z1_of m c main_arg2 (by decide)]; exact h2)
  exact e3 (Z2 m c) _ w3 e2 (by rw [Z2_of m c main_arg3 (by decide), Z1_of m c main_arg3 (by decide)]; exact h3)

/-- The decoder's result. -/
theorem decoded {q : Arr} (hq : Is4 8 64 28 28 (Z4 m c (Proc.devRef .tc main_v96)) q)
    (h4 : Is4 192 64 4 4 (m ((c : Thread nD τ).loc main_arg4)) w4)
    (h5 : Is4 96 192 4 4 (m ((c : Thread nD τ).loc main_arg5)) w5) (h6 : Is4 3 96 4 4 (m ((c : Thread nD τ).loc main_arg6)) w6) :
    Is4 8 3 224 224 (Z7 m c (Proc.devRef .tc main_v161)) (dec q w4 w5 w6) := by
  have d1 := d1 (Z4 m c) q w4 hq (by
    rw [Z4_of m c main_arg4 (by decide), Z3_of m c main_arg4 (by decide), Z2_of m c main_arg4 (by decide), Z1_of m c main_arg4 (by decide)]
    exact h4)
  have d2 := d2 (Z5 m c) _ w5 d1 (by
    rw [Z5_of m c main_arg5 (by decide), Z4_of m c main_arg5 (by decide), Z3_of m c main_arg5 (by decide), Z2_of m c main_arg5 (by decide),
      Z1_of m c main_arg5 (by decide)]
    exact h5)
  exact d3 (Z6 m c) _ w6 d2 (by
    rw [Z6_of m c main_arg6 (by decide), Z5_of m c main_arg6 (by decide), Z4_of m c main_arg6 (by decide), Z3_of m c main_arg6 (by decide),
      Z2_of m c main_arg6 (by decide), Z1_of m c main_arg6 (by decide)]
    exact h6)

/-- The three results. -/
theorem results (h0 : Is4 8 3 224 224 (m ((c : Thread nD τ).loc main_arg0)) x) (h1 : Is4 96 3 4 4 (m ((c : Thread nD τ).loc main_arg1)) w1)
    (h2 : Is4 192 96 4 4 (m ((c : Thread nD τ).loc main_arg2)) w2) (h3 : Is4 64 192 4 4 (m ((c : Thread nD τ).loc main_arg3)) w3)
    (h4 : Is4 192 64 4 4 (m ((c : Thread nD τ).loc main_arg4)) w4) (h5 : Is4 96 192 4 4 (m ((c : Thread nD τ).loc main_arg5)) w5)
    (h6 : Is4 3 96 4 4 (m ((c : Thread nD τ).loc main_arg6)) w6) (h7 : Is2 1024 64 (m ((c : Thread nD τ).loc main_arg7)) C)
    (r0 : Reals x) (r1 : Reals w1) (r2 : Reals w2) (r3 : Reals w3) (r7 : ∀ j k, IsReal (C j k)) :
    Is4 8 3 224 224 (Z7 m c (Proc.devRef .tc main_v161)) (dec (nearest (enc x w1 w2 w3) C) w4 w5 w6)
      ∧ Is4 8 64 28 28 (Z7 m c (Proc.devRef .tc main_v96)) (nearest (enc x w1 w2 w3) C)
      ∧ Z7 m c (Proc.devRef .tc main_v94) = ((fun _ => loss (sqErr (enc x w1 w2 w3) C)) : FVec Ideal S_ .f32) := by
  have hz := encoded m c h0 h1 h2 h3
  have rz := Reals.enc r0 r1 r2 r3
  have hC : Is2 1024 64 (Z3 m c (Proc.devRef .tc main_arg7)) C := by
    rw [Z3_of m c main_arg7 (by decide), Z2_of m c main_arg7 (by decide), Z1_of m c main_arg7 (by decide)]
    exact h7
  have hq : Is4 8 64 28 28 (Z4 m c (Proc.devRef .tc main_v96)) (nearest (enc x w1 w2 w3) C) := through (Z3 m c) hz hC rz r7
  refine ⟨decoded m c hq h4 h5 h6, ?_, ?_⟩
  · rw [Z7_of m c main_v96 (by decide), Z6_of m c main_v96 (by decide), Z5_of m c main_v96 (by decide)]
    exact hq
  · rw [Z7_of m c main_v94 (by decide), Z6_of m c main_v94 (by decide), Z5_of m c main_v94 (by decide)]
    exact lost (Z3 m c) hz hC rz r7

end Cert.ReferenceIdeal.Run

end
-- ==== Proof.Finite.lean ====
/- Finite arguments hold reals. -/
module

public import proofs.«01_k».proof.Pre_finite
public import proofs.«01_k».proof.Proof.Net
public import Idealize.ShloMosaic.Lib.Pointwise

@[expose] public section

noncomputable section

namespace Cert.Spec

open Idealize.ShloMosaic

/-- The precondition's shape relations. -/
theorem finite_facts : Cert.Pre_finite.Facts where
  bcast_S_S8x3x224x224 := by decide
  bcast_S_S96x3x4x4 := by decide
  bcast_S_S192x96x4x4 := by decide
  bcast_S_S64x192x4x4 := by decide
  bcast_S_S192x64x4x4 := by decide
  bcast_S_S96x192x4x4 := by decide
  bcast_S_S3x96x4x4 := by decide
  bcast_S_S1024x64 := by decide

/-- An entry of absolute value below +∞ is real. -/
theorem isReal_of_abs_lt {e : EReal} (h : max e (-e) < ⊤) : IsReal e := by
  induction e with
  | bot => simp at h
  | coe r => exact ⟨r, rfl⟩
  | top => simp at h

/-- Entries that pass the precondition's test are real. -/
theorem isReal_of_test {s : Shape} (hb : (⟨0, ![]⟩ : Shape).BroadcastsInDim s (![] : Fin 0 → Fin s.rank)) (f : FVec Ideal s .f32)
    (h : cmpf .olt (Host.absf f) (broadcastInDim s ![] hb (constant ⟨0, ![]⟩ .f32 0x7F800000#32)) = fun _ => 1#1) (i : s.Idx) :
    IsReal (f i : EReal) := by
  have hi : BitVec.ofBool (decide (max (f i : EReal) (-(f i : EReal)) < Ideal.ofBits .f32 0x7F800000#32)) = 1#1 := congrFun h i
  rw [inf_f32] at hi
  refine isReal_of_abs_lt ?_
  by_contra hn
  rw [decide_eq_false hn] at hi
  exact absurd hi (by decide)

/-- A buffer of four axes as an array, zero outside its bounds. -/
def arr4 (n0 n1 n2 n3 : ℕ) (f : (⟨4, ![n0, n1, n2, n3]⟩ : Shape).Idx → EReal) : Arr := fun a b c d =>
  if h : a < n0 ∧ b < n1 ∧ c < n2 ∧ d < n3 then f (ix4 ⟨a, h.1⟩ ⟨b, h.2.1⟩ ⟨c, h.2.2.1⟩ ⟨d, h.2.2.2⟩) else 0

theorem is4_arr4 (n0 n1 n2 n3 : ℕ) (f : (⟨4, ![n0, n1, n2, n3]⟩ : Shape).Idx → EReal) : Is4 n0 n1 n2 n3 f (arr4 n0 n1 n2 n3 f) :=
  fun a b c d => by
    unfold arr4
    rw [dif_pos ⟨a.isLt, b.isLt, c.isLt, d.isLt⟩]

theorem reals_arr4 {n0 n1 n2 n3 : ℕ} {f : (⟨4, ![n0, n1, n2, n3]⟩ : Shape).Idx → EReal} (hf : ∀ i, IsReal (f i)) :
    Reals (arr4 n0 n1 n2 n3 f) := fun a b c d => by
  unfold arr4
  split_ifs
  · exact hf _
  · exact IsReal.zero

/-- A buffer of two axes as a table, zero outside its bounds. -/
def arr2 (n0 n1 : ℕ) (f : (⟨2, ![n0, n1]⟩ : Shape).Idx → EReal) : ℕ → ℕ → EReal := fun a b =>
  if h : a < n0 ∧ b < n1 then f (ix2 ⟨a, h.1⟩ ⟨b, h.2⟩) else 0

theorem is2_arr2 (n0 n1 : ℕ) (f : (⟨2, ![n0, n1]⟩ : Shape).Idx → EReal) : Is2 n0 n1 f (arr2 n0 n1 f) :=
  fun a b => by
    unfold arr2
    rw [dif_pos ⟨a.isLt, b.isLt⟩]

theorem isReal_arr2 {n0 n1 : ℕ} {f : (⟨2, ![n0, n1]⟩ : Shape).Idx → EReal} (hf : ∀ i, IsReal (f i)) (a b : ℕ) :
    IsReal (arr2 n0 n1 f a b) := by
  unfold arr2
  split_ifs
  · exact hf _
  · exact IsReal.zero

/-- Two buffers that hold the same array are the same. -/
theorem Is4.unique {n0 n1 n2 n3 : ℕ} {f g : (⟨4, ![n0, n1, n2, n3]⟩ : Shape).Idx → EReal} {X : Arr} (hf : Is4 n0 n1 n2 n3 f X)
    (hg : Is4 n0 n1 n2 n3 g X) : f = g := funext fun i => by
  rw [eq_ix4 i]
  exact (hf _ _ _ _).trans (hg _ _ _ _).symm

end Cert.Spec

end
-- ==== Proof.Algebraic.lean ====
/- The kernel and the reference, at exact values, leave the same results. -/
module

public import proofs.«01_k».proof.Proof.Run.Frame
public import proofs.«01_k».proof.Proof.Run.NetDec
public import proofs.«01_k».proof.Proof.Ref.Net
public import proofs.«01_k».proof.Proof.Finite
public import proofs.«01_k».proof.Proof.Gen.KernelIdeal
public import proofs.«01_k».proof.Proof.Gen.ReferenceIdeal

@[expose] public section

set_option maxRecDepth 8192

noncomputable section

namespace Cert.Proof

open Idealize.ShloMosaic Idealize.ShloMosaic.TcCoe Idealize.SL.Sem Cert.Spec

attribute [local instance] Cert.KernelIdeal.Gen.facts Cert.ReferenceIdeal.Gen.facts

/-- The reference's frame. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
        ∧ r.2.sem = fun _ => 0) :=
  (θ_run Cert.ReferenceIdeal.defs _ _).mono (fun _ h => ⟨fun c =>
    ⟨(h.1 c _).trans (Cert.ReferenceIdeal.Run.Z7_arg m c Cert.ReferenceIdeal.main_arg0 (by decide)),
      (h.1 c _).trans (Cert.ReferenceIdeal.Run.Z7_arg m c Cert.ReferenceIdeal.main_arg1 (by decide)),
      (h.1 c _).trans (Cert.ReferenceIdeal.Run.Z7_arg m c Cert.ReferenceIdeal.main_arg2 (by decide)),
      (h.1 c _).trans (Cert.ReferenceIdeal.Run.Z7_arg m c Cert.ReferenceIdeal.main_arg3 (by decide)),
      (h.1 c _).trans (Cert.ReferenceIdeal.Run.Z7_arg m c Cert.ReferenceIdeal.main_arg4 (by decide)),
      (h.1 c _).trans (Cert.ReferenceIdeal.Run.Z7_arg m c Cert.ReferenceIdeal.main_arg5 (by decide)),
      (h.1 c _).trans (Cert.ReferenceIdeal.Run.Z7_arg m c Cert.ReferenceIdeal.main_arg6 (by decide)),
      (h.1 c _).trans (Cert.ReferenceIdeal.Run.Z7_arg m c Cert.ReferenceIdeal.main_arg7 (by decide))⟩, h.2⟩)
    (Cert.ReferenceIdeal.Run.run m ρ)

/-- The two programs' arguments are the same arrays. -/
def SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
    @Eq (FVec Ideal Cert.KernelIdeal.S8x3x224x224 .f32) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
    ∧ @Eq (FVec Ideal Cert.KernelIdeal.S96x3x4x4 .f32) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
    ∧ @Eq (FVec Ideal Cert.KernelIdeal.S192x96x4x4 .f32) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
    ∧ @Eq (FVec Ideal Cert.KernelIdeal.S64x192x4x4 .f32) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
    ∧ @Eq (FVec Ideal Cert.KernelIdeal.S192x64x4x4 .f32) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
    ∧ @Eq (FVec Ideal Cert.KernelIdeal.S96x192x4x4 .f32) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
    ∧ @Eq (FVec Ideal Cert.KernelIdeal.S3x96x4x4 .f32) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
    ∧ @Eq (FVec Ideal Cert.KernelIdeal.S1024x64 .f32) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))

/-- The arguments that reach the codes hold reals. -/
def RealArgs (m : (ℓ : Loc Cert.KernelIdeal.nD Cert.KernelIdeal.τ Cert.KernelIdeal.sig) → Buf (Elt Ideal) ℓ) : Prop :=
  ∀ c : Dev Cert.KernelIdeal.nD,
    (∀ i, IsReal ((m ((c.tc : Thread Cert.KernelIdeal.nD Cert.KernelIdeal.τ).loc Cert.KernelIdeal.main_arg0) : FVec Ideal Cert.KernelIdeal.S8x3x224x224 .f32) i))
    ∧ (∀ i, IsReal ((m ((c.tc : Thread Cert.KernelIdeal.nD Cert.KernelIdeal.τ).loc Cert.KernelIdeal.main_arg1) : FVec Ideal Cert.KernelIdeal.S96x3x4x4 .f32) i))
    ∧ (∀ i, IsReal ((m ((c.tc : Thread Cert.KernelIdeal.nD Cert.KernelIdeal.τ).loc Cert.KernelIdeal.main_arg2) : FVec Ideal Cert.KernelIdeal.S192x96x4x4 .f32) i))
    ∧ (∀ i, IsReal ((m ((c.tc : Thread Cert.KernelIdeal.nD Cert.KernelIdeal.τ).loc Cert.KernelIdeal.main_arg3) : FVec Ideal Cert.KernelIdeal.S64x192x4x4 .f32) i))
    ∧ (∀ i, IsReal ((m ((c.tc : Thread Cert.KernelIdeal.nD Cert.KernelIdeal.τ).loc Cert.KernelIdeal.main_arg7) : FVec Ideal Cert.KernelIdeal.S1024x64 .f32) i))

/-- Both programs end, with the same results and with their arguments as they were. -/
def SameResults (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg) : Prop :=
  ∃ (v0 : (c : Dev Cert.KernelIdeal.nD) → Buf (Elt Ideal) ((c.tc : Thread Cert.KernelIdeal.nD Cert.KernelIdeal.τ).loc Cert.KernelIdeal.main_v271)) (v1 : (c : Dev Cert.KernelIdeal.nD) → Buf (Elt Ideal) ((c.tc : Thread Cert.KernelIdeal.nD Cert.KernelIdeal.τ).loc Cert.KernelIdeal.main_v272))
    (v2 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v271) = v0 c
          ∧ r.2.mem ((c.tc : Thread Cert.KernelIdeal.nD Cert.KernelIdeal.τ).loc Cert.KernelIdeal.main_v272) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

section Values

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ)

/-- From finite arguments, the same in both programs, the three results are the same. -/
theorem results_eq (hr : RealArgs m) (ha : SameArgs m m') (c : Dev Cert.KernelIdeal.nD) :
    Cert.ReferenceIdeal.Run.Z7 m' c (Proc.devRef .tc Cert.ReferenceIdeal.main_v161) = Cert.KernelIdeal.Run.W29 m g c (Proc.devRef .tc Cert.KernelIdeal.main_v271)
      ∧ Cert.ReferenceIdeal.Run.Z7 m' c (Proc.devRef .tc Cert.ReferenceIdeal.main_v96) = Cert.KernelIdeal.Run.W29 m g c (Proc.devRef .tc Cert.KernelIdeal.main_v272)
      ∧ Cert.ReferenceIdeal.Run.Z7 m' c (Proc.devRef .tc Cert.ReferenceIdeal.main_v94) = Cert.KernelIdeal.Run.W29 m g c (Proc.devRef .tc Cert.KernelIdeal.main_v65) := by
  obtain ⟨a0, a1, a2, a3, a4, a5, a6, a7⟩ := ha c
  obtain ⟨f0, f1, f2, f3, f7⟩ := hr c
  have i0 := is4_arr4 8 3 224 224 (m ((c.tc : Thread Cert.KernelIdeal.nD Cert.KernelIdeal.τ).loc Cert.KernelIdeal.main_arg0))
  have i1 := is4_arr4 96 3 4 4 (m ((c.tc : Thread Cert.KernelIdeal.nD Cert.KernelIdeal.τ).loc Cert.KernelIdeal.main_arg1))
  have i2 := is4_arr4 192 96 4 4 (m ((c.tc : Thread Cert.KernelIdeal.nD Cert.KernelIdeal.τ).loc Cert.KernelIdeal.main_arg2))
  have i3 := is4_arr4 64 192 4 4 (m ((c.tc : Thread Cert.KernelIdeal.nD Cert.KernelIdeal.τ).loc Cert.KernelIdeal.main_arg3))
  have i4 := is4_arr4 192 64 4 4 (m ((c.tc : Thread Cert.KernelIdeal.nD Cert.KernelIdeal.τ).loc Cert.KernelIdeal.main_arg4))
  have i5 := is4_arr4 96 192 4 4 (m ((c.tc : Thread Cert.KernelIdeal.nD Cert.KernelIdeal.τ).loc Cert.KernelIdeal.main_arg5))
  have i6 := is4_arr4 3 96 4 4 (m ((c.tc : Thread Cert.KernelIdeal.nD Cert.KernelIdeal.τ).loc Cert.KernelIdeal.main_arg6))
  have i7 := is2_arr2 1024 64 (m ((c.tc : Thread Cert.KernelIdeal.nD Cert.KernelIdeal.τ).loc Cert.KernelIdeal.main_arg7))
  have r0 := reals_arr4 f0
  have r1 := reals_arr4 f1
  have r2 := reals_arr4 f2
  have r3 := reals_arr4 f3
  have r7 := isReal_arr2 f7
  obtain ⟨k0, k1, k2⟩ := Cert.KernelIdeal.Run.results m g c i0 i1 i2 i3 i4 i5 i6 i7
  obtain ⟨e0, e1, e2⟩ := Cert.ReferenceIdeal.Run.results m' c (by rw [a0]; exact i0) (by rw [a1]; exact i1) (by rw [a2]; exact i2) (by rw [a3]; exact i3) (by rw [a4]; exact i4) (by rw [a5]; exact i5) (by rw [a6]; exact i6) (by rw [a7]; exact i7) r0 r1 r2 r3 r7
  exact ⟨e0.unique k0, e1.unique k1, e2.trans k2.symm⟩

end Values

/-- From real arguments, the same in both, the two programs end with the same results. -/
theorem agree (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hr : RealArgs m) (ha : SameArgs m m') : SameResults m g m' g' := by
  refine ⟨fun c => Cert.KernelIdeal.Run.W29 m g c (Proc.devRef .tc Cert.KernelIdeal.main_v271),
    fun c => Cert.KernelIdeal.Run.W29 m g c (Proc.devRef .tc Cert.KernelIdeal.main_v272),
    fun c => Cert.KernelIdeal.Run.W29 m g c (Proc.devRef .tc Cert.KernelIdeal.main_v65), ?_, ?_⟩
  · exact (θ_run Cert.KernelIdeal.defs _ _).mono (fun r h c =>
      ⟨h.1 c _ (Cert.KernelIdeal.Run.mem_uc Cert.KernelIdeal.main_v271 (by decide)), h.1 c _ (Cert.KernelIdeal.Run.mem_uc Cert.KernelIdeal.main_v272 (by decide)),
        h.1 c _ (Cert.KernelIdeal.Run.mem_uc Cert.KernelIdeal.main_v65 (by decide)),
        (h.1 c _ (Cert.KernelIdeal.Run.mem_uc Cert.KernelIdeal.main_arg0 (by decide))).trans (Cert.KernelIdeal.Run.W29_main_arg0 m g c),
        (h.1 c _ (Cert.KernelIdeal.Run.mem_uc Cert.KernelIdeal.main_arg1 (by decide))).trans (Cert.KernelIdeal.Run.W29_main_arg1 m g c),
        (h.1 c _ (Cert.KernelIdeal.Run.mem_uc Cert.KernelIdeal.main_arg2 (by decide))).trans (Cert.KernelIdeal.Run.W29_main_arg2 m g c),
        (h.1 c _ (Cert.KernelIdeal.Run.mem_uc Cert.KernelIdeal.main_arg3 (by decide))).trans (Cert.KernelIdeal.Run.W29_main_arg3 m g c),
        (h.1 c _ (Cert.KernelIdeal.Run.mem_uc Cert.KernelIdeal.main_arg4 (by decide))).trans (Cert.KernelIdeal.Run.W29_main_arg4 m g c),
        (h.1 c _ (Cert.KernelIdeal.Run.mem_uc Cert.KernelIdeal.main_arg5 (by decide))).trans (Cert.KernelIdeal.Run.W29_main_arg5 m g c),
        (h.1 c _ (Cert.KernelIdeal.Run.mem_uc Cert.KernelIdeal.main_arg6 (by decide))).trans (Cert.KernelIdeal.Run.W29_main_arg6 m g c),
        (h.1 c _ (Cert.KernelIdeal.Run.mem_uc Cert.KernelIdeal.main_arg7 (by decide))).trans (Cert.KernelIdeal.Run.W29_main_arg7 m g c)⟩)
      (Cert.KernelIdeal.Run.run m g)
  · exact (θ_run Cert.ReferenceIdeal.defs _ _).mono (fun r h c =>
      have e := results_eq m g m' hr ha c
      ⟨(h.1 c _).trans e.1, (h.1 c _).trans e.2.1, (h.1 c _).trans e.2.2,
        (h.1 c _).trans (Cert.ReferenceIdeal.Run.Z7_arg m' c Cert.ReferenceIdeal.main_arg0 (by decide)),
        (h.1 c _).trans (Cert.ReferenceIdeal.Run.Z7_arg m' c Cert.ReferenceIdeal.main_arg1 (by decide)),
        (h.1 c _).trans (Cert.ReferenceIdeal.Run.Z7_arg m' c Cert.ReferenceIdeal.main_arg2 (by decide)),
        (h.1 c _).trans (Cert.ReferenceIdeal.Run.Z7_arg m' c Cert.ReferenceIdeal.main_arg3 (by decide)),
        (h.1 c _).trans (Cert.ReferenceIdeal.Run.Z7_arg m' c Cert.ReferenceIdeal.main_arg4 (by decide)),
        (h.1 c _).trans (Cert.ReferenceIdeal.Run.Z7_arg m' c Cert.ReferenceIdeal.main_arg5 (by decide)),
        (h.1 c _).trans (Cert.ReferenceIdeal.Run.Z7_arg m' c Cert.ReferenceIdeal.main_arg6 (by decide)),
        (h.1 c _).trans (Cert.ReferenceIdeal.Run.Z7_arg m' c Cert.ReferenceIdeal.main_arg7 (by decide))⟩)
      (Cert.ReferenceIdeal.Run.run m' g')

end Cert.Proof

end
-- ==== Proof.Reals.lean ====
/- Arguments that pass the precondition hold reals. -/
module

public import proofs.«01_k».proof.Proof.Finite

@[expose] public section

noncomputable section

namespace Cert.Spec

open Idealize.ShloMosaic

/-- The arguments that the choice of codes reads hold reals, if the precondition holds of all of them. -/
theorem fn_real [Cert.Pre_finite.Facts] (a0 : FVec Ideal Cert.Pre_finite.S8x3x224x224 .f32) (a1 : FVec Ideal Cert.Pre_finite.S96x3x4x4 .f32)
   (a2 : FVec Ideal Cert.Pre_finite.S192x96x4x4 .f32) (a3 : FVec Ideal Cert.Pre_finite.S64x192x4x4 .f32) (a4 : FVec Ideal Cert.Pre_finite.S192x64x4x4 .f32)
   (a5 : FVec Ideal Cert.Pre_finite.S96x192x4x4 .f32) (a6 : FVec Ideal Cert.Pre_finite.S3x96x4x4 .f32) (a7 : FVec Ideal Cert.Pre_finite.S1024x64 .f32)
   (h : (Cert.Pre_finite.fn (F := Ideal) a0 a1 a2 a3 a4 a5 a6 a7).1 = (fun _ => 1#1)
     ∧ (Cert.Pre_finite.fn (F := Ideal) a0 a1 a2 a3 a4 a5 a6 a7).2.1 = (fun _ => 1#1)
     ∧ (Cert.Pre_finite.fn (F := Ideal) a0 a1 a2 a3 a4 a5 a6 a7).2.2.1 = (fun _ => 1#1)
     ∧ (Cert.Pre_finite.fn (F := Ideal) a0 a1 a2 a3 a4 a5 a6 a7).2.2.2.1 = (fun _ => 1#1)
     ∧ (Cert.Pre_finite.fn (F := Ideal) a0 a1 a2 a3 a4 a5 a6 a7).2.2.2.2.1 = (fun _ => 1#1)
     ∧ (Cert.Pre_finite.fn (F := Ideal) a0 a1 a2 a3 a4 a5 a6 a7).2.2.2.2.2.1 = (fun _ => 1#1)
     ∧ (Cert.Pre_finite.fn (F := Ideal) a0 a1 a2 a3 a4 a5 a6 a7).2.2.2.2.2.2.1 = (fun _ => 1#1)
     ∧ (Cert.Pre_finite.fn (F := Ideal) a0 a1 a2 a3 a4 a5 a6 a7).2.2.2.2.2.2.2 = (fun _ => 1#1)) :
   (∀ i, IsReal (a0 i)) ∧ (∀ i, IsReal (a1 i)) ∧ (∀ i, IsReal (a2 i)) ∧ (∀ i, IsReal (a3 i)) ∧ (∀ i, IsReal (a7 i)) :=
 ⟨isReal_of_test _ _ h.1, isReal_of_test _ _ h.2.1, isReal_of_test _ _ h.2.2.1, isReal_of_test _ _ h.2.2.2.1, isReal_of_test _ _ h.2.2.2.2.2.2.2⟩

end Cert.Spec

end
-- ==== Proof.lean ====
/- The certificate: the frames of the three programs, that the idealized kernel is the printed one, and that the kernel
   and the reference leave the same results at exact values. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Same
public import proofs.«01_k».proof.Proof.Algebraic
public import proofs.«01_k».proof.Proof.Reals

@[expose] public section

noncomputable section

namespace Cert.Proof

open Idealize.ShloMosaic Idealize.SL.Sem Cert.Kernel

/-- Finite arguments hold reals. -/
theorem real_args [Cert.Pre_finite.Facts] (m : (ℓ : Loc Cert.KernelIdeal.nD Cert.KernelIdeal.τ Cert.KernelIdeal.sig) → Buf (Elt Ideal) ℓ)
    (hf : Cert.Pre_KernelIdeal_finite m) : RealArgs m := fun c =>
  Cert.Spec.fn_real _ _ _ _ _ _ _ _ (hf c)

/-- From finite arguments, the same in both, the two programs end with the same results. -/
theorem agree_finite [Cert.Pre_finite.Facts] : ∀ (m : (ℓ : Loc Cert.KernelIdeal.nD Cert.KernelIdeal.τ Cert.KernelIdeal.sig) → Buf (Elt Ideal) ℓ)
    (g : Dev Cert.KernelIdeal.nD → PrngReg) (m' : (ℓ : Loc Cert.ReferenceIdeal.nD Cert.ReferenceIdeal.τ Cert.ReferenceIdeal.sig) → Buf (Elt Ideal) ℓ)
    (g' : Dev Cert.ReferenceIdeal.nD → PrngReg), Cert.Pre_KernelIdeal_finite m → SameArgs m m' → SameResults m g m' g' :=
  fun m g m' g' hf ha => agree m g m' g' (real_args m hf) ha

/-- Everything claimed. -/
theorem claim : Cert.Claim := ⟨Cert.Kernel.Gen.facts, Cert.KernelIdeal.Gen.facts, Cert.ReferenceIdeal.Gen.facts, Cert.Spec.finite_facts,
  fun m g _ => Cert.Same.frame m g,
  fun m g _ => Cert.KernelIdeal.Run.frame m g,
  fun m g _ => Cert.KernelIdeal.Run.frame m g,
  fun m g _ => frame_ref m g,
  fun m g _ => frame_ref m g,
  trivial,
  @agree_finite Cert.Spec.finite_facts⟩

end Cert.Proof

end
